-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v34)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite5 : Cert.Pre_finite5.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite5.lean ====
abbrev S32768x2048 : Shape := ⟨2, ![32768, 2048]⟩
abbrev S64x1024x512 : Shape := ⟨3, ![64, 1024, 512]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .bf16) (main_arg1 : FVec F S32768x2048 .bf16) (main_arg2 : FVec F S64x1024x512 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x2048 .f32 := (extf .f32 · bitsLt_bf16_f32) main_arg1
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_c_1 : IVec S_ 1 := constantI S_ 1 1#1
  let main_v9 : IVec S_ 1 := (fun x v => Host.reduce IntOp.andi x v reducesTo_S32768x2048_S_d0_1 h_S_) main_v8 main_c_1
  let main_v10 : IVec S_ 1 := andi main_v4 main_v9
  main_v10
-- ==== Kernel.lean ====
abbrev S32768x1024 : Shape := ⟨2, ![32768, 1024]⟩
abbrev S32768x512 : Shape := ⟨2, ![32768, 512]⟩
abbrev S8x32768 : Shape := ⟨2, ![8, 32768]⟩
abbrev S64x1024x512 : Shape := ⟨3, ![64, 1024, 512]⟩
abbrev S32768x128 : Shape := ⟨2, ![32768, 128]⟩
abbrev S512x1024 : Shape := ⟨2, ![512, 1024]⟩
abbrev S512x512 : Shape := ⟨2, ![512, 512]⟩
abbrev S8x512 : Shape := ⟨2, ![8, 512]⟩
abbrev S2048x1024 : Shape := ⟨2, ![2048, 1024]⟩
abbrev S4x1024x512 : Shape := ⟨3, ![4, 1024, 512]⟩
abbrev S2048x128 : Shape := ⟨2, ![2048, 128]⟩
abbrev S4x512x512 : Shape := ⟨3, ![4, 512, 512]⟩
abbrev S1x512 : Shape := ⟨2, ![1, 512]⟩
abbrev S512x128 : Shape := ⟨2, ![512, 128]⟩
abbrev S1x512x512 : Shape := ⟨3, ![1, 512, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S128x512 : Shape := ⟨2, ![128, 512]⟩
abbrev S1x128x512 : Shape := ⟨3, ![1, 128, 512]⟩

abbrev nBuf : Space → Nat
  | .hbm => 8
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S8x32768, .f32⟩
  | .hbm, ⟨3, _⟩ => ⟨S32768x1024, .bf16⟩
  | .hbm, ⟨4, _⟩ => ⟨S64x1024x512, .bf16⟩
  | .hbm, ⟨5, _⟩ => ⟨S32768x128, .bf16⟩
  | .hbm, ⟨6, _⟩ => ⟨S32768x128, .bf16⟩
  | .hbm, ⟨7, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S8x512, .f32⟩
  | .local _ .vmem, ⟨5, _⟩ => ⟨S8x512, .f32⟩
  | .local _ .vmem, ⟨6, _⟩ => ⟨S2048x1024, .bf16⟩
  | .local _ .vmem, ⟨7, _⟩ => ⟨S2048x1024, .bf16⟩
  | .local _ .vmem, ⟨8, _⟩ => ⟨S4x1024x512, .bf16⟩
  | .local _ .vmem, ⟨9, _⟩ => ⟨S4x1024x512, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S512x1024, .bf16⟩
  | .local _ .vmem, ⟨15, _⟩ => ⟨S512x1024, .bf16⟩
  | .local _ .vmem, ⟨16, _⟩ => ⟨S4x512x512, .i32⟩
  | .local _ .vmem, ⟨17, _⟩ => ⟨S4x512x512, .f32⟩
  | .local _ .vmem, ⟨18, _⟩ => ⟨S4x512x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![16, 4], ![false, false]⟩

@[reducible] def k0_t1_loop (i : grid0.Coords) : Scf.Loop 32 :=
  let c0_i32_15 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v50 : BitVec 32 := Scalar.subi v20 c0_i32_15
  let c1_i32_17 : BitVec 32 := 1#32
  let v52 : BitVec 32 := Scalar.divsi v50 c1_i32_17
  let v53 : BitVec 32 := Scalar.muli v52 c1_i32_17
  let v54 : BitVec 32 := Scalar.addi c0_i32_15 v53
  let c1_i32_18 : BitVec 32 := 1#32
  ⟨c0_i32_15, v54, c1_i32_18⟩
def k0_mult1 (i : grid0.Coords) (k0_t1 : Fin (k0_t1_loop i).trips) : BitVec 32 :=
  let c0_i32_15 : BitVec 32 := 0#32
  let c1_i32_18 : BitVec 32 := 1#32
  let arg13 : BitVec 32 := Scf.iv c0_i32_15 c1_i32_18 k0_t1
  let c512_i32_96 : BitVec 32 := 512#32
  let v184 : BitVec 32 := Scalar.muli arg13 c512_i32_96
  v184
def k0_off1 (i : grid0.Coords) (k0_t1 : Fin (k0_t1_loop i).trips) : Fin 2 → Nat :=
  let c0_i32_15 : BitVec 32 := 0#32
  let c1_i32_18 : BitVec 32 := 1#32
  let arg13 : BitVec 32 := Scf.iv c0_i32_15 c1_i32_18 k0_t1
  let c512_i32_96 : BitVec 32 := 512#32
  let v184 : BitVec 32 := Scalar.muli arg13 c512_i32_96
  let v185 : BitVec 32 := v184
  let v186 : Index := Scalar.indexCast v185
  let c0_97 : Index := 0#32
  ![v186.toNat, 0]
def k0_off2 (i : grid0.Coords) (k0_t1 : Fin (k0_t1_loop i).trips) : Fin 3 → Nat :=
  let c0_i32_15 : BitVec 32 := 0#32
  let c1_i32_18 : BitVec 32 := 1#32
  let arg13 : BitVec 32 := Scf.iv c0_i32_15 c1_i32_18 k0_t1
  let v289 : Index := Scalar.indexCast arg13
  let c0_134 : Index := 0#32
  let c0_135 : Index := 0#32
  ![v289.toNat, 0, 0]
@[reducible] def k0_t2_loop (i : grid0.Coords) : Scf.Loop 32 :=
  let c0_i32_15 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v50 : BitVec 32 := Scalar.subi v20 c0_i32_15
  let c1_i32_17 : BitVec 32 := 1#32
  let v52 : BitVec 32 := Scalar.divsi v50 c1_i32_17
  let v53 : BitVec 32 := Scalar.muli v52 c1_i32_17
  let v54 : BitVec 32 := Scalar.addi c0_i32_15 v53
  let v51 : BitVec 32 := Scalar.addi c0_i32_15 v50
  let c1_i32_19 : BitVec 32 := 1#32
  ⟨v54, v51, c1_i32_19⟩
def k0_mult2 (i : grid0.Coords) (k0_t2 : Fin (k0_t2_loop i).trips) : BitVec 32 :=
  let c0_i32_15 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v50 : BitVec 32 := Scalar.subi v20 c0_i32_15
  let c1_i32_17 : BitVec 32 := 1#32
  let v52 : BitVec 32 := Scalar.divsi v50 c1_i32_17
  let v53 : BitVec 32 := Scalar.muli v52 c1_i32_17
  let v54 : BitVec 32 := Scalar.addi c0_i32_15 v53
  let c1_i32_19 : BitVec 32 := 1#32
  let arg13 : BitVec 32 := Scf.iv v54 c1_i32_19 k0_t2
  let c512_i32_96 : BitVec 32 := 512#32
  let v184 : BitVec 32 := Scalar.muli arg13 c512_i32_96
  v184
def k0_off3 (i : grid0.Coords) (k0_t2 : Fin (k0_t2_loop i).trips) : Fin 2 → Nat :=
  let c0_i32_15 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v50 : BitVec 32 := Scalar.subi v20 c0_i32_15
  let c1_i32_17 : BitVec 32 := 1#32
  let v52 : BitVec 32 := Scalar.divsi v50 c1_i32_17
  let v53 : BitVec 32 := Scalar.muli v52 c1_i32_17
  let v54 : BitVec 32 := Scalar.addi c0_i32_15 v53
  let c1_i32_19 : BitVec 32 := 1#32
  let arg13 : BitVec 32 := Scf.iv v54 c1_i32_19 k0_t2
  let c512_i32_96 : BitVec 32 := 512#32
  let v184 : BitVec 32 := Scalar.muli arg13 c512_i32_96
  let v185 : BitVec 32 := v184
  let v186 : Index := Scalar.indexCast v185
  let c0_97 : Index := 0#32
  ![v186.toNat, 0]
def k0_off4 (i : grid0.Coords) (k0_t2 : Fin (k0_t2_loop i).trips) : Fin 3 → Nat :=
  let c0_i32_15 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v50 : BitVec 32 := Scalar.subi v20 c0_i32_15
  let c1_i32_17 : BitVec 32 := 1#32
  let v52 : BitVec 32 := Scalar.divsi v50 c1_i32_17
  let v53 : BitVec 32 := Scalar.muli v52 c1_i32_17
  let v54 : BitVec 32 := Scalar.addi c0_i32_15 v53
  let c1_i32_19 : BitVec 32 := 1#32
  let arg13 : BitVec 32 := Scf.iv v54 c1_i32_19 k0_t2
  let v289 : Index := Scalar.indexCast arg13
  let c0_134 : Index := 0#32
  let c0_135 : Index := 0#32
  ![v289.toNat, 0, 0]
@[reducible] def k0_t3_loop (i : grid0.Coords) : Scf.Loop 32 :=
  let c0_i32_21 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v58 : BitVec 32 := Scalar.subi v20 c0_i32_21
  let c1_i32_22 : BitVec 32 := 1#32
  let v60 : BitVec 32 := Scalar.divsi v58 c1_i32_22
  let v61 : BitVec 32 := Scalar.muli v60 c1_i32_22
  let v62 : BitVec 32 := Scalar.addi c0_i32_21 v61
  let c1_i32_23 : BitVec 32 := 1#32
  ⟨c0_i32_21, v62, c1_i32_23⟩
def k0_off5 (i : grid0.Coords) (k0_t3 : Fin (k0_t3_loop i).trips) : Fin 3 → Nat :=
  let c0_i32_21 : BitVec 32 := 0#32
  let c1_i32_23 : BitVec 32 := 1#32
  let arg13 : BitVec 32 := Scf.iv c0_i32_21 c1_i32_23 k0_t3
  let v184 : Index := Scalar.indexCast arg13
  let c0_96 : Index := 0#32
  let c0_97 : Index := 0#32
  ![v184.toNat, 0, 0]
@[reducible] def k0_t4_loop (i : grid0.Coords) : Scf.Loop 32 :=
  let c0_i32_21 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v58 : BitVec 32 := Scalar.subi v20 c0_i32_21
  let c1_i32_22 : BitVec 32 := 1#32
  let v60 : BitVec 32 := Scalar.divsi v58 c1_i32_22
  let v61 : BitVec 32 := Scalar.muli v60 c1_i32_22
  let v62 : BitVec 32 := Scalar.addi c0_i32_21 v61
  let v59 : BitVec 32 := Scalar.addi c0_i32_21 v58
  let c1_i32_24 : BitVec 32 := 1#32
  ⟨v62, v59, c1_i32_24⟩
def k0_off6 (i : grid0.Coords) (k0_t4 : Fin (k0_t4_loop i).trips) : Fin 3 → Nat :=
  let c0_i32_21 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v58 : BitVec 32 := Scalar.subi v20 c0_i32_21
  let c1_i32_22 : BitVec 32 := 1#32
  let v60 : BitVec 32 := Scalar.divsi v58 c1_i32_22
  let v61 : BitVec 32 := Scalar.muli v60 c1_i32_22
  let v62 : BitVec 32 := Scalar.addi c0_i32_21 v61
  let c1_i32_24 : BitVec 32 := 1#32
  let arg13 : BitVec 32 := Scf.iv v62 c1_i32_24 k0_t4
  let v184 : Index := Scalar.indexCast arg13
  let c0_96 : Index := 0#32
  let c0_97 : Index := 0#32
  ![v184.toNat, 0, 0]
@[reducible] def k0_t5_loop : Scf.Loop 32 :=
  let c0_i32_28 : BitVec 32 := 0#32
  let c31_i32 : BitVec 32 := 31#32
  let v75 : BitVec 32 := Scalar.addi c0_i32_28 c31_i32
  let c1_i32_29 : BitVec 32 := 1#32
  ⟨c0_i32_28, v75, c1_i32_29⟩
@[reducible] def k0_t6_loop (i : grid0.Coords) : Scf.Loop 32 :=
  let c0_i32_98 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v189 : BitVec 32 := Scalar.subi v20 c0_i32_98
  let c1_i32_99 : BitVec 32 := 1#32
  let v191 : BitVec 32 := Scalar.divsi v189 c1_i32_99
  let v192 : BitVec 32 := Scalar.muli v191 c1_i32_99
  let v193 : BitVec 32 := Scalar.addi c0_i32_98 v192
  let c1_i32_100 : BitVec 32 := 1#32
  ⟨c0_i32_98, v193, c1_i32_100⟩
def k0_off7 (i : grid0.Coords) (k0_t6 : Fin (k0_t6_loop i).trips) : Fin 3 → Nat :=
  let c0_i32_98 : BitVec 32 := 0#32
  let c1_i32_100 : BitVec 32 := 1#32
  let arg16 : BitVec 32 := Scf.iv c0_i32_98 c1_i32_100 k0_t6
  let v202 : Index := Scalar.indexCast arg16
  let c0_104 : Index := 0#32
  let c0_105 : Index := 0#32
  ![v202.toNat, 0, 0]
@[reducible] def k0_t7_loop (i : grid0.Coords) : Scf.Loop 32 :=
  let c0_i32_98 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v189 : BitVec 32 := Scalar.subi v20 c0_i32_98
  let c1_i32_99 : BitVec 32 := 1#32
  let v191 : BitVec 32 := Scalar.divsi v189 c1_i32_99
  let v192 : BitVec 32 := Scalar.muli v191 c1_i32_99
  let v193 : BitVec 32 := Scalar.addi c0_i32_98 v192
  let v190 : BitVec 32 := Scalar.addi c0_i32_98 v189
  let c1_i32_101 : BitVec 32 := 1#32
  ⟨v193, v190, c1_i32_101⟩
def k0_off8 (i : grid0.Coords) (k0_t7 : Fin (k0_t7_loop i).trips) : Fin 3 → Nat :=
  let c0_i32_98 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v189 : BitVec 32 := Scalar.subi v20 c0_i32_98
  let c1_i32_99 : BitVec 32 := 1#32
  let v191 : BitVec 32 := Scalar.divsi v189 c1_i32_99
  let v192 : BitVec 32 := Scalar.muli v191 c1_i32_99
  let v193 : BitVec 32 := Scalar.addi c0_i32_98 v192
  let c1_i32_101 : BitVec 32 := 1#32
  let arg16 : BitVec 32 := Scf.iv v193 c1_i32_101 k0_t7
  let v202 : Index := Scalar.indexCast arg16
  let c0_104 : Index := 0#32
  let c0_105 : Index := 0#32
  ![v202.toNat, 0, 0]
@[reducible] def k0_t8_loop (i : grid0.Coords) : Scf.Loop 32 :=
  let c0_i32_97 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v185 : BitVec 32 := Scalar.subi v20 c0_i32_97
  let c1_i32_98 : BitVec 32 := 1#32
  let v187 : BitVec 32 := Scalar.divsi v185 c1_i32_98
  let v188 : BitVec 32 := Scalar.muli v187 c1_i32_98
  let v189 : BitVec 32 := Scalar.addi c0_i32_97 v188
  let c1_i32_99 : BitVec 32 := 1#32
  ⟨c0_i32_97, v189, c1_i32_99⟩
def k0_off9 (i : grid0.Coords) (k0_t8 : Fin (k0_t8_loop i).trips) : Fin 3 → Nat :=
  let c0_i32_97 : BitVec 32 := 0#32
  let c1_i32_99 : BitVec 32 := 1#32
  let arg13 : BitVec 32 := Scf.iv c0_i32_97 c1_i32_99 k0_t8
  let v197 : Index := Scalar.indexCast arg13
  let c0_106 : Index := 0#32
  let c0_107 : Index := 0#32
  ![v197.toNat, 0, 0]
@[reducible] def k0_t9_loop (i : grid0.Coords) : Scf.Loop 32 :=
  let c0_i32_97 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v185 : BitVec 32 := Scalar.subi v20 c0_i32_97
  let c1_i32_98 : BitVec 32 := 1#32
  let v187 : BitVec 32 := Scalar.divsi v185 c1_i32_98
  let v188 : BitVec 32 := Scalar.muli v187 c1_i32_98
  let v189 : BitVec 32 := Scalar.addi c0_i32_97 v188
  let v186 : BitVec 32 := Scalar.addi c0_i32_97 v185
  let c1_i32_100 : BitVec 32 := 1#32
  ⟨v189, v186, c1_i32_100⟩
def k0_off10 (i : grid0.Coords) (k0_t9 : Fin (k0_t9_loop i).trips) : Fin 3 → Nat :=
  let c0_i32_97 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v185 : BitVec 32 := Scalar.subi v20 c0_i32_97
  let c1_i32_98 : BitVec 32 := 1#32
  let v187 : BitVec 32 := Scalar.divsi v185 c1_i32_98
  let v188 : BitVec 32 := Scalar.muli v187 c1_i32_98
  let v189 : BitVec 32 := Scalar.addi c0_i32_97 v188
  let c1_i32_100 : BitVec 32 := 1#32
  let arg13 : BitVec 32 := Scf.iv v189 c1_i32_100 k0_t9
  let v197 : Index := Scalar.indexCast arg13
  let c0_106 : Index := 0#32
  let c0_107 : Index := 0#32
  ![v197.toNat, 0, 0]
@[reducible] def k0_t10_loop : Scf.Loop 32 :=
  let c0_i32_103 : BitVec 32 := 0#32
  let c11_i32 : BitVec 32 := 11#32
  let v195 : BitVec 32 := Scalar.addi c0_i32_103 c11_i32
  let c1_i32_104 : BitVec 32 := 1#32
  ⟨c0_i32_103, v195, c1_i32_104⟩
@[reducible] def k0_t11_loop (i : grid0.Coords) : Scf.Loop 32 :=
  let c0_i32_108 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v200 : BitVec 32 := Scalar.subi v20 c0_i32_108
  let c1_i32_109 : BitVec 32 := 1#32
  let v202 : BitVec 32 := Scalar.divsi v200 c1_i32_109
  let v203 : BitVec 32 := Scalar.muli v202 c1_i32_109
  let v204 : BitVec 32 := Scalar.addi c0_i32_108 v203
  let c1_i32_110 : BitVec 32 := 1#32
  ⟨c0_i32_108, v204, c1_i32_110⟩
def k0_off11 (i : grid0.Coords) (k0_t11 : Fin (k0_t11_loop i).trips) : Fin 3 → Nat :=
  let c0_i32_108 : BitVec 32 := 0#32
  let c1_i32_110 : BitVec 32 := 1#32
  let arg15 : BitVec 32 := Scf.iv c0_i32_108 c1_i32_110 k0_t11
  let v211 : Index := Scalar.indexCast arg15
  let c0_112 : Index := 0#32
  let c0_113 : Index := 0#32
  ![v211.toNat, 0, 0]
@[reducible] def k0_t12_loop (i : grid0.Coords) : Scf.Loop 32 :=
  let c0_i32_108 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v200 : BitVec 32 := Scalar.subi v20 c0_i32_108
  let c1_i32_109 : BitVec 32 := 1#32
  let v202 : BitVec 32 := Scalar.divsi v200 c1_i32_109
  let v203 : BitVec 32 := Scalar.muli v202 c1_i32_109
  let v204 : BitVec 32 := Scalar.addi c0_i32_108 v203
  let v201 : BitVec 32 := Scalar.addi c0_i32_108 v200
  let c1_i32_111 : BitVec 32 := 1#32
  ⟨v204, v201, c1_i32_111⟩
def k0_off12 (i : grid0.Coords) (k0_t12 : Fin (k0_t12_loop i).trips) : Fin 3 → Nat :=
  let c0_i32_108 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v200 : BitVec 32 := Scalar.subi v20 c0_i32_108
  let c1_i32_109 : BitVec 32 := 1#32
  let v202 : BitVec 32 := Scalar.divsi v200 c1_i32_109
  let v203 : BitVec 32 := Scalar.muli v202 c1_i32_109
  let v204 : BitVec 32 := Scalar.addi c0_i32_108 v203
  let c1_i32_111 : BitVec 32 := 1#32
  let arg15 : BitVec 32 := Scf.iv v204 c1_i32_111 k0_t12
  let v211 : Index := Scalar.indexCast arg15
  let c0_112 : Index := 0#32
  let c0_113 : Index := 0#32
  ![v211.toNat, 0, 0]
@[reducible] def k0_t13_loop (i : grid0.Coords) : Scf.Loop 32 :=
  let c0_i32_34 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v91 : BitVec 32 := Scalar.subi v20 c0_i32_34
  let c1_i32_36 : BitVec 32 := 1#32
  let v93 : BitVec 32 := Scalar.divsi v91 c1_i32_36
  let v94 : BitVec 32 := Scalar.muli v93 c1_i32_36
  let v95 : BitVec 32 := Scalar.addi c0_i32_34 v94
  let c1_i32_37 : BitVec 32 := 1#32
  ⟨c0_i32_34, v95, c1_i32_37⟩
def k0_off13 (i : grid0.Coords) (k0_t13 : Fin (k0_t13_loop i).trips) : Fin 3 → Nat :=
  let c0_i32_34 : BitVec 32 := 0#32
  let c1_i32_37 : BitVec 32 := 1#32
  let arg13 : BitVec 32 := Scf.iv c0_i32_34 c1_i32_37 k0_t13
  let v184 : Index := Scalar.indexCast arg13
  let c0_96 : Index := 0#32
  let c0_97 : Index := 0#32
  ![v184.toNat, 0, 0]
@[reducible] def k0_t14_loop (i : grid0.Coords) : Scf.Loop 32 :=
  let c0_i32_34 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v91 : BitVec 32 := Scalar.subi v20 c0_i32_34
  let c1_i32_36 : BitVec 32 := 1#32
  let v93 : BitVec 32 := Scalar.divsi v91 c1_i32_36
  let v94 : BitVec 32 := Scalar.muli v93 c1_i32_36
  let v95 : BitVec 32 := Scalar.addi c0_i32_34 v94
  let v92 : BitVec 32 := Scalar.addi c0_i32_34 v91
  let c1_i32_38 : BitVec 32 := 1#32
  ⟨v95, v92, c1_i32_38⟩
def k0_off14 (i : grid0.Coords) (k0_t14 : Fin (k0_t14_loop i).trips) : Fin 3 → Nat :=
  let c0_i32_34 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v91 : BitVec 32 := Scalar.subi v20 c0_i32_34
  let c1_i32_36 : BitVec 32 := 1#32
  let v93 : BitVec 32 := Scalar.divsi v91 c1_i32_36
  let v94 : BitVec 32 := Scalar.muli v93 c1_i32_36
  let v95 : BitVec 32 := Scalar.addi c0_i32_34 v94
  let c1_i32_38 : BitVec 32 := 1#32
  let arg13 : BitVec 32 := Scf.iv v95 c1_i32_38 k0_t14
  let v184 : Index := Scalar.indexCast arg13
  let c0_96 : Index := 0#32
  let c0_97 : Index := 0#32
  ![v184.toNat, 0, 0]
@[reducible] def k0_t15_loop (i : grid0.Coords) : Scf.Loop 32 :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_58 : BitVec 32 := 1#32
  ⟨c0_i32_56, v118, c1_i32_58⟩
def k0_mult3 (i : grid0.Coords) (k0_t15 : Fin (k0_t15_loop i).trips) : BitVec 32 :=
  let c0_i32_56 : BitVec 32 := 0#32
  let c1_i32_58 : BitVec 32 := 1#32
  let arg13 : BitVec 32 := Scf.iv c0_i32_56 c1_i32_58 k0_t15
  let c512_i32_96 : BitVec 32 := 512#32
  let v184 : BitVec 32 := Scalar.muli arg13 c512_i32_96
  v184
def k0_off15 (i : grid0.Coords) (k0_t15 : Fin (k0_t15_loop i).trips) : Fin 2 → Nat :=
  let c0_i32_56 : BitVec 32 := 0#32
  let c1_i32_58 : BitVec 32 := 1#32
  let arg13 : BitVec 32 := Scf.iv c0_i32_56 c1_i32_58 k0_t15
  let c512_i32_96 : BitVec 32 := 512#32
  let v184 : BitVec 32 := Scalar.muli arg13 c512_i32_96
  let v185 : BitVec 32 := v184
  let v186 : Index := Scalar.indexCast v185
  let c0_97 : Index := 0#32
  ![v186.toNat, 0]
def k0_off16 (i : grid0.Coords) (k0_t15 : Fin (k0_t15_loop i).trips) : Fin 2 → Nat :=
  let c0_i32_56 : BitVec 32 := 0#32
  let c1_i32_58 : BitVec 32 := 1#32
  let arg13 : BitVec 32 := Scf.iv c0_i32_56 c1_i32_58 k0_t15
  let c512_i32_96 : BitVec 32 := 512#32
  let v184 : BitVec 32 := Scalar.muli arg13 c512_i32_96
  let v185 : BitVec 32 := v184
  let v188 : Index := Scalar.indexCast v185
  let c128_98 : Index := 128#32
  ![v188.toNat, 128]
def k0_off17 (i : grid0.Coords) (k0_t15 : Fin (k0_t15_loop i).trips) : Fin 2 → Nat :=
  let c0_i32_56 : BitVec 32 := 0#32
  let c1_i32_58 : BitVec 32 := 1#32
  let arg13 : BitVec 32 := Scf.iv c0_i32_56 c1_i32_58 k0_t15
  let c512_i32_96 : BitVec 32 := 512#32
  let v184 : BitVec 32 := Scalar.muli arg13 c512_i32_96
  let v185 : BitVec 32 := v184
  let v190 : Index := Scalar.indexCast v185
  let c256_99 : Index := 256#32
  ![v190.toNat, 256]
def k0_off18 (i : grid0.Coords) (k0_t15 : Fin (k0_t15_loop i).trips) : Fin 2 → Nat :=
  let c0_i32_56 : BitVec 32 := 0#32
  let c1_i32_58 : BitVec 32 := 1#32
  let arg13 : BitVec 32 := Scf.iv c0_i32_56 c1_i32_58 k0_t15
  let c512_i32_96 : BitVec 32 := 512#32
  let v184 : BitVec 32 := Scalar.muli arg13 c512_i32_96
  let v185 : BitVec 32 := v184
  let v192 : Index := Scalar.indexCast v185
  let c384_100 : Index := 384#32
  ![v192.toNat, 384]
def k0_off19 (i : grid0.Coords) (k0_t15 : Fin (k0_t15_loop i).trips) : Fin 3 → Nat :=
  let c0_i32_56 : BitVec 32 := 0#32
  let c1_i32_58 : BitVec 32 := 1#32
  let arg13 : BitVec 32 := Scf.iv c0_i32_56 c1_i32_58 k0_t15
  let v194 : Index := Scalar.indexCast arg13
  let c0_101 : Index := 0#32
  let c0_102 : Index := 0#32
  ![v194.toNat, 0, 0]
def k0_off20 (i : grid0.Coords) (k0_t15 : Fin (k0_t15_loop i).trips) : Fin 3 → Nat :=
  let c0_i32_56 : BitVec 32 := 0#32
  let c1_i32_58 : BitVec 32 := 1#32
  let arg13 : BitVec 32 := Scf.iv c0_i32_56 c1_i32_58 k0_t15
  let v197 : Index := Scalar.indexCast arg13
  let c128_103 : Index := 128#32
  let c0_104 : Index := 0#32
  ![v197.toNat, 128, 0]
def k0_off21 (i : grid0.Coords) (k0_t15 : Fin (k0_t15_loop i).trips) : Fin 3 → Nat :=
  let c0_i32_56 : BitVec 32 := 0#32
  let c1_i32_58 : BitVec 32 := 1#32
  let arg13 : BitVec 32 := Scf.iv c0_i32_56 c1_i32_58 k0_t15
  let v200 : Index := Scalar.indexCast arg13
  let c256_105 : Index := 256#32
  let c0_106 : Index := 0#32
  ![v200.toNat, 256, 0]
def k0_off22 (i : grid0.Coords) (k0_t15 : Fin (k0_t15_loop i).trips) : Fin 3 → Nat :=
  let c0_i32_56 : BitVec 32 := 0#32
  let c1_i32_58 : BitVec 32 := 1#32
  let arg13 : BitVec 32 := Scf.iv c0_i32_56 c1_i32_58 k0_t15
  let v203 : Index := Scalar.indexCast arg13
  let c384_107 : Index := 384#32
  let c0_108 : Index := 0#32
  ![v203.toNat, 384, 0]
def k0_off23 (i : grid0.Coords) (k0_t15 : Fin (k0_t15_loop i).trips) : Fin 3 → Nat :=
  let c0_i32_56 : BitVec 32 := 0#32
  let c1_i32_58 : BitVec 32 := 1#32
  let arg13 : BitVec 32 := Scf.iv c0_i32_56 c1_i32_58 k0_t15
  let v206 : Index := Scalar.indexCast arg13
  let c0_109 : Index := 0#32
  let c0_110 : Index := 0#32
  ![v206.toNat, 0, 0]
@[reducible] def k0_t16_loop (i : grid0.Coords) : Scf.Loop 32 :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let v115 : BitVec 32 := Scalar.addi c0_i32_56 v114
  let c1_i32_59 : BitVec 32 := 1#32
  ⟨v118, v115, c1_i32_59⟩
def k0_mult4 (i : grid0.Coords) (k0_t16 : Fin (k0_t16_loop i).trips) : BitVec 32 :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let c512_i32_96 : BitVec 32 := 512#32
  let v184 : BitVec 32 := Scalar.muli arg13 c512_i32_96
  v184
def k0_off24 (i : grid0.Coords) (k0_t16 : Fin (k0_t16_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let c512_i32_96 : BitVec 32 := 512#32
  let v184 : BitVec 32 := Scalar.muli arg13 c512_i32_96
  let v185 : BitVec 32 := v184
  let v186 : Index := Scalar.indexCast v185
  let c0_97 : Index := 0#32
  ![v186.toNat, 0]
def k0_off25 (i : grid0.Coords) (k0_t16 : Fin (k0_t16_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let c512_i32_96 : BitVec 32 := 512#32
  let v184 : BitVec 32 := Scalar.muli arg13 c512_i32_96
  let v185 : BitVec 32 := v184
  let v188 : Index := Scalar.indexCast v185
  let c128_98 : Index := 128#32
  ![v188.toNat, 128]
def k0_off26 (i : grid0.Coords) (k0_t16 : Fin (k0_t16_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let c512_i32_96 : BitVec 32 := 512#32
  let v184 : BitVec 32 := Scalar.muli arg13 c512_i32_96
  let v185 : BitVec 32 := v184
  let v190 : Index := Scalar.indexCast v185
  let c256_99 : Index := 256#32
  ![v190.toNat, 256]
def k0_off27 (i : grid0.Coords) (k0_t16 : Fin (k0_t16_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let c512_i32_96 : BitVec 32 := 512#32
  let v184 : BitVec 32 := Scalar.muli arg13 c512_i32_96
  let v185 : BitVec 32 := v184
  let v192 : Index := Scalar.indexCast v185
  let c384_100 : Index := 384#32
  ![v192.toNat, 384]
def k0_off28 (i : grid0.Coords) (k0_t16 : Fin (k0_t16_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let v194 : Index := Scalar.indexCast arg13
  let c0_101 : Index := 0#32
  let c0_102 : Index := 0#32
  ![v194.toNat, 0, 0]
def k0_off29 (i : grid0.Coords) (k0_t16 : Fin (k0_t16_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let v197 : Index := Scalar.indexCast arg13
  let c128_103 : Index := 128#32
  let c0_104 : Index := 0#32
  ![v197.toNat, 128, 0]
def k0_off30 (i : grid0.Coords) (k0_t16 : Fin (k0_t16_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let v200 : Index := Scalar.indexCast arg13
  let c256_105 : Index := 256#32
  let c0_106 : Index := 0#32
  ![v200.toNat, 256, 0]
def k0_off31 (i : grid0.Coords) (k0_t16 : Fin (k0_t16_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let v203 : Index := Scalar.indexCast arg13
  let c384_107 : Index := 384#32
  let c0_108 : Index := 0#32
  ![v203.toNat, 384, 0]
def k0_off32 (i : grid0.Coords) (k0_t16 : Fin (k0_t16_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v114 : BitVec 32 := Scalar.subi v20 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg13 : BitVec 32 := Scf.iv v118 c1_i32_59 k0_t16
  let v206 : Index := Scalar.indexCast arg13
  let c0_109 : Index := 0#32
  let c0_110 : Index := 0#32
  ![v206.toNat, 0, 0]
@[reducible] def k0_t17_loop (i : grid0.Coords) : Scf.Loop 32 :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_86 : BitVec 32 := 1#32
  ⟨c0_i32_84, v161, c1_i32_86⟩
def k0_mult5 (i : grid0.Coords) (k0_t17 : Fin (k0_t17_loop i).trips) : BitVec 32 :=
  let c0_i32_84 : BitVec 32 := 0#32
  let c1_i32_86 : BitVec 32 := 1#32
  let arg13 : BitVec 32 := Scf.iv c0_i32_84 c1_i32_86 k0_t17
  let c512_i32_96 : BitVec 32 := 512#32
  let v184 : BitVec 32 := Scalar.muli arg13 c512_i32_96
  v184
def k0_off33 (i : grid0.Coords) (k0_t17 : Fin (k0_t17_loop i).trips) : Fin 2 → Nat :=
  let c0_i32_84 : BitVec 32 := 0#32
  let c1_i32_86 : BitVec 32 := 1#32
  let arg13 : BitVec 32 := Scf.iv c0_i32_84 c1_i32_86 k0_t17
  let c512_i32_96 : BitVec 32 := 512#32
  let v184 : BitVec 32 := Scalar.muli arg13 c512_i32_96
  let v185 : BitVec 32 := v184
  let v186 : Index := Scalar.indexCast v185
  let c512_97 : Index := 512#32
  ![v186.toNat, 512]
def k0_off34 (i : grid0.Coords) (k0_t17 : Fin (k0_t17_loop i).trips) : Fin 2 → Nat :=
  let c0_i32_84 : BitVec 32 := 0#32
  let c1_i32_86 : BitVec 32 := 1#32
  let arg13 : BitVec 32 := Scf.iv c0_i32_84 c1_i32_86 k0_t17
  let c512_i32_96 : BitVec 32 := 512#32
  let v184 : BitVec 32 := Scalar.muli arg13 c512_i32_96
  let v185 : BitVec 32 := v184
  let v188 : Index := Scalar.indexCast v185
  let c640_98 : Index := 640#32
  ![v188.toNat, 640]
def k0_off35 (i : grid0.Coords) (k0_t17 : Fin (k0_t17_loop i).trips) : Fin 2 → Nat :=
  let c0_i32_84 : BitVec 32 := 0#32
  let c1_i32_86 : BitVec 32 := 1#32
  let arg13 : BitVec 32 := Scf.iv c0_i32_84 c1_i32_86 k0_t17
  let c512_i32_96 : BitVec 32 := 512#32
  let v184 : BitVec 32 := Scalar.muli arg13 c512_i32_96
  let v185 : BitVec 32 := v184
  let v190 : Index := Scalar.indexCast v185
  let c768_99 : Index := 768#32
  ![v190.toNat, 768]
def k0_off36 (i : grid0.Coords) (k0_t17 : Fin (k0_t17_loop i).trips) : Fin 2 → Nat :=
  let c0_i32_84 : BitVec 32 := 0#32
  let c1_i32_86 : BitVec 32 := 1#32
  let arg13 : BitVec 32 := Scf.iv c0_i32_84 c1_i32_86 k0_t17
  let c512_i32_96 : BitVec 32 := 512#32
  let v184 : BitVec 32 := Scalar.muli arg13 c512_i32_96
  let v185 : BitVec 32 := v184
  let v192 : Index := Scalar.indexCast v185
  let c896_100 : Index := 896#32
  ![v192.toNat, 896]
def k0_off37 (i : grid0.Coords) (k0_t17 : Fin (k0_t17_loop i).trips) : Fin 3 → Nat :=
  let c0_i32_84 : BitVec 32 := 0#32
  let c1_i32_86 : BitVec 32 := 1#32
  let arg13 : BitVec 32 := Scf.iv c0_i32_84 c1_i32_86 k0_t17
  let v194 : Index := Scalar.indexCast arg13
  let c512_101 : Index := 512#32
  let c0_102 : Index := 0#32
  ![v194.toNat, 512, 0]
def k0_off38 (i : grid0.Coords) (k0_t17 : Fin (k0_t17_loop i).trips) : Fin 3 → Nat :=
  let c0_i32_84 : BitVec 32 := 0#32
  let c1_i32_86 : BitVec 32 := 1#32
  let arg13 : BitVec 32 := Scf.iv c0_i32_84 c1_i32_86 k0_t17
  let v197 : Index := Scalar.indexCast arg13
  let c640_103 : Index := 640#32
  let c0_104 : Index := 0#32
  ![v197.toNat, 640, 0]
def k0_off39 (i : grid0.Coords) (k0_t17 : Fin (k0_t17_loop i).trips) : Fin 3 → Nat :=
  let c0_i32_84 : BitVec 32 := 0#32
  let c1_i32_86 : BitVec 32 := 1#32
  let arg13 : BitVec 32 := Scf.iv c0_i32_84 c1_i32_86 k0_t17
  let v200 : Index := Scalar.indexCast arg13
  let c768_105 : Index := 768#32
  let c0_106 : Index := 0#32
  ![v200.toNat, 768, 0]
def k0_off40 (i : grid0.Coords) (k0_t17 : Fin (k0_t17_loop i).trips) : Fin 3 → Nat :=
  let c0_i32_84 : BitVec 32 := 0#32
  let c1_i32_86 : BitVec 32 := 1#32
  let arg13 : BitVec 32 := Scf.iv c0_i32_84 c1_i32_86 k0_t17
  let v203 : Index := Scalar.indexCast arg13
  let c896_107 : Index := 896#32
  let c0_108 : Index := 0#32
  ![v203.toNat, 896, 0]
def k0_off41 (i : grid0.Coords) (k0_t17 : Fin (k0_t17_loop i).trips) : Fin 3 → Nat :=
  let c0_i32_84 : BitVec 32 := 0#32
  let c1_i32_86 : BitVec 32 := 1#32
  let arg13 : BitVec 32 := Scf.iv c0_i32_84 c1_i32_86 k0_t17
  let v206 : Index := Scalar.indexCast arg13
  let c0_109 : Index := 0#32
  let c0_110 : Index := 0#32
  ![v206.toNat, 0, 0]
@[reducible] def k0_t18_loop (i : grid0.Coords) : Scf.Loop 32 :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let v158 : BitVec 32 := Scalar.addi c0_i32_84 v157
  let c1_i32_87 : BitVec 32 := 1#32
  ⟨v161, v158, c1_i32_87⟩
def k0_mult6 (i : grid0.Coords) (k0_t18 : Fin (k0_t18_loop i).trips) : BitVec 32 :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let c512_i32_96 : BitVec 32 := 512#32
  let v184 : BitVec 32 := Scalar.muli arg13 c512_i32_96
  v184
def k0_off42 (i : grid0.Coords) (k0_t18 : Fin (k0_t18_loop i).trips) : Fin 2 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let c512_i32_96 : BitVec 32 := 512#32
  let v184 : BitVec 32 := Scalar.muli arg13 c512_i32_96
  let v185 : BitVec 32 := v184
  let v186 : Index := Scalar.indexCast v185
  let c512_97 : Index := 512#32
  ![v186.toNat, 512]
def k0_off43 (i : grid0.Coords) (k0_t18 : Fin (k0_t18_loop i).trips) : Fin 2 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let c512_i32_96 : BitVec 32 := 512#32
  let v184 : BitVec 32 := Scalar.muli arg13 c512_i32_96
  let v185 : BitVec 32 := v184
  let v188 : Index := Scalar.indexCast v185
  let c640_98 : Index := 640#32
  ![v188.toNat, 640]
def k0_off44 (i : grid0.Coords) (k0_t18 : Fin (k0_t18_loop i).trips) : Fin 2 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let c512_i32_96 : BitVec 32 := 512#32
  let v184 : BitVec 32 := Scalar.muli arg13 c512_i32_96
  let v185 : BitVec 32 := v184
  let v190 : Index := Scalar.indexCast v185
  let c768_99 : Index := 768#32
  ![v190.toNat, 768]
def k0_off45 (i : grid0.Coords) (k0_t18 : Fin (k0_t18_loop i).trips) : Fin 2 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let c512_i32_96 : BitVec 32 := 512#32
  let v184 : BitVec 32 := Scalar.muli arg13 c512_i32_96
  let v185 : BitVec 32 := v184
  let v192 : Index := Scalar.indexCast v185
  let c896_100 : Index := 896#32
  ![v192.toNat, 896]
def k0_off46 (i : grid0.Coords) (k0_t18 : Fin (k0_t18_loop i).trips) : Fin 3 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let v194 : Index := Scalar.indexCast arg13
  let c512_101 : Index := 512#32
  let c0_102 : Index := 0#32
  ![v194.toNat, 512, 0]
def k0_off47 (i : grid0.Coords) (k0_t18 : Fin (k0_t18_loop i).trips) : Fin 3 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let v197 : Index := Scalar.indexCast arg13
  let c640_103 : Index := 640#32
  let c0_104 : Index := 0#32
  ![v197.toNat, 640, 0]
def k0_off48 (i : grid0.Coords) (k0_t18 : Fin (k0_t18_loop i).trips) : Fin 3 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let v200 : Index := Scalar.indexCast arg13
  let c768_105 : Index := 768#32
  let c0_106 : Index := 0#32
  ![v200.toNat, 768, 0]
def k0_off49 (i : grid0.Coords) (k0_t18 : Fin (k0_t18_loop i).trips) : Fin 3 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let v203 : Index := Scalar.indexCast arg13
  let c896_107 : Index := 896#32
  let c0_108 : Index := 0#32
  ![v203.toNat, 896, 0]
def k0_off50 (i : grid0.Coords) (k0_t18 : Fin (k0_t18_loop i).trips) : Fin 3 → Nat :=
  let c0_i32_84 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v157 : BitVec 32 := Scalar.subi v20 c0_i32_84
  let c1_i32_85 : BitVec 32 := 1#32
  let v159 : BitVec 32 := Scalar.divsi v157 c1_i32_85
  let v160 : BitVec 32 := Scalar.muli v159 c1_i32_85
  let v161 : BitVec 32 := Scalar.addi c0_i32_84 v160
  let c1_i32_87 : BitVec 32 := 1#32
  let arg13 : BitVec 32 := Scf.iv v161 c1_i32_87 k0_t18
  let v206 : Index := Scalar.indexCast arg13
  let c0_109 : Index := 0#32
  let c0_110 : Index := 0#32
  ![v206.toNat, 0, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S32768x1024 : Shape := ⟨2, ![32768, 1024]⟩
abbrev S32768x6528 : Shape := ⟨2, ![32768, 6528]⟩
abbrev S1024x1024 : Shape := ⟨2, ![1024, 1024]⟩
abbrev S1x2048 : Shape := ⟨2, ![1, 2048]⟩
abbrev S1x1024 : Shape := ⟨2, ![1, 1024]⟩
abbrev S32x1024 : Shape := ⟨2, ![32, 1024]⟩
abbrev S32x1 : Shape := ⟨2, ![32, 1]⟩
abbrev S32768x8x128 : Shape := ⟨3, ![32768, 8, 128]⟩
abbrev S32x32768 : Shape := ⟨2, ![32, 32768]⟩
abbrev S512x1024 : Shape := ⟨2, ![512, 1024]⟩
abbrev S512x2048 : Shape := ⟨2, ![512, 2048]⟩
abbrev S512x8x128 : Shape := ⟨3, ![512, 8, 128]⟩
abbrev S32x512 : Shape := ⟨2, ![32, 512]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x6528, .bf16⟩
  | .hbm, ⟨3, _⟩ => ⟨S32768x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x2048, .f32⟩
  | .hbm, ⟨8, _⟩ => ⟨S1x1024, .f32⟩
  | .hbm, ⟨9, _⟩ => ⟨S32x1024, .bf16⟩
  | .hbm, ⟨10, _⟩ => ⟨S32x1, .f32⟩
  | .hbm, ⟨11, _⟩ => ⟨S32768x1024, .f32⟩
  | .hbm, ⟨12, _⟩ => ⟨S32768x8x128, .bf16⟩
  | .hbm, ⟨13, _⟩ => ⟨S32x32768, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x2048, .f32⟩
  | .local _ .vmem, ⟨12, _⟩ => ⟨S1x1024, .f32⟩
  | .local _ .vmem, ⟨13, _⟩ => ⟨S32x1024, .bf16⟩
  | .local _ .vmem, ⟨14, _⟩ => ⟨S32x1, .f32⟩
  | .local _ .vmem, ⟨15, _⟩ => ⟨S512x1024, .f32⟩
  | .local _ .vmem, ⟨16, _⟩ => ⟨S512x1024, .f32⟩
  | .local _ .vmem, ⟨17, _⟩ => ⟨S512x8x128, .bf16⟩
  | .local _ .vmem, ⟨18, _⟩ => ⟨S512x8x128, .bf16⟩
  | .local _ .vmem, ⟨19, _⟩ => ⟨S32x512, .f32⟩
  | .local _ .vmem, ⟨20, _⟩ => ⟨S32x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x8x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S32768x6528 : Shape := ⟨2, ![32768, 6528]⟩
abbrev S1024x1024 : Shape := ⟨2, ![1024, 1024]⟩
abbrev S1x2048 : Shape := ⟨2, ![1, 2048]⟩
abbrev S1x1024 : Shape := ⟨2, ![1, 1024]⟩
abbrev S32x1024 : Shape := ⟨2, ![32, 1024]⟩
abbrev S32x1 : Shape := ⟨2, ![32, 1]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1024x32768 : Shape := ⟨2, ![1024, 32768]⟩
abbrev S32x32768 : Shape := ⟨2, ![32, 32768]⟩
abbrev S32768x8x128 : Shape := ⟨3, ![32768, 8, 128]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x6528, .bf16⟩
  | .hbm, ⟨3, _⟩ => ⟨S32768x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x2048, .f32⟩
  | .hbm, ⟨8, _⟩ => ⟨S1x1024, .f32⟩
  | .hbm, ⟨9, _⟩ => ⟨S32x1024, .bf16⟩
  | .hbm, ⟨10, _⟩ => ⟨S32x1, .f32⟩
  | .hbm, ⟨11, _⟩ => ⟨S32768x1024, .f32⟩
  | .hbm, ⟨12, _⟩ => ⟨S32768x1024, .f32⟩
  | .hbm, ⟨13, _⟩ => ⟨S32768x2048, .bf16⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .bf16⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .bf16⟩
  | .hbm, ⟨49, _⟩ => ⟨S1024x32768, .bf16⟩
  | .hbm, ⟨50, _⟩ => ⟨S32x32768, .f32⟩
  | .hbm, ⟨51, _⟩ => ⟨S32x32768, .f32⟩
  | .hbm, ⟨52, _⟩ => ⟨S32x32768, .f32⟩
  | .hbm, ⟨53, _⟩ => ⟨S32768x8x128, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x6408 : Shape := ⟨3, ![1, 1024, 6408]⟩
abbrev S32768x1024 : Shape := ⟨2, ![32768, 1024]⟩
abbrev S1024x6408 : Shape := ⟨2, ![1024, 6408]⟩
abbrev S1024x384 : Shape := ⟨2, ![1024, 384]⟩
abbrev S1024x256 : Shape := ⟨2, ![1024, 256]⟩
abbrev S1024x64 : Shape := ⟨2, ![1024, 64]⟩
abbrev S1024x3072 : Shape := ⟨2, ![1024, 3072]⟩
abbrev S1024x512 : Shape := ⟨2, ![1024, 512]⟩
abbrev S1024x8 : Shape := ⟨2, ![1024, 8]⟩
abbrev S1024x2048 : Shape := ⟨2, ![1024, 2048]⟩
abbrev S_ : Shape := ⟨0, ![]⟩
abbrev S1024x56 : Shape := ⟨2, ![1024, 56]⟩
abbrev S1024x6528 : Shape := ⟨2, ![1024, 6528]⟩
abbrev S32768x6528 : Shape := ⟨2, ![32768, 6528]⟩
abbrev S1024x1024 : Shape := ⟨2, ![1024, 1024]⟩
abbrev S1024x2176 : Shape := ⟨2, ![1024, 2176]⟩
abbrev S1024 : Shape := ⟨1, ![1024]⟩
abbrev S1024x1 : Shape := ⟨2, ![1024, 1]⟩

abbrev nBuf : Space → Nat
  | .hbm => 20
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6408, .f32⟩
  | .hbm, ⟨3, _⟩ => ⟨S32768x1024, .f32⟩
  | .hbm, ⟨4, _⟩ => ⟨S1024x6408, .f32⟩
  | .hbm, ⟨5, _⟩ => ⟨S1024x6408, .bf16⟩
  | .hbm, ⟨6, _⟩ => ⟨S1024x384, .bf16⟩
  | .hbm, ⟨7, _⟩ => ⟨S1024x256, .bf16⟩
  | .hbm, ⟨8, _⟩ => ⟨S1024x64, .bf16⟩
  | .hbm, ⟨9, _⟩ => ⟨S1024x3072, .bf16⟩
  | .hbm, ⟨10, _⟩ => ⟨S1024x512, .bf16⟩
  | .hbm, ⟨11, _⟩ => ⟨S1024x64, .bf16⟩
  | .hbm, ⟨12, _⟩ => ⟨S1024x8, .bf16⟩
  | .hbm, ⟨13, _⟩ => ⟨S1024x2048, .bf16⟩
  | .hbm, ⟨14, _⟩ => ⟨S_, .bf16⟩
  | .hbm, ⟨15, _⟩ => ⟨S1024x56, .bf16⟩
  | .hbm, ⟨16, _⟩ => ⟨S_, .bf16⟩
  | .hbm, ⟨17, _⟩ => ⟨S1024x64, .bf16⟩
  | .hbm, ⟨18, _⟩ => ⟨S1024x6528, .bf16⟩
  | .hbm, ⟨19, _⟩ => ⟨S32768x6528, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .bf16⟩
  | .local _ .vmem, ⟨7, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x2048x1024 : Shape := ⟨3, ![16, 2048, 1024]⟩
abbrev S1x1024 : Shape := ⟨2, ![1, 1024]⟩
abbrev S1x1024x6408 : Shape := ⟨3, ![1, 1024, 6408]⟩
abbrev S_ : Shape := ⟨0, ![]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩
abbrev S32768x1024 : Shape := ⟨2, ![32768, 1024]⟩
abbrev S1024x6408 : Shape := ⟨2, ![1024, 6408]⟩
abbrev S32768x6408 : Shape := ⟨2, ![32768, 6408]⟩
abbrev S32768x384 : Shape := ⟨2, ![32768, 384]⟩
abbrev S32768x256 : Shape := ⟨2, ![32768, 256]⟩
abbrev S32768x64 : Shape := ⟨2, ![32768, 64]⟩
abbrev S32768x3072 : Shape := ⟨2, ![32768, 3072]⟩
abbrev S32768x512 : Shape := ⟨2, ![32768, 512]⟩
abbrev S32768x8 : Shape := ⟨2, ![32768, 8]⟩
abbrev S32768x2048 : Shape := ⟨2, ![32768, 2048]⟩
abbrev S32768x56 : Shape := ⟨2, ![32768, 56]⟩
abbrev S32768x6528 : Shape := ⟨2, ![32768, 6528]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6408, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S32768x1024, .f32⟩
  | .hbm, ⟨21, _⟩ => ⟨S1024x6408, .f32⟩
  | .hbm, ⟨22, _⟩ => ⟨S32768x6408, .f32⟩
  | .hbm, ⟨23, _⟩ => ⟨S32768x6408, .bf16⟩
  | .hbm, ⟨24, _⟩ => ⟨S32768x384, .bf16⟩
  | .hbm, ⟨25, _⟩ => ⟨S32768x256, .bf16⟩
  | .hbm, ⟨26, _⟩ => ⟨S32768x64, .bf16⟩
  | .hbm, ⟨27, _⟩ => ⟨S32768x3072, .bf16⟩
  | .hbm, ⟨28, _⟩ => ⟨S32768x512, .bf16⟩
  | .hbm, ⟨29, _⟩ => ⟨S32768x64, .bf16⟩
  | .hbm, ⟨30, _⟩ => ⟨S32768x8, .bf16⟩
  | .hbm, ⟨31, _⟩ => ⟨S32768x2048, .bf16⟩
  | .hbm, ⟨32, _⟩ => ⟨S_, .bf16⟩
  | .hbm, ⟨33, _⟩ => ⟨S32768x56, .bf16⟩
  | .hbm, ⟨34, _⟩ => ⟨S_, .bf16⟩
  | .hbm, ⟨35, _⟩ => ⟨S32768x64, .bf16⟩
  | .hbm, ⟨36, _⟩ => ⟨S32768x6528, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel4.lean ====
abbrev S32 : Shape := ⟨1, ![32]⟩
abbrev S147456x8x128 : Shape := ⟨3, ![147456, 8, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S287 : Shape := ⟨1, ![287]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S512x8x128 : Shape := ⟨3, ![512, 8, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 81
  | .vmem => 14
  | .smem => 3
  | _ => 0

abbrev bufTy : (tb : Table) → Fin (tcTables nBuf tb) → BufTy
  | .hbm, ⟨0, _⟩ => ⟨S32, .i32⟩
  | .hbm, ⟨1, _⟩ => ⟨S147456x8x128, .bf16⟩
  | .hbm, ⟨2, _⟩ => ⟨S1x32x1024x2048, .f32⟩
  | .hbm, ⟨3, _⟩ => ⟨S1x32x2048, .f32⟩
  | .hbm, ⟨4, _⟩ => ⟨S1x32x1024x1024, .f32⟩
  | .hbm, ⟨5, _⟩ => ⟨S1x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S_, .i32⟩
  | .hbm, ⟨51, _⟩ => ⟨S1, .i32⟩
  | .hbm, ⟨52, _⟩ => ⟨S287, .i32⟩
  | .hbm, ⟨53, _⟩ => ⟨S287, .i32⟩
  | .hbm, ⟨54, _⟩ => ⟨S287, .i1⟩
  | .hbm, ⟨55, _⟩ => ⟨S287, .i32⟩
  | .hbm, ⟨56, _⟩ => ⟨S1, .i32⟩
  | .hbm, ⟨57, _⟩ => ⟨S_, .i32⟩
  | .hbm, ⟨58, _⟩ => ⟨S_, .i32⟩
  | .hbm, ⟨59, _⟩ => ⟨S1, .i32⟩
  | .hbm, ⟨60, _⟩ => ⟨S1, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S1, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S1, .i1⟩
  | .hbm, ⟨70, _⟩ => ⟨S1, .i1⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S32x1024x2048, .f32⟩
  | .hbm, ⟨75, _⟩ => ⟨S32x2048, .f32⟩
  | .hbm, ⟨76, _⟩ => ⟨S32x1x2048, .f32⟩
  | .hbm, ⟨77, _⟩ => ⟨S32x1024x1024, .f32⟩
  | .hbm, ⟨78, _⟩ => ⟨S32x1024, .f32⟩
  | .hbm, ⟨79, _⟩ => ⟨S32x1x1024, .f32⟩
  | .hbm, ⟨80, _⟩ => ⟨S147456x8x128, .bf16⟩
  | .local _ .vmem, ⟨0, _⟩ => ⟨S512x8x128, .bf16⟩
  | .local _ .vmem, ⟨1, _⟩ => ⟨S512x8x128, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x8x128, .bf16⟩
  | .local _ .vmem, ⟨11, _⟩ => ⟨S512x8x128, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v26 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v19 : Ref sig .tc := ⟨.smem, 0, rfl⟩
abbrev main_v25 : Ref sig .tc := ⟨.smem, 1, rfl⟩
abbrev main_v27 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_v19.idx, main_v25.idx, main_v27.idx], fun | 0 => main_v19.names | 1 => main_v25.names | 2 => main_v27.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_1 : BitVec 32 := 0#32
  let v8 : BitVec 1 := Scalar.cmpi .ne v7 c0_i32_1
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_3 : BitVec 32 := 0#32
  let v12 : BitVec 1 := Scalar.cmpi .ne v11 c0_i32_3
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32 : Shape := ⟨1, ![32]⟩
abbrev S147456x8x128 : Shape := ⟨3, ![147456, 8, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S288x512x1024 : Shape := ⟨3, ![288, 512, 1024]⟩
abbrev S32x1024x2048 : Shape := ⟨3, ![32, 1024, 2048]⟩
abbrev S288x1024x2048 : Shape := ⟨3, ![288, 1024, 2048]⟩
abbrev S288x512x2048 : Shape := ⟨3, ![288, 512, 2048]⟩
abbrev S32x2048 : Shape := ⟨2, ![32, 2048]⟩
abbrev S288x2048 : Shape := ⟨2, ![288, 2048]⟩
abbrev S288x1x2048 : Shape := ⟨3, ![288, 1, 2048]⟩
abbrev S32x1024x1024 : Shape := ⟨3, ![32, 1024, 1024]⟩
abbrev S288x1024x1024 : Shape := ⟨3, ![288, 1024, 1024]⟩
abbrev S32x1024 : Shape := ⟨2, ![32, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 160
  | .vmem => 0
  | .smem => 0
  | _ => 0

abbrev hbmTy0_0 (i : Nat) : BufTy := match i % 128 with
  | 0 => ⟨S32, .i32⟩
  | 1 => ⟨S147456x8x128, .bf16⟩
  | 2 => ⟨S1x32x1024x2048, .f32⟩
  | 3 => ⟨S1x32x2048, .f32⟩
  | 4 => ⟨S1x32x1024x1024, .f32⟩
  | 5 => ⟨S1x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S288, .i32⟩
  | 37 => ⟨S_, .i32⟩
  | 38 => ⟨S288, .i32⟩
  | 39 => ⟨S288, .i32⟩
  | 40 => ⟨S1x32, .i32⟩
  | 41 => ⟨S288x1, .i32⟩
  | 42 => ⟨S288x32, .i32⟩
  | 43 => ⟨S288x32, .i32⟩
  | 44 => ⟨S288x32, .i1⟩
  | 45 => ⟨S288x32, .i32⟩
  | 46 => ⟨S_, .i32⟩
  | 47 => ⟨S288, .i32⟩
  | 48 => ⟨S_, .i32⟩
  | 49 => ⟨S288, .i32⟩
  | 50 => ⟨S288, .i32⟩
  | 51 => ⟨S288, .i32⟩
  | 52 => ⟨S1, .i32⟩
  | 53 => ⟨S_, .i32⟩
  | 54 => ⟨S_, .i32⟩
  | 55 => ⟨S1, .i32⟩
  | 56 => ⟨S1, .i32⟩
  | 57 => ⟨S1, .i32⟩
  | 58 => ⟨S_, .i32⟩
  | 59 => ⟨S1, .i32⟩
  | 60 => ⟨S1, .i1⟩
  | 61 => ⟨S1, .i32⟩
  | 62 => ⟨S1, .i32⟩
  | 63 => ⟨S_, .i32⟩
  | 64 => ⟨S1, .i32⟩
  | 65 => ⟨S1, .i1⟩
  | 66 => ⟨S1, .i1⟩
  | 67 => ⟨S_, .i32⟩
  | 68 => ⟨S1, .i32⟩
  | 69 => ⟨S1, .i32⟩
  | 70 => ⟨S1, .i32⟩
  | 71 => ⟨S288, .i32⟩
  | 72 => ⟨S288, .i1⟩
  | 73 => ⟨S288x512x1024, .bf16⟩
  | 74 => ⟨S288x512x1024, .f32⟩
  | 75 => ⟨S32x1024x2048, .f32⟩
  | 76 => ⟨S_, .i32⟩
  | 77 => ⟨S288, .i32⟩
  | 78 => ⟨S288, .i1⟩
  | 79 => ⟨S_, .i32⟩
  | 80 => ⟨S288, .i32⟩
  | 81 => ⟨S288, .i32⟩
  | 82 => ⟨S288, .i32⟩
  | 83 => ⟨S288x1, .i32⟩
  | 84 => ⟨S288x1024x2048, .f32⟩
  | 85 => ⟨S288x512x2048, .f32⟩
  | 86 => ⟨S32x2048, .f32⟩
  | 87 => ⟨S_, .i32⟩
  | 88 => ⟨S288, .i32⟩
  | 89 => ⟨S288, .i1⟩
  | 90 => ⟨S_, .i32⟩
  | 91 => ⟨S288, .i32⟩
  | 92 => ⟨S288, .i32⟩
  | 93 => ⟨S288, .i32⟩
  | 94 => ⟨S288x1, .i32⟩
  | 95 => ⟨S288x2048, .f32⟩
  | 96 => ⟨S288x1x2048, .f32⟩
  | 97 => ⟨S288x512x2048, .f32⟩
  | 98 => ⟨S288x512x2048, .f32⟩
  | 99 => ⟨S288x512x1024, .f32⟩
  | 100 => ⟨S_, .f32⟩
  | 101 => ⟨S288x512x1024, .f32⟩
  | 102 => ⟨S288x512x1024, .f32⟩
  | 103 => ⟨S288x512x1024, .f32⟩
  | 104 => ⟨S_, .f32⟩
  | 105 => ⟨S_, .f32⟩
  | 106 => ⟨S_, .f32⟩
  | 107 => ⟨S288x512x1024, .f32⟩
  | 108 => ⟨S288x512x1024, .f32⟩
  | 109 => ⟨S_, .f32⟩
  | 110 => ⟨S288x512x1024, .f32⟩
  | 111 => ⟨S288x512x1024, .f32⟩
  | 112 => ⟨S_, .f32⟩
  | 113 => ⟨S288x512x1024, .f32⟩
  | 114 => ⟨S288x512x1024, .f32⟩
  | 115 => ⟨S_, .f32⟩
  | 116 => ⟨S288x512x1024, .f32⟩
  | 117 => ⟨S288x512x1024, .f32⟩
  | 118 => ⟨S288x512x1024, .f32⟩
  | 119 => ⟨S288x512x1024, .f32⟩
  | 120 => ⟨S_, .f32⟩
  | 121 => ⟨S288x512x1024, .f32⟩
  | 122 => ⟨S288x512x1024, .f32⟩
  | 123 => ⟨S_, .f32⟩
  | 124 => ⟨S288x512x1024, .f32⟩
  | 125 => ⟨S288x512x1024, .f32⟩
  | 126 => ⟨S288x512x1024, .f32⟩
  | 127 => ⟨S288x512x1024, .f32⟩
  | _ => ⟨S32, .i32⟩

abbrev hbmTy0_1 (i : Nat) : BufTy := match i % 128 with
  | 0 => ⟨S32x1024x1024, .f32⟩
  | 1 => ⟨S_, .i32⟩
  | 2 => ⟨S288, .i32⟩
  | 3 => ⟨S288, .i1⟩
  | 4 => ⟨S_, .i32⟩
  | 5 => ⟨S288, .i32⟩
  | 6 => ⟨S288, .i32⟩
  | 7 => ⟨S288, .i32⟩
  | 8 => ⟨S288x1, .i32⟩
  | 9 => ⟨S288x1024x1024, .f32⟩
  | 10 => ⟨S288x512x1024, .f32⟩
  | 11 => ⟨S32x1024, .f32⟩
  | 12 => ⟨S_, .i32⟩
  | 13 => ⟨S288, .i32⟩
  | 14 => ⟨S288, .i1⟩
  | 15 => ⟨S_, .i32⟩
  | 16 => ⟨S288, .i32⟩
  | 17 => ⟨S288, .i32⟩
  | 18 => ⟨S288, .i32⟩
  | 19 => ⟨S288x1, .i32⟩
  | 20 => ⟨S288x1024, .f32⟩
  | 21 => ⟨S288x1x1024, .f32⟩
  | 22 => ⟨S288x512x1024, .f32⟩
  | 23 => ⟨S288x512x1024, .f32⟩
  | 24 => ⟨S288x1x1, .i1⟩
  | 25 => ⟨S_, .f32⟩
  | 26 => ⟨S_, .f32⟩
  | 27 => ⟨S288x512x1024, .i1⟩
  | 28 => ⟨S288x512x1024, .f32⟩
  | 29 => ⟨S288x512x1024, .f32⟩
  | 30 => ⟨S288x512x1024, .bf16⟩
  | 31 => ⟨S147456x8x128, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_c_7 : Ref sig .tc := ⟨.hbm, 76, rfl⟩
abbrev main_v28 : Ref sig .tc := ⟨.hbm, 77, rfl⟩
abbrev main_v29 : Ref sig .tc := ⟨.hbm, 78, rfl⟩
abbrev main_c_8 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_9 : Ref sig .tc := ⟨.hbm, 87, rfl⟩
abbrev main_v37 : Ref sig .tc := ⟨.hbm, 88, rfl⟩
abbrev main_v38 : Ref sig .tc := ⟨.hbm, 89, rfl⟩
abbrev main_c_10 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_11 : Ref sig .tc := ⟨.hbm, 104, rfl⟩
abbrev main_cst_12 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v51 : Ref sig .tc := ⟨.hbm, 111, rfl⟩
abbrev main_cst_13 : Ref sig .tc := ⟨.hbm, 112, rfl⟩
abbrev main_v52 : Ref sig .tc := ⟨.hbm, 113, rfl⟩
abbrev main_v53 : Ref sig .tc := ⟨.hbm, 114, rfl⟩
abbrev main_cst_14 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_15 : Ref sig .tc := ⟨.hbm, 120, rfl⟩
abbrev main_v58 : Ref sig .tc := ⟨.hbm, 121, rfl⟩
abbrev main_v59 : Ref sig .tc := ⟨.hbm, 122, rfl⟩
abbrev main_cst_16 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_c_17 : Ref sig .tc := ⟨.hbm, 129, rfl⟩
abbrev main_v65 : Ref sig .tc := ⟨.hbm, 130, rfl⟩
abbrev main_v66 : Ref sig .tc := ⟨.hbm, 131, rfl⟩
abbrev main_c_18 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_c_19 : Ref sig .tc := ⟨.hbm, 140, rfl⟩
abbrev main_v74 : Ref sig .tc := ⟨.hbm, 141, rfl⟩
abbrev main_v75 : Ref sig .tc := ⟨.hbm, 142, rfl⟩
abbrev main_c_20 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_21 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩

abbrev nD : Nat := 1
abbrev τ : Topo := Topo.v7x

variable {F : FTy → Type} [FloatOps F]
-- ==== Kernel5.lean ====
abbrev S32768x2048 : Shape := ⟨2, ![32768, 2048]⟩
abbrev S64x1024x512 : Shape := ⟨3, ![64, 1024, 512]⟩
abbrev S32768x1024 : Shape := ⟨2, ![32768, 1024]⟩
abbrev S512x2048 : Shape := ⟨2, ![512, 2048]⟩
abbrev S2048x2048 : Shape := ⟨2, ![2048, 2048]⟩
abbrev S4x1024x512 : Shape := ⟨3, ![4, 1024, 512]⟩
abbrev S512x1024 : Shape := ⟨2, ![512, 1024]⟩
abbrev S8x512x512 : Shape := ⟨3, ![8, 512, 512]⟩
abbrev S512x512 : Shape := ⟨2, ![512, 512]⟩
abbrev S512x256 : Shape := ⟨2, ![512, 256]⟩
abbrev S1x512 : Shape := ⟨2, ![1, 512]⟩
abbrev S128x512 : Shape := ⟨2, ![128, 512]⟩
abbrev S1x128x512 : Shape := ⟨3, ![1, 128, 512]⟩
abbrev S1x512x512 : Shape := ⟨3, ![1, 512, 512]⟩
abbrev S512 : Shape := ⟨1, ![512]⟩
abbrev S512x128 : Shape := ⟨2, ![512, 128]⟩

abbrev nBuf : Space → Nat
  | .hbm => 4
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S64x1024x512, .bf16⟩
  | .hbm, ⟨3, _⟩ => ⟨S32768x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S512x1024, .bf16⟩
  | .local _ .vmem, ⟨7, _⟩ => ⟨S512x1024, .bf16⟩
  | .local _ .vmem, ⟨8, _⟩ => ⟨S8x512x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_58 : BitVec 32 := 1#32
  ⟨c0_i32_56, v117, c1_i32_58⟩
def k0_mult1 (i : grid0.Coords) (k0_t1 : Fin (k0_t1_loop i).trips) : BitVec 32 :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  v394
def k0_off1 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v396 : Index := Scalar.indexCast v395
  let c0_171 : Index := 0#32
  ![v396.toNat, 0]
def k0_off2 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v398 : Index := Scalar.indexCast v395
  let c256_172 : Index := 256#32
  ![v398.toNat, 256]
def k0_off3 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v400 : Index := Scalar.indexCast v395
  let c512_173 : Index := 512#32
  ![v400.toNat, 512]
def k0_off4 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v402 : Index := Scalar.indexCast v395
  let c768_174 : Index := 768#32
  ![v402.toNat, 768]
def k0_off5 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v404 : Index := Scalar.indexCast v395
  let c1024_175 : Index := 1024#32
  ![v404.toNat, 1024]
def k0_off6 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v406 : Index := Scalar.indexCast v395
  let c1280_176 : Index := 1280#32
  ![v406.toNat, 1280]
def k0_off7 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v408 : Index := Scalar.indexCast v395
  let c1536_177 : Index := 1536#32
  ![v408.toNat, 1536]
def k0_off8 (i : grid0.Coords) (k0_t1 : Fin (k0_t1_loop i).trips) : Fin 2 → Nat :=
  let c0_i32_56 : BitVec 32 := 0#32
  let c1_i32_58 : BitVec 32 := 1#32
  let arg7 : BitVec 32 := Scf.iv c0_i32_56 c1_i32_58 k0_t1
  let c512_i32_170 : BitVec 32 := 512#32
  let v394 : BitVec 32 := Scalar.muli arg7 c512_i32_170
  let v395 : BitVec 32 := v394
  let v410 : Index := Scalar.indexCast v395
  let c1792_178 : Index := 1792#32
  ![v410.toNat, 1792]
def k0_off9 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v412 : Index := Scalar.indexCast arg7
  let c0_179 : Index := 0#32
  let c0_180 : Index := 0#32
  ![v412.toNat, 0, 0]
def k0_off10 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v415 : Index := Scalar.indexCast arg7
  let c128_181 : Index := 128#32
  let c0_182 : Index := 0#32
  ![v415.toNat, 128, 0]
def k0_off11 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v418 : Index := Scalar.indexCast arg7
  let c256_183 : Index := 256#32
  let c0_184 : Index := 0#32
  ![v418.toNat, 256, 0]
def k0_off12 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v421 : Index := Scalar.indexCast arg7
  let c384_185 : Index := 384#32
  let c0_186 : Index := 0#32
  ![v421.toNat, 384, 0]
def k0_off13 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v424 : Index := Scalar.indexCast arg7
  let c512_187 : Index := 512#32
  let c0_188 : Index := 0#32
  ![v424.toNat, 512, 0]
def k0_off14 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v427 : Index := Scalar.indexCast arg7
  let c640_189 : Index := 640#32
  let c0_190 : Index := 0#32
  ![v427.toNat, 640, 0]
def k0_off15 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v430 : Index := Scalar.indexCast arg7
  let c768_191 : Index := 768#32
  let c0_192 : Index := 0#32
  ![v430.toNat, 768, 0]
def k0_off16 (i : grid0.Coords) (k0_t1 : Fin (k0_t1_loop i).trips) : Fin 3 → Nat :=
  let c0_i32_56 : BitVec 32 := 0#32
  let c1_i32_58 : BitVec 32 := 1#32
  let arg7 : BitVec 32 := Scf.iv c0_i32_56 c1_i32_58 k0_t1
  let v433 : Index := Scalar.indexCast arg7
  let c896_193 : Index := 896#32
  let c0_194 : Index := 0#32
  ![v433.toNat, 896, 0]
@[reducible] def k0_t2_loop (i : grid0.Coords) : Scf.Loop 32 :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let v114 : BitVec 32 := Scalar.addi c0_i32_56 v113
  let c1_i32_59 : BitVec 32 := 1#32
  ⟨v117, v114, c1_i32_59⟩
def k0_mult2 (i : grid0.Coords) (k0_t2 : Fin (k0_t2_loop i).trips) : BitVec 32 :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  v394
def k0_off17 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v396 : Index := Scalar.indexCast v395
  let c0_171 : Index := 0#32
  ![v396.toNat, 0]
def k0_off18 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v398 : Index := Scalar.indexCast v395
  let c256_172 : Index := 256#32
  ![v398.toNat, 256]
def k0_off19 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v400 : Index := Scalar.indexCast v395
  let c512_173 : Index := 512#32
  ![v400.toNat, 512]
def k0_off20 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v402 : Index := Scalar.indexCast v395
  let c768_174 : Index := 768#32
  ![v402.toNat, 768]
def k0_off21 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v404 : Index := Scalar.indexCast v395
  let c1024_175 : Index := 1024#32
  ![v404.toNat, 1024]
def k0_off22 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v406 : Index := Scalar.indexCast v395
  let c1280_176 : Index := 1280#32
  ![v406.toNat, 1280]
def k0_off23 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v408 : Index := Scalar.indexCast v395
  let c1536_177 : Index := 1536#32
  ![v408.toNat, 1536]
def k0_off24 (i : grid0.Coords) (k0_t2 : Fin (k0_t2_loop i).trips) : Fin 2 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let c512_i32_170 : BitVec 32 := 512#32
  let v394 : BitVec 32 := Scalar.muli arg7 c512_i32_170
  let v395 : BitVec 32 := v394
  let v410 : Index := Scalar.indexCast v395
  let c1792_178 : Index := 1792#32
  ![v410.toNat, 1792]
def k0_off25 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v412 : Index := Scalar.indexCast arg7
  let c0_179 : Index := 0#32
  let c0_180 : Index := 0#32
  ![v412.toNat, 0, 0]
def k0_off26 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v415 : Index := Scalar.indexCast arg7
  let c128_181 : Index := 128#32
  let c0_182 : Index := 0#32
  ![v415.toNat, 128, 0]
def k0_off27 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v418 : Index := Scalar.indexCast arg7
  let c256_183 : Index := 256#32
  let c0_184 : Index := 0#32
  ![v418.toNat, 256, 0]
def k0_off28 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v421 : Index := Scalar.indexCast arg7
  let c384_185 : Index := 384#32
  let c0_186 : Index := 0#32
  ![v421.toNat, 384, 0]
def k0_off29 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v424 : Index := Scalar.indexCast arg7
  let c512_187 : Index := 512#32
  let c0_188 : Index := 0#32
  ![v424.toNat, 512, 0]
def k0_off30 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v427 : Index := Scalar.indexCast arg7
  let c640_189 : Index := 640#32
  let c0_190 : Index := 0#32
  ![v427.toNat, 640, 0]
def k0_off31 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v430 : Index := Scalar.indexCast arg7
  let c768_191 : Index := 768#32
  let c0_192 : Index := 0#32
  ![v430.toNat, 768, 0]
def k0_off32 (i : grid0.Coords) (k0_t2 : Fin (k0_t2_loop i).trips) : Fin 3 → Nat :=
  let c0_i32_56 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v113 : BitVec 32 := Scalar.subi v21 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg7 : BitVec 32 := Scf.iv v117 c1_i32_59 k0_t2
  let v433 : Index := Scalar.indexCast arg7
  let c896_193 : Index := 896#32
  let c0_194 : Index := 0#32
  ![v433.toNat, 896, 0]
def k0_mult3 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  v120
def k0_off33 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v122 : Index := Scalar.indexCast v121
  let c0_61 : Index := 0#32
  ![v122.toNat, 0]
def k0_off34 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v124 : Index := Scalar.indexCast v121
  let c256_62 : Index := 256#32
  ![v124.toNat, 256]
def k0_off35 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v126 : Index := Scalar.indexCast v121
  let c512_63 : Index := 512#32
  ![v126.toNat, 512]
def k0_off36 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v128 : Index := Scalar.indexCast v121
  let c768_64 : Index := 768#32
  ![v128.toNat, 768]
def k0_off37 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v130 : Index := Scalar.indexCast v121
  let c1024_65 : Index := 1024#32
  ![v130.toNat, 1024]
def k0_off38 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v132 : Index := Scalar.indexCast v121
  let c1280_66 : Index := 1280#32
  ![v132.toNat, 1280]
def k0_off39 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v134 : Index := Scalar.indexCast v121
  let c1536_67 : Index := 1536#32
  ![v134.toNat, 1536]
def k0_off40 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c512_i32_60 : BitVec 32 := 512#32
  let v120 : BitVec 32 := Scalar.muli v21 c512_i32_60
  let v121 : BitVec 32 := v120
  let v136 : Index := Scalar.indexCast v121
  let c1792_68 : Index := 1792#32
  ![v136.toNat, 1792]
def k0_off41 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v138 : Index := Scalar.indexCast v21
  let c0_69 : Index := 0#32
  let c0_70 : Index := 0#32
  ![v138.toNat, 0, 0]
def k0_off42 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v141 : Index := Scalar.indexCast v21
  let c128 : Index := 128#32
  let c0_71 : Index := 0#32
  ![v141.toNat, 128, 0]
def k0_off43 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v144 : Index := Scalar.indexCast v21
  let c256_72 : Index := 256#32
  let c0_73 : Index := 0#32
  ![v144.toNat, 256, 0]
def k0_off44 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v147 : Index := Scalar.indexCast v21
  let c384 : Index := 384#32
  let c0_74 : Index := 0#32
  ![v147.toNat, 384, 0]
def k0_off45 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v150 : Index := Scalar.indexCast v21
  let c512_75 : Index := 512#32
  let c0_76 : Index := 0#32
  ![v150.toNat, 512, 0]
def k0_off46 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v153 : Index := Scalar.indexCast v21
  let c640 : Index := 640#32
  let c0_77 : Index := 0#32
  ![v153.toNat, 640, 0]
def k0_off47 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v156 : Index := Scalar.indexCast v21
  let c768_78 : Index := 768#32
  let c0_79 : Index := 0#32
  ![v156.toNat, 768, 0]
def k0_off48 (i : grid0.Coords) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let v159 : Index := Scalar.indexCast v21
  let c896 : Index := 896#32
  let c0_80 : Index := 0#32
  ![v159.toNat, 896, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S32768x2048 : Shape := ⟨2, ![32768, 2048]⟩
abbrev S64x1024x512 : Shape := ⟨3, ![64, 1024, 512]⟩
abbrev S16x2048x8x256 : Shape := ⟨4, ![16, 2048, 8, 256]⟩
abbrev S16x4x8x128x512 : Shape := ⟨5, ![16, 4, 8, 128, 512]⟩
abbrev S16x4x512x8x128 : Shape := ⟨5, ![16, 4, 512, 8, 128]⟩
abbrev S16x2048x8x128 : Shape := ⟨4, ![16, 2048, 8, 128]⟩
abbrev S2048 : Shape := ⟨1, ![2048]⟩
abbrev S_ : Shape := ⟨0, ![]⟩
abbrev S16x8x2048x2048 : Shape := ⟨4, ![16, 8, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S64x1024x512, .bf16⟩
  | .hbm, ⟨3, _⟩ => ⟨S32768x2048, .f32⟩
  | .hbm, ⟨4, _⟩ => ⟨S16x2048x8x256, .f32⟩
  | .hbm, ⟨5, _⟩ => ⟨S32768x2048, .f32⟩
  | .hbm, ⟨6, _⟩ => ⟨S16x2048x8x256, .f32⟩
  | .hbm, ⟨7, _⟩ => ⟨S64x1024x512, .f32⟩
  | .hbm, ⟨8, _⟩ => ⟨S16x4x8x128x512, .f32⟩
  | .hbm, ⟨9, _⟩ => ⟨S16x4x512x8x128, .f32⟩
  | .hbm, ⟨10, _⟩ => ⟨S16x2048x8x128, .f32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S16x8x2048x2048, .f32⟩
  | .hbm, ⟨31, _⟩ => ⟨S1x2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S1x1x2048x2048, .i1⟩
  | .hbm, ⟨37, _⟩ => ⟨S_, .f32⟩
  | .hbm, ⟨38, _⟩ => ⟨S_, .f32⟩
  | .hbm, ⟨39, _⟩ => ⟨S16x8x2048x2048, .i1⟩
  | .hbm, ⟨40, _⟩ => ⟨S16x8x2048x2048, .f32⟩
  | .hbm, ⟨41, _⟩ => ⟨S16x8x2048x2048, .f32⟩
  | .hbm, ⟨42, _⟩ => ⟨S_, .f32⟩
  | .hbm, ⟨43, _⟩ => ⟨S16x8x2048, .f32⟩
  | .hbm, ⟨44, _⟩ => ⟨S16x8x2048x1, .f32⟩
  | .hbm, ⟨45, _⟩ => ⟨S16x8x2048x2048, .f32⟩
  | .hbm, ⟨46, _⟩ => ⟨S16x8x2048x2048, .f32⟩
  | .hbm, ⟨47, _⟩ => ⟨S_, .f32⟩
  | .hbm, ⟨48, _⟩ => ⟨S16x8x2048x2048, .f32⟩
  | .hbm, ⟨49, _⟩ => ⟨S16x8x2048x2048, .f32⟩
  | .hbm, ⟨50, _⟩ => ⟨S_, .f32⟩
  | .hbm, ⟨51, _⟩ => ⟨S16x8x2048, .f32⟩
  | .hbm, ⟨52, _⟩ => ⟨S16x8x2048x1, .f32⟩
  | .hbm, ⟨53, _⟩ => ⟨S16x8x2048x2048, .f32⟩
  | .hbm, ⟨54, _⟩ => ⟨S16x8x2048x2048, .f32⟩
  | .hbm, ⟨55, _⟩ => ⟨S16x8x128x2048, .f32⟩
  | .hbm, ⟨56, _⟩ => ⟨S16x2048x8x128, .f32⟩
  | .hbm, ⟨57, _⟩ => ⟨S32768x1024, .f32⟩
  | .hbm, ⟨58, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== Proof.InProj.Out.lean ====
module

public import proofs.«01_k».proof.Proof.Gen.Kernel3Ideal.Value
public import Idealize.ShloMosaic.Lib.Pipeline.ValueKit
public import Idealize.ShloMosaic.Lib.Pointwise

@[expose] public section

namespace Cert.Kernel3Ideal.InProj
open Idealize.ShloMosaic
open Cert.Kernel3Ideal.Gen

variable {F : FTy → Type} [FloatOps F]

theorem hz2 : (![0, 0] : Fin 2 → Nat) = fun _ => 0 := by funext a; fin_cases a <;> rfl

theorem ld_0 {e : EltTy} (inb) (X : Vec F S1024x1024 e) : View.ld X (Rect.unit (s := S1024x1024) ![0, 0] ![1024, 1024] inb) = X := View.ld_unit_zero hz2 _ _
theorem ld_1 {e : EltTy} (inb) (X : Vec F S1x1024 e) : View.ld X (Rect.unit (s := S1x1024) ![0, 0] ![1, 1024] inb) = X := View.ld_unit_zero hz2 _ _
theorem ld_2 {e : EltTy} (inb) (X : Vec F S1024x2176 e) : View.ld X (Rect.unit (s := S1024x2176) ![0, 0] ![1024, 2176] inb) = X := View.ld_unit_zero hz2 _ _

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S1024x2176 .bf16) (harg5 : arg5.IsWhole) (arg6 : Memref sig .tc .vmem S1024x1024 .bf16) (harg6 : arg6.IsWhole)
  (x0 : Vec F S1024x1024 .f32) (x1 : Vec F S1x1024 .f32) (x2 : Vec F S1024x2176 .bf16)

/-- The first point of a row block leaves the normalised rows in the scratch. -/
theorem soutA_eq (hc0 : cond0_0 i) : sout0_A_0 c i arg2 harg2 arg3 harg3 arg4 harg4 arg5 harg5 arg6 harg6 hc0 x0 x1 x2 = k0_pay1 x0 x1 := by
  frame_out

/-- The first point of a row block writes the product of the rows it normalised. -/
theorem outA_eq (hc0 : cond0_0 i) : out0_A_3 c i arg2 harg2 arg3 harg3 arg4 harg4 arg5 harg5 arg6 harg6 hc0 x0 x1 x2 = k0_pay2 (k0_pay1 x0 x1) x2 := by
  frame_out

/-- A later point of the row block writes the product of the rows the scratch holds. -/
theorem outB_eq (hc0 : ¬cond0_0 i) (xs : Vec F S1024x1024 .bf16) : out0_B_3 c i arg2 harg2 arg3 harg3 arg4 harg4 arg5 harg5 arg6 harg6 hc0 x0 x1 x2 xs = k0_pay2 xs x2 := by
  frame_out

end Cert.Kernel3Ideal.InProj
-- ==== Proof.InProj.Rows.lean ====
module

public import proofs.«01_k».proof.Defs
public import proofs.«01_k».proof.Proof.Gen.Reference3Ideal.Run
public import proofs.«01_k».proof.Proof.InProj.Out

@[expose] public section

namespace Cert.InProj
open Idealize.ShloMosaic

/-- The projection's column that stands at column `k` of the packed row, `0` at the two pads. -/
noncomputable def colOf (k : Fin 6528) (P : Fin 6408 → EReal) : EReal :=
  if h : k.val < 2048 then P ⟨4360 + k.val, by omega⟩
    else if h : k.val - 2048 < 3072 then P ⟨704 + (k.val - 2048), by omega⟩
    else if h : k.val - 2048 - 3072 < 512 then P ⟨3776 + (k.val - 2048 - 3072), by omega⟩
    else if h : k.val - 2048 - 3072 - 512 < 64 then P ⟨4288 + (k.val - 2048 - 3072 - 512), by omega⟩
    else if h : k.val - 2048 - 3072 - 512 - 64 < 8 then P ⟨4352 + (k.val - 2048 - 3072 - 512 - 64), by omega⟩
    else if h : k.val - 2048 - 3072 - 512 - 64 - 8 < 56 then 0
    else if h : k.val - 2048 - 3072 - 512 - 64 - 8 - 56 < 384 then P ⟨k.val - 2048 - 3072 - 512 - 64 - 8 - 56, by omega⟩
    else if h : k.val - 2048 - 3072 - 512 - 64 - 8 - 56 - 384 < 256 then P ⟨384 + (k.val - 2048 - 3072 - 512 - 64 - 8 - 56 - 384), by omega⟩
    else if h : k.val - 2048 - 3072 - 512 - 64 - 8 - 56 - 384 - 256 < 64 then P ⟨640 + (k.val - 2048 - 3072 - 512 - 64 - 8 - 56 - 384 - 256), by omega⟩
    else 0

/-- A packed column is one of the projection's columns, or a pad. -/
theorem colOf_cases (k : Fin 6528) : (∃ j, ∀ P, colOf k P = P j) ∨ ∀ P, colOf k P = 0 := by
  by_cases h0 : k.val < 2048
  · exact .inl ⟨_, fun P => by rw [colOf, dif_pos h0]⟩
  by_cases h1 : k.val - 2048 < 3072
  · exact .inl ⟨_, fun P => by rw [colOf, dif_neg h0, dif_pos h1]⟩
  by_cases h2 : k.val - 2048 - 3072 < 512
  · exact .inl ⟨_, fun P => by rw [colOf, dif_neg h0, dif_neg h1, dif_pos h2]⟩
  by_cases h3 : k.val - 2048 - 3072 - 512 < 64
  · exact .inl ⟨_, fun P => by rw [colOf, dif_neg h0, dif_neg h1, dif_neg h2, dif_pos h3]⟩
  by_cases h4 : k.val - 2048 - 3072 - 512 - 64 < 8
  · exact .inl ⟨_, fun P => by rw [colOf, dif_neg h0, dif_neg h1, dif_neg h2, dif_neg h3, dif_pos h4]⟩
  by_cases h5 : k.val - 2048 - 3072 - 512 - 64 - 8 < 56
  · exact .inr fun P => by rw [colOf, dif_neg h0, dif_neg h1, dif_neg h2, dif_neg h3, dif_neg h4, dif_pos h5]
  by_cases h6 : k.val - 2048 - 3072 - 512 - 64 - 8 - 56 < 384
  · exact .inl ⟨_, fun P => by rw [colOf, dif_neg h0, dif_neg h1, dif_neg h2, dif_neg h3, dif_neg h4, dif_neg h5, dif_pos h6]⟩
  by_cases h7 : k.val - 2048 - 3072 - 512 - 64 - 8 - 56 - 384 < 256
  · exact .inl ⟨_, fun P => by rw [colOf, dif_neg h0, dif_neg h1, dif_neg h2, dif_neg h3, dif_neg h4, dif_neg h5, dif_neg h6, dif_pos h7]⟩
  by_cases h8 : k.val - 2048 - 3072 - 512 - 64 - 8 - 56 - 384 - 256 < 64
  · exact .inl ⟨_, fun P => by rw [colOf, dif_neg h0, dif_neg h1, dif_neg h2, dif_neg h3, dif_neg h4, dif_neg h5, dif_neg h6, dif_neg h7, dif_pos h8]⟩
  exact .inr fun P => by rw [colOf, dif_neg h0, dif_neg h1, dif_neg h2, dif_neg h3, dif_neg h4, dif_neg h5, dif_neg h6, dif_neg h7, dif_neg h8]

/-- A packed column of a product is the product with the packed column. -/
theorem sum_colOf (k : Fin 6528) (h : Fin 1024 → EReal) (w : Fin 1024 → Fin 6408 → EReal) :
    ∑ x, h x * colOf k (w x) = colOf k (fun j => ∑ x, h x * w x j) := by
  rcases colOf_cases k with ⟨j, hj⟩ | h0
  · simp only [hj]
  · simp only [h0, mul_zero, Finset.sum_const_zero]

/-- A token's normalised row. -/
noncomputable def normRow (x g : Fin 1024 → EReal) (k : Fin 1024) : EReal :=
  x k * Ideal.rsqrt (Ideal.div (∑ j, x j * x j) (Ideal.ofBits FTy.f32 1149239296#32) + Ideal.ofBits FTy.f32 897988541#32) * g k

end Cert.InProj

namespace Cert.Kernel3Ideal.InProj
open Idealize.ShloMosaic Cert.InProj
open Cert.Kernel3Ideal.Gen Cert.Kernel3Ideal.Value

theorem pay1_apply (x : Vec Ideal S1024x1024 .f32) (g : Vec Ideal S1x1024 .f32) (r : Fin 1024) (k : Fin 1024) :
    k0_pay1 (F := Ideal) x g (ix2 r k) = normRow (fun j => x (ix2 r j)) (fun j => g (ix2 0 j)) k := by
  unfold k0_pay1 normRow
  pointwise

theorem pay2_apply (h : Vec Ideal S1024x1024 .bf16) (w : Vec Ideal S1024x2176 .bf16) (r : Fin 1024) (k : Fin 2176) :
    k0_pay2 (F := Ideal) h w (ix2 r k) = ∑ j : Fin 1024, (h (ix2 r j) : EReal) * w (ix2 j k) := by
  unfold k0_pay2
  pointwise [dot_S1024x1024_S1024x2176_S1024x2176_1_0_0_1_n_n]

theorem flat_weights (W : Vec Ideal S1x1024x6408 .f32) (r : Fin 1024) (j : Fin 6408) :
    (truncf (F := Ideal) .bf16 (shapeCast S1024x6408 W shapeCasts_S1x1024x6408_S1024x6408) bitsLt_bf16_f32 : S1024x6408.Idx → EReal) (ix2 r j)
      = W (ix3 0 r j) := by
  pointwise
  try rfl

theorem flat_rows (X : Vec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise
  try rfl

variable (m : (ℓ : Loc nD τ sig) → Buf (Elt Ideal) ℓ) (c : Dev nD)

theorem packed_eq : (V m c main_v13 : S1024x6528.Idx → EReal)
    = concatenate S1024x6528 1 [⟨S1024x2048, extractStridedSlice S1024x2048 ![0, 4360] (truncf (F := Ideal) .bf16 (shapeCast S1024x6408 (m (c.tc.loc main_arg2) : Vec Ideal S1x1024x6408 .f32) shapeCasts_S1x1024x6408_S1024x6408) bitsLt_bf16_f32) slices_S1024x6408_S1024x2048_0_4360⟩, ⟨S1024x3072, extractStridedSlice S1024x3072 ![0, 704] (truncf (F := Ideal) .bf16 (shapeCast S1024x6408 (m (c.tc.loc main_arg2) : Vec Ideal S1x1024x6408 .f32) shapeCasts_S1x1024x6408_S1024x6408) bitsLt_bf16_f32) slices_S1024x6408_S1024x3072_0_704⟩, ⟨S1024x512, extractStridedSlice S1024x512 ![0, 3776] (truncf (F := Ideal) .bf16 (shapeCast S1024x6408 (m (c.tc.loc main_arg2) : Vec Ideal S1x1024x6408 .f32) shapeCasts_S1x1024x6408_S1024x6408) bitsLt_bf16_f32) slices_S1024x6408_S1024x512_0_3776⟩, ⟨S1024x64, extractStridedSlice S1024x64 ![0, 4288] (truncf (F := Ideal) .bf16 (shapeCast S1024x6408 (m (c.tc.loc main_arg2) : Vec Ideal S1x1024x6408 .f32) shapeCasts_S1x1024x6408_S1024x6408) bitsLt_bf16_f32) slices_S1024x6408_S1024x64_0_4288⟩, ⟨S1024x8, extractStridedSlice S1024x8 ![0, 4352] (truncf (F := Ideal) .bf16 (shapeCast S1024x6408 (m (c.tc.loc main_arg2) : Vec Ideal S1x1024x6408 .f32) shapeCasts_S1x1024x6408_S1024x6408) bitsLt_bf16_f32) slices_S1024x6408_S1024x8_0_4352⟩, ⟨S1024x56, broadcastInDim S1024x56 ![] bcast_S_S1024x56 (constant S_ .bf16 0x0000#16)⟩, ⟨S1024x384, extractStridedSlice S1024x384 ![0, 0] (truncf (F := Ideal) .bf16 (shapeCast S1024x6408 (m (c.tc.loc main_arg2) : Vec Ideal S1x1024x6408 .f32) shapeCasts_S1x1024x6408_S1024x6408) bitsLt_bf16_f32) slices_S1024x6408_S1024x384_0_0⟩, ⟨S1024x256, extractStridedSlice S1024x256 ![0, 384] (truncf (F := Ideal) .bf16 (shapeCast S1024x6408 (m (c.tc.loc main_arg2) : Vec Ideal S1x1024x6408 .f32) shapeCasts_S1x1024x6408_S1024x6408) bitsLt_bf16_f32) slices_S1024x6408_S1024x256_0_384⟩, ⟨S1024x64, extractStridedSlice S1024x64 ![0, 640] (truncf (F := Ideal) .bf16 (shapeCast S1024x6408 (m (c.tc.loc main_arg2) : Vec Ideal S1x1024x6408 .f32) shapeCasts_S1x1024x6408_S1024x6408) bitsLt_bf16_f32) slices_S1024x6408_S1024x64_0_640⟩, ⟨S1024x64, broadcastInDim S1024x64 ![] bcast_S_S1024x64 (constant S_ .bf16 0x0000#16)⟩] concatenates_S1024x2048_S1024x3072_S1024x512_S1024x64_S1024x8_S1024x56_S1024x384_S1024x256_S1024x64_S1024x64_S1024x6528_d1 := by
  unfold V hostOps0
  after_results_simp <;> (try dsimp only [Matrix.cons_val]) <;> (try after_results_simp) <;> rfl

/-- The packed weights, column by column. -/
theorem packed (r : Fin 1024) (k : Fin 6528) :
    (V m c main_v13 : S1024x6528.Idx → EReal) (ix2 r k)
      = colOf k (fun j => (m (c.tc.loc main_arg2) : S1x1024x6408.Idx → EReal) (ix3 0 r j)) := by
  rw [packed_eq]
  have e : ∀ j, (truncf (F := Ideal) .bf16 (shapeCast S1024x6408 (m (c.tc.loc main_arg2) : Vec Ideal S1x1024x6408 .f32) shapeCasts_S1x1024x6408_S1024x6408) bitsLt_bf16_f32 : S1024x6408.Idx → EReal) (ix2 r j)
      = (m (c.tc.loc main_arg2) : S1x1024x6408.Idx → EReal) (ix3 0 r j) := fun j => flat_weights _ r j
  simp only [← e]
  generalize truncf (F := Ideal) .bf16 _ _ = P
  unfold colOf
  pointwise
  try rfl

/-- The rows of the hidden state, batch after batch. -/
theorem rows (r : Fin 32768) (k : Fin 1024) :
    (V m c main_v0 : S32768x1024.Idx → EReal) (ix2 r k)
      = (m (c.tc.loc main_arg0) : S16x2048x1024.Idx → EReal) (ix3 ⟨r.val / 2048, by omega⟩ ⟨r.val % 2048, by omega⟩ k) := by
  have e : (V m c main_v0 : S32768x1024.Idx → EReal)
      = shapeCast S32768x1024 (m (c.tc.loc main_arg0) : Vec Ideal S16x2048x1024 .f32) shapeCasts_S16x2048x1024_S32768x1024 := by
    unfold V hostOps0
    after_results_simp <;> rfl
  rw [e]
  exact flat_rows _ r k

end Cert.Kernel3Ideal.InProj

namespace Cert.Reference3Ideal.InProj
open Idealize.ShloMosaic Cert.InProj
open Cert.Reference3Ideal.Gen Cert.Reference3Ideal.Value
variable (m : (ℓ : Loc nD τ sig) → Buf (Elt Ideal) ℓ) (c : Dev nD)

/-- The normalised row of token `r`. -/
noncomputable def rowH (r : Fin 32768) : Fin 1024 → EReal :=
  normRow (fun j => (m (c.tc.loc main_arg0) : S16x2048x1024.Idx → EReal) (ix3 ⟨r.val / 2048, by omega⟩ ⟨r.val % 2048, by omega⟩ j))
    (fun j => (m (c.tc.loc main_arg1) : S1x1024.Idx → EReal) (ix2 0 j))

/-- The packed projection of token `r` at column `k`. -/
noncomputable def projAt (r : Fin 32768) (k : Fin 6528) : EReal :=
  colOf k (fun j => ∑ x, rowH m c r x * (m (c.tc.loc main_arg2) : S1x1024x6408.Idx → EReal) (ix3 0 x j))

theorem prod_at (X : Vec Ideal S16x2048x1024 .f32) (G : Vec Ideal S1x1024 .f32) (W : Vec Ideal S1x1024x6408 .f32) (r : Fin 32768) (j : Fin 6408) :
    (truncf (F := Ideal) .bf16 (Host.dotGeneral dot_S32768x1024_S1024x6408_S32768x6408_1_0_0_1_n_n none (shapeCast S32768x1024 (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ G shapeCasts_S1x1024_S1024)))) shapeCasts_S16x2048x1024_S32768x1024 : FVec Ideal S32768x1024 .f32) (shapeCast S1024x6408 W shapeCasts_S1x1024x6408_S1024x6408 : FVec Ideal S1024x6408 .f32) : FVec Ideal S32768x6408 .f32) bitsLt_bf16_f32 : S32768x6408.Idx → EReal) (ix2 r j)
      = ∑ x, normRow (fun j => X (ix3 ⟨r.val / 2048, by omega⟩ ⟨r.val % 2048, by omega⟩ j)) (fun j => G (ix2 0 j)) x * W (ix3 0 x j) := by
  unfold normRow
  pointwise [dot_S32768x1024_S1024x6408_S32768x6408_1_0_0_1_n_n]
  try rfl

theorem out_apply (r : Fin 32768) (k : Fin 6528) :
    (res_out0 m c : S32768x6528.Idx → EReal) (ix2 r k) = projAt m c r k := by
  show res_main_v28 m c _ = _
  unfold res_main_v28
  generalize hP : (truncf .bf16 (Host.dotGeneral (F := Ideal) _ _ _ _) _ : S32768x6408.Idx → EReal) = P
  have e : ∀ j, P (ix2 r j) = ∑ x, rowH m c r x * (m (c.tc.loc main_arg2) : S1x1024x6408.Idx → EReal) (ix3 0 x j) := by
    intro j
    subst hP
    exact prod_at _ _ _ r j
  unfold projAt
  simp only [← e]
  unfold colOf
  pointwise
  try rfl
end Cert.Reference3Ideal.InProj
-- ==== Proof.InProj.Value.lean ====
module

public import proofs.«01_k».proof.Proof.InProj.Rows

@[expose] public section

namespace Cert.Kernel3Ideal.InProj
open Idealize.ShloMosaic Cert.InProj
open Cert.Kernel3Ideal.Gen Cert.Kernel3Ideal.Value

/-- The two programs' arguments are the same arrays. -/
structure Same (m : (ℓ : Loc nD τ sig) → Buf (Elt Ideal) ℓ)
    (m' : (ℓ : Loc Cert.Reference3Ideal.nD Cert.Reference3Ideal.τ Cert.Reference3Ideal.sig) → Buf (Elt Ideal) ℓ) (c : Dev nD) : Prop where
  a0 : (m (c.tc.loc main_arg0) : S16x2048x1024.Idx → EReal) = m' (c.tc.loc Cert.Reference3Ideal.main_arg0)
  a1 : (m (c.tc.loc main_arg1) : S1x1024.Idx → EReal) = m' (c.tc.loc Cert.Reference3Ideal.main_arg1)
  a2 : (m (c.tc.loc main_arg2) : S1x1024x6408.Idx → EReal) = m' (c.tc.loc Cert.Reference3Ideal.main_arg2)

section Blocks
variable (m : (ℓ : Loc nD τ sig) → Buf (Elt Ideal) ℓ) (c : Dev nD) (t : Fin cfg0.N)

theorem tlt : t.val < 96 := t.isLt

/-- The token of row `r` of grid point `t`'s tile. -/
def tok (r : Fin 1024) : Fin 32768 := ⟨t.val / 3 * 1024 + r.val, by have := tlt t; omega⟩

/-- The packed column of column `k` of grid point `t`'s tile. -/
def pcol (k : Fin 2176) : Fin 6528 := ⟨t.val % 3 * 2176 + k.val, by omega⟩

theorem idx0 : ∀ t : Fin cfg0.N, win0_0.index t 0 = t.val / 3 ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = t.val % 3 :=
  (by decide +kernel : ∀ t : Fin grid0.N, _)
theorem idx3 : ∀ t : Fin cfg0.N, win0_3.index t 0 = t.val / 3 ∧ win0_3.index t 1 = t.val % 3 :=
  (by decide +kernel : ∀ t : Fin grid0.N, _)

theorem blk0 (r : Fin 1024) (k : Fin 1024) : iblk m c 0 t (ix2 r k) = (V m c main_v0 : S32768x1024.Idx → EReal) (ix2 (tok t r) k) := by
  obtain ⟨e0, e1⟩ := idx0 t
  blk_ext [iblk, e0, e1, tok]

theorem blk1 (k : Fin 1024) : iblk m c 1 t (ix2 0 k) = (m (c.tc.loc main_arg1) : S1x1024.Idx → EReal) (ix2 0 k) := by
  obtain ⟨e0, e1⟩ := idx1 t
  refine Eq.trans ?_ (congrFun (V_main_arg1 m c) (ix2 0 k : S1x1024.Idx))
  blk_ext [iblk, e0, e1]

theorem blk2 (r : Fin 1024) (k : Fin 2176) : iblk m c 2 t (ix2 r k) = (V m c main_v13 : S1024x6528.Idx → EReal) (ix2 r (pcol t k)) := by
  obtain ⟨e0, e1⟩ := idx2 t
  blk_ext [iblk, e0, e1, pcol]
end Blocks

variable {m : (ℓ : Loc nD τ sig) → Buf (Elt Ideal) ℓ}
  {m' : (ℓ : Loc Cert.Reference3Ideal.nD Cert.Reference3Ideal.τ Cert.Reference3Ideal.sig) → Buf (Elt Ideal) ℓ} {c : Dev nD}
  (h : Same m m' c)

open Cert.Reference3Ideal.InProj (rowH projAt)

include h in
/-- What the first point of a row block stores in the scratch: the tokens' normalised rows. -/
theorem norm_rows (t : Fin cfg0.N) (r k : Fin 1024) :
    k0_pay1 (F := Ideal) (iblk m c 0 t) (iblk m c 1 t) (ix2 r k) = rowH m' c (tok t r) k := by
  rw [pay1_apply]
  unfold rowH
  rw [← h.a0, ← h.a1]
  have e0 : (fun j => iblk m c 0 t (ix2 r j)) = fun j => (m (c.tc.loc main_arg0) : S16x2048x1024.Idx → EReal)
      (ix3 ⟨(tok t r).val / 2048, by omega⟩ ⟨(tok t r).val % 2048, by omega⟩ j) :=
    funext fun j => (blk0 m c t r j).trans (rows m c _ j)
  have e1 : (fun j => iblk m c 1 t (ix2 0 j)) = fun j => (m (c.tc.loc main_arg1) : S1x1024.Idx → EReal) (ix2 0 j) :=
    funext fun j => blk1 m c t j
  exact congrArg₂ (fun x g => normRow x g k) e0 e1

include h in
/-- After every point the scratch holds the normalised rows of the point's row block. -/
theorem scratch : ∀ (n : ℕ) (hn : n < cfg0.N) (r k : Fin 1024),
    ((outsAt0 m c n hn).2 : S1024x1024.Idx → EReal) (ix2 r k) = rowH m' c (tok ⟨n, hn⟩ r) k := by
  intro n
  induction n with
  | zero =>
    intro hn r k
    have e := outsAt0_A m c ⟨0, hn⟩ (Nat.zero_mod _)
    rw [show outsAt0 m c 0 hn = _ from e]
    dsimp only
    rw [soutA_eq]
    exact norm_rows h ⟨0, hn⟩ r k
  | succ n ih =>
    intro hn r k
    by_cases h3 : (n + 1) % 3 = 0
    · have e := outsAt0_A m c ⟨n + 1, hn⟩ h3
      rw [show outsAt0 m c (n + 1) hn = _ from e]
      dsimp only
      rw [soutA_eq]
      exact norm_rows h ⟨n + 1, hn⟩ r k
    · have e := outsAt0_B m c ⟨n + 1, hn⟩ h3
      rw [show outsAt0 m c (n + 1) hn = _ from e]
      dsimp only
      unfold sout0_B_0
      refine (ih (Nat.lt_of_succ_lt hn) r k).trans (congrArg (fun i => rowH m' c i k) (Fin.ext ?_))
      show n / 3 * 1024 + r.val = (n + 1) / 3 * 1024 + r.val
      omega

include h in
/-- A tile of the product, over rows that are the tokens' normalised rows. -/
theorem tile (t : Fin cfg0.N) (s : Vec Ideal S1024x1024 .bf16) (hs : ∀ r k, (s : S1024x1024.Idx → EReal) (ix2 r k) = rowH m' c (tok t r) k)
    (r : Fin 1024) (k : Fin 2176) :
    k0_pay2 (F := Ideal) s (iblk m c 2 t) (ix2 r k) = projAt m' c (tok t r) (pcol t k) := by
  rw [pay2_apply]
  have e : ∀ j, (s : S1024x1024.Idx → EReal) (ix2 r j) * iblk m c 2 t (ix2 j k)
      = rowH m' c (tok t r) j * colOf (pcol t k) (fun n => (m (c.tc.loc main_arg2) : S1x1024x6408.Idx → EReal) (ix3 0 j n)) :=
    fun j => congrArg₂ (· * ·) (hs r j) ((blk2 m c t j k).trans (packed m c j _))
  refine (Finset.sum_congr rfl fun j _ => e j).trans ?_
  rw [sum_colOf, h.a2]
  rfl

include h in
/-- What a point writes back, at row `r` and column `k` of its tile. -/
theorem written (t : Fin cfg0.N) (r : Fin 1024) (k : Fin 2176) :
    ((outsAt0 m c t.val t.isLt).1 : S1024x2176.Idx → EReal) (ix2 r k) = projAt m' c (tok t r) (pcol t k) := by
  by_cases h3 : t.val % 3 = 0
  · rw [outsAt0_A m c t h3]
    dsimp only
    rw [outA_eq]
    exact tile h t _ (norm_rows h t) r k
  · rw [outsAt0_B m c t h3]
    dsimp only
    rw [outB_eq]
    refine tile h t _ (fun r k => (scratch h _ _ r k).trans (congrArg (fun i => rowH m' c i k) (Fin.ext ?_))) r k
    show (t.val - 1) / 3 * 1024 + r.val = t.val / 3 * 1024 + r.val
    omega

include h in
theorem final : ((dats m 0 c).arrAt 3 cfg0.N : S32768x6528.Idx → EReal) = fun i => projAt m' c (i 0) (i 1) := by
  refine (dats m 0 c).arrAt_eq_of_covers 3 _ (by decide +kernel) fun t hf y => ?_
  obtain ⟨e0, e1⟩ := idx3 t
  have E : (((cfg0.win 3).blk t).view.emb y : S32768x6528.Idx) = ix2 (tok t ((y : S1024x2176.Idx) 0)) (pcol t ((y : S1024x2176.Idx) 1)) := by
    blk_ext [e0, e1, tok, pcol]
  refine (show _ = _ from congrFun (flushed3 m c t) y).trans ?_
  have hy : (y : S1024x2176.Idx) = ix2 ((y : S1024x2176.Idx) 0) ((y : S1024x2176.Idx) 1) := by
    funext a; match a with | ⟨0, _⟩ => rfl | ⟨1, _⟩ => rfl
  refine (show _ = ((outsAt0 m c t.val t.isLt).1 : S1024x2176.Idx → EReal) y from rfl).trans ?_
  refine (congrArg _ hy).trans ((written h t _ _).trans ?_)
  exact (congrArg (fun i : S32768x6528.Idx => projAt m' c (i 0) (i 1)) E).symm

end Cert.Kernel3Ideal.InProj

namespace Cert.InProj
open Idealize.ShloMosaic

/-- The projection call and its reference leave the same array, at the ideal values. -/
theorem algebraic : Cert.algebraic_Kernel3Ideal_Reference3Ideal := by
  intro m ρ m' ρ' hpre hagree
  have hs : ∀ c, Cert.Kernel3Ideal.InProj.Same m m' c := fun c => by
    obtain ⟨h0, h1, h2⟩ := hagree c
    exact ⟨h0.symm, h1.symm, h2.symm⟩
  refine ⟨fun c => Cert.Reference3Ideal.Value.res_out0 m' c, ?_, ?_⟩
  · refine (θ_run Cert.Kernel3Ideal.defs _ _).mono (fun _ hr c => ?_) (Cert.Kernel3Ideal.Value.run_blocks m ρ)
    obtain ⟨r0, rest⟩ := hr c
    refine ⟨r0.trans ((Cert.Kernel3Ideal.InProj.final (hs c)).trans ?_), rest⟩
    funext i
    have hi : i = ix2 (i 0) (i 1) := by funext a; match a with | ⟨0, _⟩ => rfl | ⟨1, _⟩ => rfl
    exact (Cert.Reference3Ideal.InProj.out_apply m' c (i 0) (i 1)).symm.trans (congrArg _ hi.symm)
  · exact Cert.Reference3Ideal.Value.run m' ρ'

end Cert.InProj
-- ==== Proof.Experts.Run.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three tables as the body is handed them. -/
abbrev mE : Memref sig .tc .smem S288 .i32 := Memref.whole main_v19
abbrev mFirst : Memref sig .tc .smem S288 .i32 := Memref.whole main_v25
abbrev mUsed : Memref sig .tc .smem S1 .i32 := Memref.whole main_v27

/-- The contents of a table's buffer on core `c`. -/
abbrev Tab (c : Dev nD) {S : Shape} {e : EltTy} (M : Memref sig .tc .smem S e) : Type := Buf (Elt F) (M.view.loc (c : Thread nD τ))
/-- The half of a table the body holds: it reads and hands it back. -/
abbrev half (c : Dev nD) {S : Shape} {e : EltTy} (M : Memref sig .tc .smem S e) (f : Tab (F := F) c M) : sProp 𝕄 :=
  M.view.loc (c : Thread nD τ) ↦{fullShare.right} f

/-- "This block is the first of its expert", as the body computes it from the word it loads. -/
abbrev isFirst (v : BitVec 32) : Prop := Scalar.cmpi .ne (Scalar.extui (Scalar.cmpi .sgt v 0#32)) 0#32 = 1#1

/-- The word of the second table the body loads at `i`, -/
abbrev wFirst (c : Dev nD) (i : grid0.Coords) (f : Tab (F := F) c mFirst) : BitVec 32 :=
  View.readAt (Elt F) mFirst.view (Rect.unit (s := S288) (k0_off1 i) S1.size (k0_off1_inb i)).toLoadRect f (Shape.Idx.first (numel1_S1 ▸ Nat.one_pos))
/-- and the word of the third. -/
abbrev wUsed (c : Dev nD) (f : Tab (F := F) c mUsed) : BitVec 32 :=
  View.readAt (Elt F) mUsed.view (Rect.unit (s := S1) ![0] S1.size inb_S1_S1_0).toLoadRect f (Shape.Idx.first (numel1_S1 ▸ Nat.one_pos))

/-- The two scratch buffers after the body: the block's weights where it is the first of its expert, else as before. -/
abbrev keep1 (v : BitVec 32) (x1 : Vec F S1x1024x2048 .f32) (s : Vec F S1024x2048 .bf16) : Vec F S1024x2048 .bf16 :=
  if isFirst v then k0_pay1 x1 else s
abbrev keep2 (v : BitVec 32) (x3 : Vec F S1x1024x1024 .f32) (s : Vec F S1024x1024 .bf16) : Vec F S1024x1024 .bf16 :=
  if isFirst v then k0_pay2 x3 else s

/-- The output block: zero past the used blocks, else the expert's rows. -/
abbrev leave (i : grid0.Coords) (n : BitVec 32) (x0 : Vec F S512x8x128 .bf16) (s0 : Vec F S1024x2048 .bf16) (x2 : Vec F S1x1x2048 .f32)
    (s1 : Vec F S1024x1024 .bf16) (x4 : Vec F S1x1x1024 .f32) : Vec F S512x8x128 .bf16 :=
  if k0_cond3 i n = 1#1 then k0_pay4 else k0_pay3 x0 s0 x2 s1 x4

theorem flag (b : Bool) : Scalar.cmpi .ne (Scalar.extui (BitVec.ofBool b)) 0#32 = 1#1 ↔ b = true := by
  cases b <;> decide

theorem isFirst_iff (v : BitVec 32) : isFirst v ↔ (0#32).slt v = true := flag _
theorem cond2_iff (i : grid0.Coords) (n : BitVec 32) : k0_cond2 i n = 1#1 ↔ (BitVec.ofNat 32 (i 0).val).slt n = true := flag _
theorem cond3_iff (i : grid0.Coords) (n : BitVec 32) : k0_cond3 i n = 1#1 ↔ n.sle (BitVec.ofNat 32 (i 0).val) = true := flag _

/-- A block is used or it is not: one of the two conditions holds. -/
theorem cond_or (i : grid0.Coords) (n : BitVec 32) (h : ¬ k0_cond3 i n = 1#1) : k0_cond2 i n = 1#1 := by
  rw [cond3_iff, BitVec.sle_iff_toInt_le] at h
  rw [cond2_iff, BitVec.slt_iff_toInt_lt]
  omega

/-- A whole buffer loaded whole. -/
theorem load_whole {S : Shape} {e : EltTy} {arg : Memref sig .tc .vmem S e} (h : arg.IsWhole) (x : S.Idx → Elt F e) {off : Fin S.rank → ℕ}
    (inb : ∀ a, off a + S.size a ≤ S.size a) :
    View.readAt (Elt F) arg.view (Rect.unit off S.size inb).toLoadRect (h.unread x) = x :=
  (View.readAt_full _ _ _).trans (h.read_unread x)

/-- A whole buffer some branch stored into, read back, -/
theorem read_kept {S : Shape} {e : EltTy} {arg : Memref sig .tc .vmem S e} (h : arg.IsWhole) {P : Prop} [Decidable P] (w x : S.Idx → Elt F e)
    {off : Fin S.rank → ℕ} (inb : ∀ a, off a + S.size a ≤ S.size a) :
    View.read (Elt F) arg.view (if _ : P then arg.view.writes (Elt F) (h.unread x) [⟨Rect.unit off S.size inb, w⟩] else h.unread x) = if P then w else x := by
  split
  · exact View.read_writes_full _ _ _ _ _
  · exact h.read_unread x
/-- or loaded whole. -/
theorem load_kept {S : Shape} {e : EltTy} {arg : Memref sig .tc .vmem S e} (h : arg.IsWhole) {P : Prop} [Decidable P] (w x : S.Idx → Elt F e)
    {off off' : Fin S.rank → ℕ} (inb : ∀ a, off a + S.size a ≤ S.size a) (inb' : ∀ a, off' a + S.size a ≤ S.size a) :
    View.readAt (Elt F) arg.view (Rect.unit off' S.size inb').toLoadRect
      (if _ : P then arg.view.writes (Elt F) (h.unread x) [⟨Rect.unit off S.size inb, w⟩] else h.unread x) = if P then w else x :=
  (View.readAt_full _ _ _).trans (read_kept h w x inb)

set_option maxHeartbeats 1000000 in
/-- The body on whole buffers: the inputs and the tables as they were, the scratch kept or filled, the output block left. -/
theorem body_run (c : Dev nD) (i : grid0.Coords) (arg4 : Memref sig .tc .vmem S512x8x128 .bf16) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x8x128 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x8x128 .bf16) (x1 : Vec F S1x1024x2048 .f32) (x2 : Vec F S1x1x2048 .f32) (x3 : Vec F S1x1024x1024 .f32) (x4 : Vec F S1x1x1024 .f32) (t0 : Tab (F := F) c mE) (t1 : Tab (F := F) c mFirst) (t2 : Tab (F := F) c mUsed) (xs0 : Vec F S1024x2048 .bf16) (xs1 : Vec F S1024x1024 .bf16) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ half c mE t0 ∗ half c mFirst t1 ∗ half c mUsed t2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
              ∗ owns (c : Thread nD τ) arg9 fullShare (leave i (wUsed c t2) x0 (keep1 (wFirst c i t1) x1 xs0) x2 (keep2 (wFirst c i t1) x3 xs1) x4)
              ∗ owns (c : Thread nD τ) arg10 fullShare (keep1 (wFirst c i t1) x1 xs0) ∗ owns (c : Thread nD τ) arg11 fullShare (keep2 (wFirst c i t1) x3 xs1)
              ∗ half c mE t0 ∗ half c mFirst t1 ∗ half c mUsed t2) -∗ K ⟨⟩))
          ⊢ wp frame (wpE (defs₀ (F := F)) Variants.none c none) E (cc0_experts i mE (Memref.isWhole_whole _) mFirst (Memref.isWhole_whole _) mUsed (Memref.isWhole_whole _) arg4 harg4 arg5 harg5 arg6 harg6 arg7 harg7 arg8 harg8 arg9 harg9 arg10 harg10 arg11 harg11) K := by
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec
    have e0 := load_whole harg4 x0 inb_S512x8x128_S512x8x128_0_0_0
    have e1 := load_whole harg5 x1 inb_S1x1024x2048_S1x1024x2048_0_0_0
    have e2 := load_whole harg6 x2 inb_S1x1x2048_S1x1x2048_0_0_0
    have e3 := load_whole harg7 x3 inb_S1x1024x1024_S1x1024x1024_0_0_0
    have e4 := load_whole harg8 x4 inb_S1x1x1024_S1x1x1024_0_0_0
    have k1 : body_run.sl.v15 c i arg5 harg5 arg10 harg10 x1 t1 xs0 = keep1 (wFirst c i t1) x1 xs0 :=
      (load_kept harg10 _ xs0 inb_S1024x2048_S1024x2048_0_0 inb_S1024x2048_S1024x2048_0_0).trans (by rw [e1]; rfl)
    have k2 : body_run.sl.v37 c i arg7 harg7 arg11 harg11 x3 t1 xs1 = keep2 (wFirst c i t1) x3 xs1 :=
      (load_kept harg11 _ xs1 inb_S1024x1024_S1024x1024_0_0 inb_S1024x1024_S1024x1024_0_0).trans (by rw [e3]; rfl)
    have hu : body_run.sl.r_1 c t2 = wUsed c t2 := rfl
    rw [e0, e1, e2, e3, e4, k1, k2, hu]
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr
      swap; · iexact H5
      ipureintro
      unfold leave
      by_cases h3 : k0_cond3 i (wUsed c t2) = 1#1
      · rw [dif_pos h3, if_pos h3]; exact View.read_writes_full _ _ _ _ _
      · rw [dif_neg h3, if_neg h3, dif_pos (cond_or _ _ h3)]; exact View.read_writes_full _ _ _ _ _
    isplitl [HS0]
    · iexists _; isplitr
      swap; · iexact HS0
      ipureintro; exact read_kept harg10 _ _ _
    isplitl [HS1]
    · iexists _; isplitr
      swap; · iexact HS1
      ipureintro; exact read_kept harg11 _ _ _
    isplitl [HT0]; · iexact HT0
    isplitl [HT1]; · iexact HT1
    iexact HT2

end Cert.Kernel4Ideal.Experts

end
-- ==== Proof.Experts.Frame.lean ====
module

public import proofs.«01_k».proof.Proof.Experts.Run

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- Core `c`'s buffers when the call is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables as the call finds them (one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(half c mE (tbl m 0) ∗ half c mFirst (tbl m 1) ∗ half c mUsed (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The output's block moves at every point. -/
theorem flush_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

abbrev ms_0 (hO : Ok m) (t : Fin (cfgM m hO).N) : Memref sig .tc .vmem S512x8x128 .bf16 := spec0_0.stage ((cfgM m hO).slots t 0)
abbrev ms_1 (hO : Ok m) (t : Fin (cfgM m hO).N) : Memref sig .tc .vmem S1x1024x2048 .f32 := spec0_1.stage ((cfgM m hO).slots t 1)
abbrev ms_2 (hO : Ok m) (t : Fin (cfgM m hO).N) : Memref sig .tc .vmem S1x1x2048 .f32 := spec0_2.stage ((cfgM m hO).slots t 2)
abbrev ms_3 (hO : Ok m) (t : Fin (cfgM m hO).N) : Memref sig .tc .vmem S1x1024x1024 .f32 := spec0_3.stage ((cfgM m hO).slots t 3)
abbrev ms_4 (hO : Ok m) (t : Fin (cfgM m hO).N) : Memref sig .tc .vmem S1x1x1024 .f32 := spec0_4.stage ((cfgM m hO).slots t 4)
abbrev ms_5 (hO : Ok m) (t : Fin (cfgM m hO).N) : Memref sig .tc .vmem S512x8x128 .bf16 := spec0_5.stage ((cfgM m hO).slots t 5)
abbrev sc_0 : Memref sig .tc .vmem S1024x2048 .bf16 := Memref.whole cc0_scratch0
abbrev sc_1 : Memref sig .tc .vmem S1024x1024 .bf16 := Memref.whole cc0_scratch1

theorem scoped_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-! ## The proof data -/

/-- A block that is not the first of its expert has the weights of the block before. -/
def Reuse (hO : Ok m) : Prop := ∀ (c : Dev nD) (t : Fin (cfgM m hO).N), isFirst (wFirst c (grid0.coords t) (tbl m 1)) ∨
  ∃ _ : t.val ≠ 0, iblk m hO c 1 t = iblk m hO c 1 ⟨t.val - 1, by omega⟩ ∧ iblk m hO c 3 t = iblk m hO c 3 ⟨t.val - 1, by omega⟩

/-- What the scratch holds after point `t`: its block's weights. -/
abbrev held1 (hO : Ok m) (c : Dev nD) (t : Fin (cfgM m hO).N) : Vec F S1024x2048 .bf16 := k0_pay1 (iblk m hO c 1 t)
abbrev held2 (hO : Ok m) (c : Dev nD) (t : Fin (cfgM m hO).N) : Vec F S1024x1024 .bf16 := k0_pay2 (iblk m hO c 3 t)

/-- The output block of point `t`. -/
abbrev outAt (hO : Ok m) (c : Dev nD) (t : Fin (cfgM m hO).N) : Vec F S512x8x128 .bf16 :=
  leave (grid0.coords t) (wUsed c (tbl m 2)) (iblk m hO c 0 t) (held1 m hO c t) (iblk m hO c 2 t) (held2 m hO c t) (iblk m hO c 4 t)

/-- Before point `n`: the tables, the generator, and the scratch at the weights of the point before. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) sc_0 fullShare (held1 m hO c ⟨n, hn⟩) ∗ owns (c : Thread nD τ) sc_1 fullShare (held2 m hO c ⟨n, hn⟩)) ∗ (∃ r, prngReg c r)) ∗ Pipeline.ΦT pre0 (tbl m) c)

theorem Inv_zero (hO : Ok m) (c : Dev nD) (n : ℕ) (h : n ≤ (cfgM m hO).N) (hz : n = 0) : Inv m hO c n h = iprop(Pipeline.ΦA spec0 c ∗ Pipeline.ΦT pre0 (tbl m) c) := by
  subst hz; rfl
theorem Inv_succ (hO : Ok m) (c : Dev nD) (n : ℕ) (hn : n < (cfgM m hO).N) :
    Inv m hO c (n + 1) hn = iprop(iprop(iprop(owns (c : Thread nD τ) sc_0 fullShare (held1 m hO c ⟨n, hn⟩) ∗ owns (c : Thread nD τ) sc_1 fullShare (held2 m hO c ⟨n, hn⟩)) ∗ (∃ r, prngReg c r)) ∗ Pipeline.ΦT pre0 (tbl m) c) := rfl
theorem Inv_pos (hO : Ok m) (c : Dev nD) (n : ℕ) (h : n ≤ (cfgM m hO).N) (hz : n ≠ 0) :
    Inv m hO c n h = iprop(iprop(iprop(owns (c : Thread nD τ) sc_0 fullShare (held1 m hO c ⟨n - 1, by omega⟩) ∗ owns (c : Thread nD τ) sc_1 fullShare (held2 m hO c ⟨n - 1, by omega⟩)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem Inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d

/-! ## The body at a point -/

abbrev bodyAt (a : (pcfg0 (F := F)).Adm) (t : Fin (cfg0 a).N) : Prog (TpuEff nD τ sig (Elt F) Λ₀ .tc) PUnit :=
  cc0_experts (grid0.coords t) (Memref.whole main_v19) (Memref.isWhole_whole _) (Memref.whole main_v25) (Memref.isWhole_whole _) (Memref.whole main_v27) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

theorem keep1_eq (hO : Ok m) (c : Dev nD) (t : Fin (cfgM m hO).N) (s : Vec F S1024x2048 .bf16)
    (h : isFirst (wFirst c (grid0.coords t) (tbl m 1)) ∨ s = held1 m hO c t) :
    keep1 (wFirst c (grid0.coords t) (tbl m 1)) (iblk m hO c 1 t) s = held1 m hO c t := by
  unfold keep1
  split
  · rfl
  · exact h.resolve_left (by assumption)
theorem keep2_eq (hO : Ok m) (c : Dev nD) (t : Fin (cfgM m hO).N) (s : Vec F S1024x1024 .bf16)
    (h : isFirst (wFirst c (grid0.coords t) (tbl m 1)) ∨ s = held2 m hO c t) :
    keep2 (wFirst c (grid0.coords t) (tbl m 1)) (iblk m hO c 3 t) s = held2 m hO c t := by
  unfold keep2
  split
  · rfl
  · exact h.resolve_left (by assumption)

set_option maxHeartbeats 3200000 in
/-- The body at a point whose scratch is right or will be filled. -/
theorem step (hO : Ok m) (c : Dev nD) (t : Fin (cfgM m hO).N) (s0 : Vec F S1024x2048 .bf16) (s1 : Vec F S1024x1024 .bf16)
    (h1 : isFirst (wFirst c (grid0.coords t) (tbl m 1)) ∨ s0 = held1 m hO c t) (h2 : isFirst (wFirst c (grid0.coords t) (tbl m 1)) ∨ s1 = held2 m hO c t) :
    iprop(iprop(iprop(iprop(owns (c : Thread nD τ) sc_0 fullShare s0 ∗ owns (c : Thread nD τ) sc_1 fullShare s1) ∗ (∃ r, prngReg c r)) ∗ Pipeline.ΦT pre0 (tbl m) c) ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))) ⊢ wp frame (wpE (defs₀ (F := F)) Variants.none c none) Set.univ (bodyAt (adm m hO) t) (fun _ => bodyPost m hO c t) := by
  unfold bodyPost bodyAt
  simp only [before_0, before_1, before_2, before_3, before_4]
  rw [show (dats m hO 0 c).owesAt () t.succ = (dats m hO 0 c).owesAt () t.castSucc from rfl,
    after_0, after_1, after_2, after_3, after_4, after_5]
  rw [show (dats m hO 0 c).Φ t.succ = Inv m hO c (t.val + 1) t.isLt from rfl, Inv_succ, tables_eq]
  iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) s0 s1 Set.univ _)
  rw [keep1_eq m hO c t s0 h1, keep2_eq m hO c t s1 h2]
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1 Hg]
    · isplitl [HS0 HS1]
      · isplitl [HS0]
        · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem sound_body (hO : Ok m) (hR : Reuse m hO) (c : Dev nD) (t : Fin (cfgM m hO).N) :
    bodyPre m hO c t ⊢ wp frame (wpE (defs₀ (F := F)) Variants.none c none) Set.univ (bodyAt (adm m hO) t) (fun _ => bodyPost m hO c t) := by
  unfold bodyPre
  rw [Inv_castSucc m hO c t]
  rcases hR c t with hf | ⟨hz, e1, e2⟩
  · by_cases hz : t.val = 0
    · rw [Inv_zero m hO c _ _ hz, scoped_eq]
      iintro ⟨⟨⟨⟨⟨%s0, HS0⟩, ⟨%s1, HS1⟩⟩, Hg⟩, HT⟩, Hrest⟩
      iapply (step m hO c t s0 s1 (.inl hf) (.inl hf))
      isplitl [HS0 HS1 Hg HT]
      · isplitl [HS0 HS1 Hg]
        · isplitl [HS0 HS1]
          · isplitl [HS0]
            · iexact HS0
            iexact HS1
          iexact Hg
        iexact HT
      iexact Hrest
    · rw [Inv_pos m hO c _ _ hz]
      exact step m hO c t _ _ (.inl hf) (.inl hf)
  · rw [Inv_pos m hO c _ _ hz]
    exact step m hO c t _ _ (.inr (congrArg k0_pay1 e1.symm)) (.inr (congrArg k0_pay2 e2.symm))

theorem defs_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- A buffer written back at the point is taken at what the body leaves, idle or not. -/
theorem post_of_flush {P : sProp 𝕄} {Q : sProp 𝕄} (i f : Bool) (h : f = true) :
    P ⊢ (match i with | true => (match f with | false => Q | true => P) | false => P) := by
  subst h; cases i <;> exact .rfl

theorem body_obligation (hO : Ok m) (hR : Reuse m hO) (c : Dev nD) : BodyObligation (dats (F := F) m hO 0 c) (defs₀ (F := F)) Variants.none () Set.univ := fun t => by
  rw [bigSep_W0, bigSep_W0, defs_row m hO]
  refine triple_restated (sound_body m hO hR c t) rfl .rfl fun _ => ?_
  unfold bodyPost
  refine sep_mono .rfl (sep_mono .rfl (sep_mono .rfl (sep_mono .rfl (sep_mono .rfl (sep_mono .rfl (sep_mono .rfl ?_))))))
  split
  · next h => exact absurd h Bool.false_ne_true
  · split
    · split
      · next h => exact absurd ((flush_5 (adm m hO) t).symm.trans h) (by decide)
      · exact .rfl
    · exact .rfl

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_zero m hO c 0 _ rfl]

theorem hout (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N (Nat.le_refl _) from rfl,
    Inv_pos m hO c _ _ (by have : (cfgM m hO).N = 288 := N_0; omega), scoped_eq]
  iintro ⟨⟨⟨HS0, HS1⟩, Hg⟩, -⟩
  isplitl [HS0 HS1]
  · isplitl [HS0]
    · iexists _; iexact HS0
    iexists _; iexact HS1
  iexact Hg

/-! ## The run -/

set_option backward.isDefEq.respectTransparency.types false in
theorem run (hO : Ok m) (hR : Reuse m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end as launched, and no counter is left. -/
theorem frame_of_tables (hO : Ok m) (hR : Reuse m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => have h := hh.1; ⟨((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩, hh.2⟩) (run m ρ hO hR)

end Cert.Kernel4Ideal.Experts

end
-- ==== Proof.Experts.Tables.lean ====
module

public import proofs.«01_k».proof.Proof.Experts.Frame
public import Idealize.ShloMosaic.Lib.StableHlo.Predicate
public import Idealize.ShloMosaic.Lib.Pointwise

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The tables as the host computes them from the counts -/

/-- `a // 512`, as the host rounds it down, at thirty-two entries -/
def div32 (a : IVec S32 32) : IVec S32 32 :=
  select
    (andi (cmpi .ne (signi a) (broadcastInDim S32 ![] bcast_S_S32 (signi (constantI S_ 32 512#32))))
      (cmpi .ne (Host.remsi a (broadcastInDim S32 ![] bcast_S_S32 (constantI S_ 32 512#32))) (broadcastInDim S32 ![] bcast_S_S32 (constantI S_ 32 0#32))))
    (subi (Host.divsi a (broadcastInDim S32 ![] bcast_S_S32 (constantI S_ 32 512#32))) (broadcastInDim S32 ![] bcast_S_S32 (constantI S_ 32 1#32)))
    (Host.divsi a (broadcastInDim S32 ![] bcast_S_S32 (constantI S_ 32 512#32)))
/-- and at one. -/
def div1 (a : IVec S1 32) : IVec S1 32 :=
  select
    (andi (cmpi .ne (signi a) (broadcastInDim S1 ![] bcast_S_S1 (signi (constantI S_ 32 512#32))))
      (cmpi .ne (Host.remsi a (broadcastInDim S1 ![] bcast_S_S1 (constantI S_ 32 512#32))) (broadcastInDim S1 ![] bcast_S_S1 (constantI S_ 32 0#32))))
    (subi (Host.divsi a (broadcastInDim S1 ![] bcast_S_S1 (constantI S_ 32 512#32))) (broadcastInDim S1 ![] bcast_S_S1 (constantI S_ 32 1#32)))
    (Host.divsi a (broadcastInDim S1 ![] bcast_S_S1 (constantI S_ 32 512#32)))

/-- Where each expert's padded rows end. -/
def padEnd (k : IVec S32 32) : IVec S32 32 :=
  Host.reduceWindow IntOp.addi ![32] ![1] ![31] ![0]
    (muli (div32 (subi (addi k (broadcastInDim S32 ![] bcast_S_S32 (constantI S_ 32 512#32))) (broadcastInDim S32 ![] bcast_S_S32 (constantI S_ 32 1#32))))
      (broadcastInDim S32 ![] bcast_S_S32 (constantI S_ 32 512#32)))
    (broadcastInDim S_ ![] bcast_S_S_ (constantI S_ 32 0#32)) reduceWindows_S32_S32_w32s1p31_0 h_S_

/-- Which experts end at or before each block's first row. -/
def ended (p : IVec S32 32) : IVec S288x32 1 :=
  cmpi .sle (broadcastInDim S288x32 ![0, 1] bcast_S1x32_S288x32_0_1 (broadcastInDim S1x32 ![1] bcast_S32_S1x32_1 p))
    (broadcastInDim S288x32 ![0, 1] bcast_S288x1_S288x32_0_1 (broadcastInDim S288x1 ![0] bcast_S288_S288x1_0
      (muli (iotaInDim S288 32 0) (broadcastInDim S288 ![] bcast_S_S288 (constantI S_ 32 512#32)))))

/-- Each block's expert. -/
def eTab (p : IVec S32 32) : IVec S288 32 :=
  minsi (Host.reduce IntOp.addi (extui 32 (ended p) natLt_1_32) (constantI S_ 32 0#32) reducesTo_S288x32_S288_d1 h_S_)
    (broadcastInDim S288 ![] bcast_S_S288 (constantI S_ 32 31#32))

/-- Whether each block is the first of its expert. -/
def firstTab (e : IVec S288 32) : IVec S288 32 :=
  concatenate S288 0 [⟨S1, broadcastInDim S1 ![] bcast_S_S1 (constantI S_ 32 1#32)⟩,
    ⟨S287, extui 32 (cmpi .ne (extractStridedSlice S287 ![1] e slices_S288_S287_1) (extractStridedSlice S287 ![0] e slices_S288_S287_0)) natLt_1_32⟩] concatenates_S1_S287_S288_d0

/-- How many blocks are used. -/
def usedTab (p : IVec S32 32) : IVec S1 32 := div1 (extractStridedSlice S1 ![31] p slices_S32_S1_31)

section Read
variable (m : (ℓ : Loc nD τ sig) → Buf (Elt F) ℓ)

/-- The counts. -/
abbrev counts (c : Dev nD) : IVec S32 32 := m ((c.tc : Thread nD τ).loc main_arg0)

set_option maxHeartbeats 1600000 in
theorem V_end (c : Dev nD) : (V m c main_v7 : IVec S32 32) = padEnd (counts m c) := by
  unfold V hostOps0 hostOps0_1 hostOps0_2 hostOps0_3 hostOps0_4 hostOps0_5 hostOps0_6
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 1600000 in
theorem V_e (c : Dev nD) : (V m c main_v19 : IVec S288 32) = eTab (padEnd (counts m c)) := by
  unfold V hostOps0 hostOps0_1 hostOps0_2 hostOps0_3 hostOps0_4 hostOps0_5 hostOps0_6
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 1600000 in
theorem V_first (c : Dev nD) : (V m c main_v25 : IVec S288 32) = firstTab (V m c main_v19) := by
  unfold firstTab V hostOps0 hostOps0_1 hostOps0_2 hostOps0_3 hostOps0_4 hostOps0_5 hostOps0_6
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results
  all_goals (try with_reducible rfl)

set_option maxHeartbeats 1600000 in
theorem V_used (c : Dev nD) : (V m c main_v27 : IVec S1 32) = usedTab (padEnd (counts m c)) := by
  unfold V hostOps0 hostOps0_1 hostOps0_2 hostOps0_3 hostOps0_4 hostOps0_5 hostOps0_6
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
end Read

/-! ## What the tables hold -/

/-- A block's expert is one of the thirty-two. -/
theorem e_le (p : IVec S32 32) (j : S288.Idx) : (eTab p j).toNat ≤ 31 := by
  have hc := StableHlo.Predicate.toNat_reduce_count_cols (n := 288) (m := 32) (by decide) (ended p) natLt_1_32 reducesTo_S288x32_S288_d1 h_S_ j
  have hb : (Host.reduce IntOp.addi (extui 32 (ended p) natLt_1_32) (constantI S_ 32 0#32) reducesTo_S288x32_S288_d1 h_S_ j).toNat ≤ 32 :=
    hc.le.trans ((Finset.card_le_univ _).trans (by simp))
  show (IntOp.minsi _ 31#32).toNat ≤ 31
  revert hb
  generalize Host.reduce IntOp.addi (extui 32 (ended p) natLt_1_32) (constantI S_ 32 0#32) reducesTo_S288x32_S288_d1 h_S_ j = w
  intro hb
  unfold IntOp.minsi
  split
  · next h =>
    have h' : w.toInt < (31#32 : BitVec 32).toInt := BitVec.slt_iff_toInt_lt.mp h
    have e1 : w.toInt = w.toNat := BitVec.toInt_eq_toNat_of_lt (by omega)
    have e2 : (31#32 : BitVec 32).toInt = 31 := by decide
    omega
  · decide

/-- Position `n` of a table of 288. -/
abbrev at288 (n : ℕ) (h : n < 288) : S288.Idx := fun a => ⟨n, by fin_cases a; exact h⟩

theorem first_or (e : IVec S288 32) (n : ℕ) (h : n < 288) :
    isFirst (firstTab e (at288 n h)) ∨ ∃ _ : n ≠ 0, e (at288 n h) = e (at288 (n - 1) (by omega)) := by
  unfold firstTab
  by_cases h0 : n = 0
  · left
    subst h0
    rw [concatenate_pair_apply_left (t := S288) (s₁ := S1) (s₂ := S287) 0 _ _ _ (at288 0 h) rfl
      (fun a => ⟨0, by fin_cases a; decide⟩) (by intro b; rfl), isFirst_iff]
    decide
  · rw [concatenate_pair_apply_right (t := S288) (s₁ := S1) (s₂ := S287) 0 _ _ _ (at288 n h) rfl rfl
      (fun a => ⟨n - 1, by fin_cases a; show n - 1 < 287; omega⟩) (by intro b hb; exact absurd (Subsingleton.elim (α := Fin 1) _ _) hb)
      (by show n - 1 + 1 = n; omega), isFirst_iff]
    by_cases he : e (at288 n h) = e (at288 (n - 1) (by omega))
    · exact .inr ⟨h0, he⟩
    · left
      have e1 : extractStridedSlice S287 ![1] e slices_S288_S287_1 (fun a => ⟨n - 1, by fin_cases a; show n - 1 < 287; omega⟩) = e (at288 n h) :=
        congrArg e (funext fun a => Fin.ext (by fin_cases a; show 1 + (n - 1) = n; omega))
      have e2 : extractStridedSlice S287 ![0] e slices_S288_S287_0 (fun a => ⟨n - 1, by fin_cases a; show n - 1 < 287; omega⟩) = e (at288 (n - 1) (by omega)) :=
        congrArg e (funext fun a => Fin.ext (by fin_cases a; show 0 + (n - 1) = n - 1; omega))
      show BitVec.slt 0#32 ((BitVec.ofBool ((extractStridedSlice S287 ![1] e slices_S288_S287_1 _) != (extractStridedSlice S287 ![0] e slices_S288_S287_0 _))).setWidth 32) = true
      rw [e1, e2, bne_iff_ne.mpr he]
      decide

/-! ## The blocks the tables name -/

variable (m : (ℓ : Loc nD τ sig) → Buf (Elt F) ℓ)

/-- The rows of the expert table lie among the thirty-two experts. -/
theorem word_le (i : S288.Idx) : ((tbl m 0 : IVec S288 32) i).toNat ≤ 31 := by
  have e : (tbl m 0 : IVec S288 32) = eTab (padEnd (counts m 0)) := V_e m 0
  rw [e]; exact e_le _ _

/-- The cell of the tables a grid point reads. -/
abbrev cell (i : grid0.Coords) : S288.Idx :=
  (Rect.unit (s := S288) (k0_off1 i) S1.size (k0_off1_inb i)).emb (Shape.Idx.first (numel1_S1 ▸ Nat.one_pos))
/-- The expert a grid point names. -/
abbrev expert (i : grid0.Coords) : ℕ := ((tbl m 0 : IVec S288 32) (cell i)).toNat

theorem off1_val : ∀ t : Fin grid0.N, k0_off1 (grid0.coords t) 0 = t.val := by decide +kernel
theorem cell_eq (t : Fin grid0.N) : cell (grid0.coords t) = at288 t.val t.isLt :=
  funext fun a => Fin.ext (by obtain rfl : a = 0 := Subsingleton.elim (α := Fin 1) _ _; show k0_off1 (grid0.coords t) 0 + 0 * 1 = t.val; rw [off1_val]; omega)

theorem idx1 (i : grid0.Coords) : cc0_transform_1 k0_off1_inb numel1_S1 (tbl m) i = ![expert m i, 0, 0] := rfl
theorem idx2 (i : grid0.Coords) : cc0_transform_2 k0_off1_inb numel1_S1 (tbl m) i = ![expert m i, 0, 0] := rfl
theorem idx3 (i : grid0.Coords) : cc0_transform_3 k0_off1_inb numel1_S1 (tbl m) i = ![expert m i, 0, 0] := rfl
theorem idx4 (i : grid0.Coords) : cc0_transform_4 k0_off1_inb numel1_S1 (tbl m) i = ![expert m i, 0, 0] := rfl
theorem expert_le (i : grid0.Coords) : expert m i ≤ 31 := word_le m _

/-- Every block the tables name lies inside its array. -/
theorem ok : Ok m := by
  refine ⟨fun i => ⟨?_, .inl rfl⟩, fun i => ⟨?_, .inl rfl⟩, fun i => ⟨?_, .inl rfl⟩, fun i => ⟨?_, .inl rfl⟩⟩
  · rw [idx1]; have h := expert_le m i; generalize expert m i = e at h
    intro a; fin_cases a
    · show (e + 1) * 1 ≤ 32; omega
    · show (0 + 1) * _ ≤ _; decide
    · show (0 + 1) * _ ≤ _; decide
  · rw [idx2]; have h := expert_le m i; generalize expert m i = e at h
    intro a; fin_cases a
    · show (e + 1) * 1 ≤ 32; omega
    · show (0 + 1) * _ ≤ _; decide
    · show (0 + 1) * _ ≤ _; decide
  · rw [idx3]; have h := expert_le m i; generalize expert m i = e at h
    intro a; fin_cases a
    · show (e + 1) * 1 ≤ 32; omega
    · show (0 + 1) * _ ≤ _; decide
    · show (0 + 1) * _ ≤ _; decide
  · rw [idx4]; have h := expert_le m i; generalize expert m i = e at h
    intro a; fin_cases a
    · show (e + 1) * 1 ≤ 32; omega
    · show (0 + 1) * _ ≤ _; decide
    · show (0 + 1) * _ ≤ _; decide

theorem blk_at {s : Shape} (r : Rect s) (h : ∀ a, r.stride a = 1) (y : r.shape.Idx) (a : Fin s.rank) : (r.emb y a : ℕ) = r.off a + (y a).val := by
  rw [Rect.emb_apply, h, Nat.one_mul]
theorem emb1 (A : (pcfg0 (F := F)).Adm) (t : Fin (cfg0 A).N) (y : S1x1024x2048.Idx) (a : Fin 3) :
    ((((cfg0 A).win 1).blk t).view.emb y a : ℕ) = cc0_transform_1 k0_off1_inb numel1_S1 A.1 (grid0.coords t) a * S1x1024x2048.size a + (y a).val :=
  blk_at (((cfg0 A).win 1).rect t) (fun _ => rfl) y a
theorem emb2 (A : (pcfg0 (F := F)).Adm) (t : Fin (cfg0 A).N) (y : S1x1x2048.Idx) (a : Fin 3) :
    ((((cfg0 A).win 2).blk t).view.emb y a : ℕ) = cc0_transform_2 k0_off1_inb numel1_S1 A.1 (grid0.coords t) a * S1x1x2048.size a + (y a).val :=
  blk_at (((cfg0 A).win 2).rect t) (fun _ => rfl) y a
theorem emb3 (A : (pcfg0 (F := F)).Adm) (t : Fin (cfg0 A).N) (y : S1x1024x1024.Idx) (a : Fin 3) :
    ((((cfg0 A).win 3).blk t).view.emb y a : ℕ) = cc0_transform_3 k0_off1_inb numel1_S1 A.1 (grid0.coords t) a * S1x1024x1024.size a + (y a).val :=
  blk_at (((cfg0 A).win 3).rect t) (fun _ => rfl) y a
theorem emb4 (A : (pcfg0 (F := F)).Adm) (t : Fin (cfg0 A).N) (y : S1x1x1024.Idx) (a : Fin 3) :
    ((((cfg0 A).win 4).blk t).view.emb y a : ℕ) = cc0_transform_4 k0_off1_inb numel1_S1 A.1 (grid0.coords t) a * S1x1x1024.size a + (y a).val :=
  blk_at (((cfg0 A).win 4).rect t) (fun _ => rfl) y a
/-! A block of the weights is its expert's. -/

theorem iblk1 (c : Dev nD) (t : Fin (cfgM m (ok m)).N) (y : S1x1024x2048.Idx) (j : S32x1024x2048.Idx)
    (hj : ∀ a, (j a).val = ![expert m (grid0.coords t), 0, 0] a * S1x1024x2048.size a + (y a).val) :
    iblk m (ok m) c 1 t y = (V m c main_v28 : S32x1024x2048.Idx → Elt F .f32) j := by
  unfold iblk
  refine congrArg (V m c main_v28 : S32x1024x2048.Idx → Elt F .f32) (funext fun a => Fin.ext (Eq.trans ?_ (hj a).symm))
  exact (emb1 (adm m (ok m)) t y a).trans (congrArg (fun f : Fin 3 → ℕ => f a * S1x1024x2048.size a + (y a).val) (idx1 m (grid0.coords t)))
theorem iblk1_same (c : Dev nD) (t t' : Fin (cfgM m (ok m)).N) (h : expert m (grid0.coords t) = expert m (grid0.coords t')) :
    iblk m (ok m) c 1 t = iblk m (ok m) c 1 t' := by
  funext (y : S1x1024x2048.Idx)
  have hb : ∀ a, ![expert m (grid0.coords t), 0, 0] a * S1x1024x2048.size a + (y a).val < S32x1024x2048.size a := by
    have he := expert_le m (grid0.coords t)
    intro a
    have hy := (y a).isLt
    fin_cases a
    · have hy : (y 0).val < 1 := hy
      show expert m (grid0.coords t) * 1 + (y 0).val < 32; omega
    · show 0 * _ + _ < _; rw [Nat.zero_mul, Nat.zero_add]; exact hy
    · show 0 * _ + _ < _; rw [Nat.zero_mul, Nat.zero_add]; exact hy
  exact (iblk1 m c t y (fun a => ⟨_, hb a⟩) fun _ => rfl).trans (iblk1 m c t' y (fun a => ⟨_, hb a⟩) fun _ => by rw [← h]).symm

theorem iblk3 (c : Dev nD) (t : Fin (cfgM m (ok m)).N) (y : S1x1024x1024.Idx) (j : S32x1024x1024.Idx)
    (hj : ∀ a, (j a).val = ![expert m (grid0.coords t), 0, 0] a * S1x1024x1024.size a + (y a).val) :
    iblk m (ok m) c 3 t y = (V m c main_v31 : S32x1024x1024.Idx → Elt F .f32) j := by
  unfold iblk
  refine congrArg (V m c main_v31 : S32x1024x1024.Idx → Elt F .f32) (funext fun a => Fin.ext (Eq.trans ?_ (hj a).symm))
  exact (emb3 (adm m (ok m)) t y a).trans (congrArg (fun f : Fin 3 → ℕ => f a * S1x1024x1024.size a + (y a).val) (idx3 m (grid0.coords t)))
theorem iblk3_same (c : Dev nD) (t t' : Fin (cfgM m (ok m)).N) (h : expert m (grid0.coords t) = expert m (grid0.coords t')) :
    iblk m (ok m) c 3 t = iblk m (ok m) c 3 t' := by
  funext (y : S1x1024x1024.Idx)
  have hb : ∀ a, ![expert m (grid0.coords t), 0, 0] a * S1x1024x1024.size a + (y a).val < S32x1024x1024.size a := by
    have he := expert_le m (grid0.coords t)
    intro a
    have hy := (y a).isLt
    fin_cases a
    · have hy : (y 0).val < 1 := hy
      show expert m (grid0.coords t) * 1 + (y 0).val < 32; omega
    · show 0 * _ + _ < _; rw [Nat.zero_mul, Nat.zero_add]; exact hy
    · show 0 * _ + _ < _; rw [Nat.zero_mul, Nat.zero_add]; exact hy
  exact (iblk3 m c t y (fun a => ⟨_, hb a⟩) fun _ => rfl).trans (iblk3 m c t' y (fun a => ⟨_, hb a⟩) fun _ => by rw [← h]).symm

theorem reuse : Reuse m (ok m) := by
  intro c t
  obtain rfl : c = 0 := Subsingleton.elim _ _
  have hw : wFirst 0 (grid0.coords t) (tbl m 1) = firstTab (tbl m 0) (at288 t.val t.isLt) :=
    (congrFun (V_first m 0) (cell (grid0.coords t))).trans (congrArg (firstTab (tbl m 0)) (cell_eq t))
  rw [hw]
  rcases first_or (tbl m 0) t.val t.isLt with h | ⟨h0, he⟩
  · exact .inl h
  · refine .inr ⟨h0, ?_, ?_⟩
    · refine iblk1_same m 0 _ _ ?_
      exact congrArg BitVec.toNat ((congrArg (tbl m 0) (cell_eq t)).trans (he.trans (congrArg (tbl m 0) (cell_eq ⟨t.val - 1, by have := t.isLt; have e : (cfgM m (ok m)).N = grid0.N := rfl; omega⟩)).symm))
    · refine iblk3_same m 0 _ _ ?_
      exact congrArg BitVec.toNat ((congrArg (tbl m 0) (cell_eq t)).trans (he.trans (congrArg (tbl m 0) (cell_eq ⟨t.val - 1, by have := t.isLt; have e : (cfgM m (ok m)).N = grid0.N := rfl; omega⟩)).symm))

/-- Every run ends, leaves the arguments as they were, and every semaphore at zero. -/
theorem args_kept (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_of_tables m ρ (ok m) (reuse m)

end Cert.Kernel4Ideal.Experts

end
-- ==== Proof.Experts.Rows.lean ====
module

public import proofs.«01_k».proof.Defs
public import proofs.«01_k».proof.Proof.Gen.Reference4Ideal.Run
public import proofs.«01_k».proof.Proof.Experts.Tables

@[expose] public section

namespace Cert.Experts
open Idealize.ShloMosaic

/-- A token's hidden units, before the activation. -/
noncomputable def unit (x : Fin 1024 → EReal) (w : Fin 1024 → Fin 2048 → EReal) (b : Fin 2048 → EReal) (j : Fin 2048) : EReal :=
  ∑ k, x k * w k j + b j

/-- The activation: the first half gates the second. -/
noncomputable def act (p : Fin 2048 → EReal) (f : Fin 1024) : EReal :=
  (min (Ideal.ofBits FTy.f32 0x40E00000#32) (max (Ideal.ofBits FTy.f32 0xC0E00000#32) (p ⟨1024 + f.val, by omega⟩)) + Ideal.ofBits FTy.f32 0x3F800000#32)
    * (min (p ⟨f.val, by omega⟩) (Ideal.ofBits FTy.f32 0x40E00000#32)
      * Ideal.logistic (Ideal.ofBits FTy.f32 0x3FD9DB23#32 * min (p ⟨f.val, by omega⟩) (Ideal.ofBits FTy.f32 0x40E00000#32)))

/-- A token's output from its hidden units. -/
noncomputable def down (a : Fin 1024 → EReal) (w : Fin 1024 → Fin 1024 → EReal) (b : Fin 1024 → EReal) (k : Fin 1024) : EReal :=
  ∑ f, a f * w f k + b k

end Cert.Experts

namespace Cert.Kernel4Ideal.Experts
open Idealize.ShloMosaic Cert.Experts
open Cert.Kernel4Ideal.Gen

theorem hidden_apply (x : Vec Ideal S512x8x128 .bf16) (w : FVec Ideal S1024x2048 .bf16) (b : Vec Ideal S1x1x2048 .f32) (r : Fin 512) (j : Fin 2048) :
    (addf (matmul (F := Ideal) dot_S512x1024_S1024x2048_S512x2048_1_0_0_1_n_n none (shapeCast S512x1024 x shapeCasts_S512x8x128_S512x1024 : FVec Ideal S512x1024 .bf16) (w : FVec Ideal S1024x2048 .bf16) (constant S512x2048 .f32 0x00000000#32))
      (broadcastTo S512x2048 (shapeCast S1x2048 b shapeCasts_S1x1x2048_S1x2048) broadcasts_S1x2048_S512x2048) : S512x2048.Idx → EReal) (ix2 r j)
      = unit (fun k => x (ix3 r ⟨k.val / 128, by omega⟩ ⟨k.val % 128, by omega⟩)) (fun k j => w (ix2 k j)) (fun j => b (ix3 0 0 j)) j := by
  unfold unit
  pointwise [dot_S512x1024_S1024x2048_S512x2048_1_0_0_1_n_n]
  try rfl

theorem pay1_apply (w : Vec Ideal S1x1024x2048 .f32) (k : Fin 1024) (j : Fin 2048) : k0_pay1 (F := Ideal) w (ix2 k j) = w (ix3 0 k j) := by
  unfold k0_pay1
  pointwise
  try rfl
theorem pay2_apply (w : Vec Ideal S1x1024x1024 .f32) (k : Fin 1024) (j : Fin 1024) : k0_pay2 (F := Ideal) w (ix2 k j) = w (ix3 0 k j) := by
  unfold k0_pay2
  pointwise
  try rfl

theorem pay4_apply (r : Fin 512) (a : Fin 8) (b : Fin 128) : k0_pay4 (F := Ideal) (ix3 r a b) = (0 : EReal) := by
  unfold k0_pay4
  pointwise
  try rfl

theorem pay3_apply (x : Vec Ideal S512x8x128 .bf16) (w : FVec Ideal S1024x2048 .bf16) (b : Vec Ideal S1x1x2048 .f32)
    (w' : Vec Ideal S1024x1024 .bf16) (b' : Vec Ideal S1x1x1024 .f32) (r : Fin 512) (i : Fin 8) (j : Fin 128) :
    k0_pay3 (F := Ideal) x w b w' b' (ix3 r i j)
      = down (act (unit (fun k => x (ix3 r ⟨k.val / 128, by omega⟩ ⟨k.val % 128, by omega⟩)) (fun k j => w (ix2 k j)) (fun j => b (ix3 0 0 j))))
        (fun k j => w' (ix2 k j)) (fun j => b' (ix3 0 0 j)) ⟨i.val * 128 + j.val, by omega⟩ := by
  unfold k0_pay3
  generalize hP : addf (matmul (F := Ideal) dot_S512x1024_S1024x2048_S512x2048_1_0_0_1_n_n none _ _ _) _ = P
  have e : ∀ j, (P : S512x2048.Idx → EReal) (ix2 r j) = unit (fun k => x (ix3 r ⟨k.val / 128, by omega⟩ ⟨k.val % 128, by omega⟩)) (fun k j => w (ix2 k j)) (fun j => b (ix3 0 0 j)) j := by
    intro j; subst hP; exact hidden_apply x w b r j
  rw [show unit (fun k => x (ix3 r ⟨k.val / 128, by omega⟩ ⟨k.val % 128, by omega⟩)) (fun k j => w (ix2 k j)) (fun j => b (ix3 0 0 j)) = fun j => (P : S512x2048.Idx → EReal) (ix2 r j) from funext fun j => (e j).symm]
  unfold down act
  pointwise [dot_S512x1024_S1024x1024_S512x1024_1_0_0_1_n_n]
  try rfl

end Cert.Kernel4Ideal.Experts
-- ==== Proof.Experts.RefRows.lean ====
module

public import proofs.«01_k».proof.Proof.Experts.Rows

@[expose] public section

namespace Cert.Reference4Ideal.Experts
open Idealize.ShloMosaic Cert.Experts
open Cert.Reference4Ideal.Gen Cert.Reference4Ideal.Value

abbrev dW1 := gather_S32x1024x2048_S288x1_S288x1024x2048_12_0_n_n_0_1_110242048
abbrev dB1 := gather_S32x2048_S288x1_S288x2048_1_0_n_n_0_1_12048
abbrev dW2 := gather_S32x1024x1024_S288x1_S288x1024x1024_12_0_n_n_0_1_110241024
abbrev dB2 := gather_S32x1024_S288x1_S288x1024_1_0_n_n_0_1_11024

/-- The rows of the tables as a column of indices, a negative one counted from the end. -/
def idxCol (e : IVec S288 32) : IVec S288x1 32 :=
  broadcastInDim S288x1 ![0] bcast_S288_S288x1_0 (select (cmpi .slt e (broadcastInDim S288 ![] bcast_S_S288 (constantI S_ 32 0#32))) (addi e (broadcastInDim S288 ![] bcast_S_S288 (constantI S_ 32 32#32))) e)

theorem idxCol_apply (e : IVec S288 32) (t : Fin 288) (h : (e (ix1 t)).toNat ≤ 31) : idxCol e (ix2 t 0) = e (ix1 t) := by
  have e0 : idxCol e (ix2 t 0) = if BitVec.ofBool ((e (ix1 t)).slt 0#32) = 1#1 then e (ix1 t) + 32#32 else e (ix1 t) := by
    unfold idxCol
    pointwise
    try rfl
  rw [e0, if_neg]
  have : (e (ix1 t)).slt 0#32 = false := by
    rw [Bool.eq_false_iff, Ne, BitVec.slt_iff_toInt_lt, BitVec.toInt_eq_toNat_of_lt (by omega)]
    have e2 : (0#32 : BitVec 32).toInt = 0 := by decide
    omega
  rw [this]; decide

theorem clamp (e : Fin 32) : min ((BitVec.ofNat 32 e.val).toInt).toNat 31 + 0 + 0 = e.val := by
  revert e; decide

theorem gW1 (x : Vec Ideal S32x1024x2048 .f32) (idx : IVec S288x1 32) (t : Fin 288) (k : Fin 1024) (j : Fin 2048) (e : Fin 32)
    (h : idx (ix2 t 0) = BitVec.ofNat 32 e.val) : Host.gather dW1 x idx (ix3 t k j) = x (ix3 e k j) := by
  unfold Host.gather
  refine congrArg x (funext fun a => Fin.ext ?_)
  match a with
  | ⟨0, _⟩ =>
    have hs : dW1.siIdx (ix3 t k j) ⟨0, by decide⟩ = ix2 t 0 := by
      funext b
      match b with
      | ⟨0, _⟩ => rfl
      | ⟨1, _⟩ => rfl
    show min ((idx (dW1.siIdx (ix3 t k j) ⟨0, by decide⟩)).toInt).toNat 31 + 0 + 0 = e.val
    rw [hs, h, clamp]
  | ⟨1, _⟩ => show 0 + 0 + k.val = k.val; omega
  | ⟨2, _⟩ => show 0 + 0 + j.val = j.val; omega

theorem gW2 (x : Vec Ideal S32x1024x1024 .f32) (idx : IVec S288x1 32) (t : Fin 288) (k : Fin 1024) (j : Fin 1024) (e : Fin 32)
    (h : idx (ix2 t 0) = BitVec.ofNat 32 e.val) : Host.gather dW2 x idx (ix3 t k j) = x (ix3 e k j) := by
  unfold Host.gather
  refine congrArg x (funext fun a => Fin.ext ?_)
  match a with
  | ⟨0, _⟩ =>
    have hs : dW2.siIdx (ix3 t k j) ⟨0, by decide⟩ = ix2 t 0 := by
      funext b
      match b with
      | ⟨0, _⟩ => rfl
      | ⟨1, _⟩ => rfl
    show min ((idx (dW2.siIdx (ix3 t k j) ⟨0, by decide⟩)).toInt).toNat 31 + 0 + 0 = e.val
    rw [hs, h, clamp]
  | ⟨1, _⟩ => show 0 + 0 + k.val = k.val; omega
  | ⟨2, _⟩ => show 0 + 0 + j.val = j.val; omega

theorem gB1 (x : Vec Ideal S32x2048 .f32) (idx : IVec S288x1 32) (t : Fin 288) (j : Fin 2048) (e : Fin 32)
    (h : idx (ix2 t 0) = BitVec.ofNat 32 e.val) : Host.gather dB1 x idx (ix2 t j) = x (ix2 e j) := by
  unfold Host.gather
  refine congrArg x (funext fun a => Fin.ext ?_)
  match a with
  | ⟨0, _⟩ =>
    have hs : dB1.siIdx (ix2 t j) ⟨0, by decide⟩ = ix2 t 0 := by
      funext b
      match b with
      | ⟨0, _⟩ => rfl
      | ⟨1, _⟩ => rfl
    show min ((idx (dB1.siIdx (ix2 t j) ⟨0, by decide⟩)).toInt).toNat 31 + 0 + 0 = e.val
    rw [hs, h, clamp]
  | ⟨1, _⟩ => show 0 + 0 + j.val = j.val; omega

theorem gB2 (x : Vec Ideal S32x1024 .f32) (idx : IVec S288x1 32) (t : Fin 288) (j : Fin 1024) (e : Fin 32)
    (h : idx (ix2 t 0) = BitVec.ofNat 32 e.val) : Host.gather dB2 x idx (ix2 t j) = x (ix2 e j) := by
  unfold Host.gather
  refine congrArg x (funext fun a => Fin.ext ?_)
  match a with
  | ⟨0, _⟩ =>
    have hs : dB2.siIdx (ix2 t j) ⟨0, by decide⟩ = ix2 t 0 := by
      funext b
      match b with
      | ⟨0, _⟩ => rfl
      | ⟨1, _⟩ => rfl
    show min ((idx (dB2.siIdx (ix2 t j) ⟨0, by decide⟩)).toInt).toNat 31 + 0 + 0 = e.val
    rw [hs, h, clamp]
  | ⟨1, _⟩ => show 0 + 0 + j.val = j.val; omega

/-- The hidden units of all blocks. -/
noncomputable def hid (X : Vec Ideal S147456x8x128 .bf16) (W : Vec Ideal S1x32x1024x2048 .f32) (B : Vec Ideal S1x32x2048 .f32) (idx : IVec S288x1 32) : FVec Ideal S288x512x2048 .f32 :=
  addf (Host.dotGeneral dot_S288x512x1024_S288x1024x2048_S288x512x2048_2_1_1_2_0_0 none (extf .f32 (shapeCast S288x512x1024 X shapeCasts_S147456x8x128_S288x512x1024 : FVec Ideal S288x512x1024 .bf16) bitsLt_bf16_f32)
      (Host.gather dW1 (shapeCast S32x1024x2048 W shapeCasts_S1x32x1024x2048_S32x1024x2048) idx : FVec Ideal S288x1024x2048 .f32))
    (broadcastInDim S288x512x2048 ![0, 1, 2] bcast_S288x1x2048_S288x512x2048_0_1_2 (broadcastInDim S288x1x2048 ![0, 2] bcast_S288x2048_S288x1x2048_0_2 (Host.gather dB1 (shapeCast S32x2048 B shapeCasts_S1x32x2048_S32x2048) idx)))

/-- The gate of all blocks. -/
noncomputable def gateOf (H : FVec Ideal S288x512x2048 .f32) : FVec Ideal S288x512x1024 .f32 :=
  minimumf (extractStridedSlice S288x512x1024 ![0, 0, 0] H slices_S288x512x2048_S288x512x1024_0_0_0) (broadcastInDim S288x512x1024 ![] bcast_S_S288x512x1024 (constant S_ .f32 0x40E00000#32))

/-- The activations of all blocks. -/
noncomputable def actOf (H : FVec Ideal S288x512x2048 .f32) : FVec Ideal S288x512x1024 .f32 :=
  mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] H slices_S288x512x2048_S288x512x1024_0_0_1024))) (broadcastInDim S288x512x1024 ![] bcast_S_S288x512x1024 (constant S_ .f32 0x3F800000#32)))
    (mulf (gateOf H) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (gateOf H)))))))

/-- The outputs of all blocks. -/
noncomputable def downOf (A : FVec Ideal S288x512x1024 .f32) (W : Vec Ideal S1x32x1024x1024 .f32) (B : Vec Ideal S1x32x1024 .f32) (idx : IVec S288x1 32) : FVec Ideal S288x512x1024 .f32 :=
  addf (Host.dotGeneral dot_S288x512x1024_S288x1024x1024_S288x512x1024_2_1_1_2_0_0 none A (Host.gather dW2 (shapeCast S32x1024x1024 W shapeCasts_S1x32x1024x1024_S32x1024x1024) idx : FVec Ideal S288x1024x1024 .f32))
    (broadcastInDim S288x512x1024 ![0, 1, 2] bcast_S288x1x1024_S288x512x1024_0_1_2 (broadcastInDim S288x1x1024 ![0, 2] bcast_S288x1024_S288x1x1024_0_2 (Host.gather dB2 (shapeCast S32x1024 B shapeCasts_S1x32x1024_S32x1024) idx)))

/-- The used blocks' outputs, zero elsewhere. -/
noncomputable def kept (u : IVec S1 32) (Y : FVec Ideal S288x512x1024 .f32) : FVec Ideal S147456x8x128 .bf16 :=
  shapeCast S147456x8x128 (truncf .bf16 (select (broadcastInDim S288x512x1024 ![0, 1, 2] bcast_S288x1x1_S288x512x1024_0_1_2 (broadcastInDim S288x1x1 ![0] bcast_S288_S288x1x1_0 (cmpi .slt (iotaInDim S288 32 0) (broadcastInDim S288 ![0] bcast_S1_S288_0 u)))) Y
    (broadcastInDim S288x512x1024 ![] bcast_S_S288x512x1024 (id (constant S_ .f32 0x00000000#32)))) bitsLt_bf16_f32) shapeCasts_S288x512x1024_S147456x8x128

theorem hid_apply (X : Vec Ideal S147456x8x128 .bf16) (W : Vec Ideal S1x32x1024x2048 .f32) (B : Vec Ideal S1x32x2048 .f32) (idx : IVec S288x1 32)
    (t : Fin 288) (r : Fin 512) (j : Fin 2048) (e : Fin 32) (h : idx (ix2 t 0) = BitVec.ofNat 32 e.val) :
    hid X W B idx (ix3 t r j) = unit (fun k => X (ix3 ⟨t.val * 512 + r.val, by omega⟩ ⟨k.val / 128, by omega⟩ ⟨k.val % 128, by omega⟩)) (fun k j => W (ix4 0 e k j)) (fun j => B (ix3 0 e j)) j := by
  have g1 : ∀ k j, (Host.gather dW1 (shapeCast S32x1024x2048 W shapeCasts_S1x32x1024x2048_S32x1024x2048) idx : FVec Ideal S288x1024x2048 .f32) (ix3 t k j) = W (ix4 0 e k j) := fun k j => by
    rw [gW1 _ idx t k j e h]
    pointwise
    try rfl
  have g2 : ∀ j, (Host.gather dB1 (shapeCast S32x2048 B shapeCasts_S1x32x2048_S32x2048) idx : FVec Ideal S288x2048 .f32) (ix2 t j) = B (ix3 0 e j) := fun j => by
    rw [gB1 _ idx t j e h]
    pointwise
    try rfl
  have g3 : ∀ k, (extf .f32 (shapeCast S288x512x1024 X shapeCasts_S147456x8x128_S288x512x1024 : FVec Ideal S288x512x1024 .bf16) bitsLt_bf16_f32 : FVec Ideal S288x512x1024 .f32) (ix3 t r k) = X (ix3 ⟨t.val * 512 + r.val, by omega⟩ ⟨k.val / 128, by omega⟩ ⟨k.val % 128, by omega⟩) := fun k => by
    pointwise
    try rfl
  unfold hid unit
  generalize (Host.gather dW1 _ idx : FVec Ideal S288x1024x2048 .f32) = G1 at *
  generalize (Host.gather dB1 _ idx : FVec Ideal S288x2048 .f32) = G2 at *
  generalize (extf .f32 (shapeCast S288x512x1024 X shapeCasts_S147456x8x128_S288x512x1024 : FVec Ideal S288x512x1024 .bf16) bitsLt_bf16_f32 : FVec Ideal S288x512x1024 .f32) = G3 at *
  simp only [← g1, ← g2, ← g3]
  pointwise [dot_S288x512x1024_S288x1024x2048_S288x512x2048_2_1_1_2_0_0]
  try rfl

theorem actOf_apply (H : FVec Ideal S288x512x2048 .f32) (t : Fin 288) (r : Fin 512) (f : Fin 1024) :
    actOf H (ix3 t r f) = act (fun j => H (ix3 t r j)) f := by
  unfold actOf gateOf act
  pointwise
  unfold Ideal.logistic
  try rfl

theorem downOf_apply (A : FVec Ideal S288x512x1024 .f32) (W : Vec Ideal S1x32x1024x1024 .f32) (B : Vec Ideal S1x32x1024 .f32) (idx : IVec S288x1 32)
    (t : Fin 288) (r : Fin 512) (j : Fin 1024) (e : Fin 32) (h : idx (ix2 t 0) = BitVec.ofNat 32 e.val) :
    downOf A W B idx (ix3 t r j) = down (fun f => A (ix3 t r f)) (fun k j => W (ix4 0 e k j)) (fun j => B (ix3 0 e j)) j := by
  have g1 : ∀ k j, (Host.gather dW2 (shapeCast S32x1024x1024 W shapeCasts_S1x32x1024x1024_S32x1024x1024) idx : FVec Ideal S288x1024x1024 .f32) (ix3 t k j) = W (ix4 0 e k j) := fun k j => by
    rw [gW2 _ idx t k j e h]
    pointwise
    try rfl
  have g2 : ∀ j, (Host.gather dB2 (shapeCast S32x1024 B shapeCasts_S1x32x1024_S32x1024) idx : FVec Ideal S288x1024 .f32) (ix2 t j) = B (ix3 0 e j) := fun j => by
    rw [gB2 _ idx t j e h]
    pointwise
    try rfl
  unfold downOf down
  generalize (Host.gather dW2 _ idx : FVec Ideal S288x1024x1024 .f32) = G1 at *
  generalize (Host.gather dB2 _ idx : FVec Ideal S288x1024 .f32) = G2 at *
  simp only [← g1, ← g2]
  pointwise [dot_S288x512x1024_S288x1024x1024_S288x512x1024_2_1_1_2_0_0]
  try rfl

theorem kept_apply (u : IVec S1 32) (Y : FVec Ideal S288x512x1024 .f32) (t : Fin 288) (r : Fin 512) (i : Fin 8) (j : Fin 128) :
    kept u Y (ix3 ⟨t.val * 512 + r.val, by omega⟩ i j) = if (BitVec.ofNat 32 t.val).slt (u (ix1 0)) then Y (ix3 t r ⟨i.val * 128 + j.val, by omega⟩) else 0 := by
  unfold kept
  pointwise
  show (if BitVec.ofBool ((BitVec.ofNat 32 t.val).slt (u (ix1 0))) = 1#1 then Y (ix3 t r ⟨i.val * 128 + j.val, _⟩) else (Ideal.ofBits FTy.f32 0#32 : EReal)) = _
  by_cases h : (BitVec.ofNat 32 t.val).slt (u (ix1 0)) = true
  · rw [if_pos h, h, if_pos (by decide)]
  · rw [if_neg h, Bool.eq_false_iff.mpr h, if_neg (by decide)]
    simp

variable (m : (ℓ : Loc nD τ sig) → Buf (Elt Ideal) ℓ) (c : Dev nD)

/-- Where each expert's padded rows end. -/
abbrev ends : IVec S32 32 := Cert.Kernel4Ideal.Experts.padEnd (m (c.tc.loc main_arg0) : IVec S32 32)
/-- Each block's expert, as a table. -/
abbrev eT : IVec S288 32 := Cert.Kernel4Ideal.Experts.eTab (ends m c)
/-- The number of used blocks. -/
abbrev uT : IVec S1 32 := Cert.Kernel4Ideal.Experts.usedTab (ends m c)
/-- A block's expert. -/
def expertOf (t : Fin 288) : Fin 32 := ⟨(eT m c (ix1 t)).toNat, Nat.lt_succ_of_le (Cert.Kernel4Ideal.Experts.e_le _ _)⟩

theorem expertOf_val (t : Fin 288) : (expertOf m c t).val = BitVec.toNat (eT m c (ix1 t)) := by
  unfold expertOf
  dsimp only

set_option maxRecDepth 8192 in
theorem res_eq : (res_main_v87 m c : FVec Ideal S147456x8x128 .bf16)
    = kept (uT m c) (downOf (actOf (hid (m (c.tc.loc main_arg1)) (m (c.tc.loc main_arg2)) (m (c.tc.loc main_arg3)) (idxCol (eT m c)))) (m (c.tc.loc main_arg4)) (m (c.tc.loc main_arg5)) (idxCol (eT m c))) := by
  unfold res_main_v87
  rfl

/-- A used block's output at row `r` of block `t`. -/
noncomputable def rowOf (t : Fin 288) (r : Fin 512) (k : Fin 1024) : EReal :=
  down (act (unit (fun k => (m (c.tc.loc main_arg1) : S147456x8x128.Idx → EReal) (ix3 ⟨t.val * 512 + r.val, by omega⟩ ⟨k.val / 128, by omega⟩ ⟨k.val % 128, by omega⟩))
      (fun k j => (m (c.tc.loc main_arg2) : S1x32x1024x2048.Idx → EReal) (ix4 0 (expertOf m c t) k j)) (fun j => (m (c.tc.loc main_arg3) : S1x32x2048.Idx → EReal) (ix3 0 (expertOf m c t) j))))
    (fun k j => (m (c.tc.loc main_arg4) : S1x32x1024x1024.Idx → EReal) (ix4 0 (expertOf m c t) k j)) (fun j => (m (c.tc.loc main_arg5) : S1x32x1024.Idx → EReal) (ix3 0 (expertOf m c t) j)) k

/-- The output at row `r` of block `t`, at its column's two coordinates. -/
noncomputable def outOf (t : Fin 288) (r : Fin 512) (i : Fin 8) (j : Fin 128) : EReal :=
  if (BitVec.ofNat 32 t.val).slt (uT m c (ix1 0)) then rowOf m c t r ⟨i.val * 128 + j.val, by omega⟩ else 0

theorem res_apply (t : Fin 288) (r : Fin 512) (i : Fin 8) (j : Fin 128) :
    (res_out0 m c : S147456x8x128.Idx → EReal) (ix3 ⟨t.val * 512 + r.val, by omega⟩ i j) = outOf m c t r i j := by
  have hx : idxCol (eT m c) (ix2 t 0) = BitVec.ofNat 32 (expertOf m c t).val := by
    rw [idxCol_apply _ _ (Cert.Kernel4Ideal.Experts.e_le _ _)]
    unfold expertOf
    exact BitVec.eq_of_toNat_eq (by simp)
  rw [show res_out0 m c = _ from res_eq m c]
  refine (kept_apply _ _ t r i j).trans ?_
  unfold outOf rowOf
  rw [downOf_apply _ _ _ _ _ _ _ _ hx]
  simp only [actOf_apply, hid_apply _ _ _ _ _ _ _ _ hx]

end Cert.Reference4Ideal.Experts
-- ==== Proof.Experts.Value.lean ====
module

public import proofs.«01_k».proof.Proof.Experts.RefRows

@[expose] public section

namespace Cert.Kernel4Ideal.Experts
open Idealize.ShloMosaic Cert.Experts
open Cert.Kernel4Ideal.Gen
open Cert.Reference4Ideal.Experts (expertOf rowOf outOf)

/-- The two programs' arguments are the same arrays. -/
structure Same (m : (ℓ : Loc nD τ sig) → Buf (Elt Ideal) ℓ)
    (m' : (ℓ : Loc Cert.Reference4Ideal.nD Cert.Reference4Ideal.τ Cert.Reference4Ideal.sig) → Buf (Elt Ideal) ℓ) (c : Dev nD) : Prop where
  a0 : (m (c.tc.loc main_arg0) : IVec S32 32) = m' (c.tc.loc Cert.Reference4Ideal.main_arg0)
  a1 : (m (c.tc.loc main_arg1) : S147456x8x128.Idx → EReal) = m' (c.tc.loc Cert.Reference4Ideal.main_arg1)
  a2 : (m (c.tc.loc main_arg2) : S1x32x1024x2048.Idx → EReal) = m' (c.tc.loc Cert.Reference4Ideal.main_arg2)
  a3 : (m (c.tc.loc main_arg3) : S1x32x2048.Idx → EReal) = m' (c.tc.loc Cert.Reference4Ideal.main_arg3)
  a4 : (m (c.tc.loc main_arg4) : S1x32x1024x1024.Idx → EReal) = m' (c.tc.loc Cert.Reference4Ideal.main_arg4)
  a5 : (m (c.tc.loc main_arg5) : S1x32x1024.Idx → EReal) = m' (c.tc.loc Cert.Reference4Ideal.main_arg5)

section Blocks
variable (m : (ℓ : Loc nD τ sig) → Buf (Elt Ideal) ℓ)

/-! The weights as the host lays them out. -/

theorem lay_main_v28 (X : Vec Ideal S1x32x1024x2048 .f32) (e : Fin 32) (k : Fin 1024) (j : Fin 2048) : (shapeCast S32x1024x2048 X shapeCasts_S1x32x1024x2048_S32x1024x2048 : S32x1024x2048.Idx → EReal) (ix3 e k j) = X (ix4 0 e k j) := by
  pointwise
  try rfl
set_option maxHeartbeats 1600000 in
theorem host_main_v28 (c : Dev nD) (e : Fin 32) (k : Fin 1024) (j : Fin 2048) : (V m c main_v28 : S32x1024x2048.Idx → EReal) (ix3 e k j) = (m (c.tc.loc main_arg2) : S1x32x1024x2048.Idx → EReal) (ix4 0 e k j) := by
  have he : (V m c main_v28 : S32x1024x2048.Idx → EReal) = shapeCast S32x1024x2048 (m (c.tc.loc main_arg2) : Vec Ideal S1x32x1024x2048 .f32) shapeCasts_S1x32x1024x2048_S32x1024x2048 := by
    unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl
  rw [he]
  exact lay_main_v28 _ e k j
theorem lay_main_v31 (X : Vec Ideal S1x32x1024x1024 .f32) (e : Fin 32) (k : Fin 1024) (j : Fin 1024) : (shapeCast S32x1024x1024 X shapeCasts_S1x32x1024x1024_S32x1024x1024 : S32x1024x1024.Idx → EReal) (ix3 e k j) = X (ix4 0 e k j) := by
  pointwise
  try rfl
set_option maxHeartbeats 1600000 in
theorem host_main_v31 (c : Dev nD) (e : Fin 32) (k : Fin 1024) (j : Fin 1024) : (V m c main_v31 : S32x1024x1024.Idx → EReal) (ix3 e k j) = (m (c.tc.loc main_arg4) : S1x32x1024x1024.Idx → EReal) (ix4 0 e k j) := by
  have he : (V m c main_v31 : S32x1024x1024.Idx → EReal) = shapeCast S32x1024x1024 (m (c.tc.loc main_arg4) : Vec Ideal S1x32x1024x1024 .f32) shapeCasts_S1x32x1024x1024_S32x1024x1024 := by
    unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl
  rw [he]
  exact lay_main_v31 _ e k j
theorem lay_main_v30 (X : Vec Ideal S1x32x2048 .f32) (e : Fin 32) (j : Fin 2048) : (broadcastInDim S32x1x2048 ![0, 2] bcast_S32x2048_S32x1x2048_0_2 (shapeCast S32x2048 X shapeCasts_S1x32x2048_S32x2048) : S32x1x2048.Idx → EReal) (ix3 e 0 j) = X (ix3 0 e j) := by
  pointwise
  try rfl
set_option maxHeartbeats 1600000 in
theorem host_main_v30 (c : Dev nD) (e : Fin 32) (j : Fin 2048) : (V m c main_v30 : S32x1x2048.Idx → EReal) (ix3 e 0 j) = (m (c.tc.loc main_arg3) : S1x32x2048.Idx → EReal) (ix3 0 e j) := by
  have he : (V m c main_v30 : S32x1x2048.Idx → EReal) = broadcastInDim S32x1x2048 ![0, 2] bcast_S32x2048_S32x1x2048_0_2 (shapeCast S32x2048 (m (c.tc.loc main_arg3) : Vec Ideal S1x32x2048 .f32) shapeCasts_S1x32x2048_S32x2048) := by
    unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl
  rw [he]
  exact lay_main_v30 _ e j
theorem lay_main_v33 (X : Vec Ideal S1x32x1024 .f32) (e : Fin 32) (j : Fin 1024) : (broadcastInDim S32x1x1024 ![0, 2] bcast_S32x1024_S32x1x1024_0_2 (shapeCast S32x1024 X shapeCasts_S1x32x1024_S32x1024) : S32x1x1024.Idx → EReal) (ix3 e 0 j) = X (ix3 0 e j) := by
  pointwise
  try rfl
set_option maxHeartbeats 1600000 in
theorem host_main_v33 (c : Dev nD) (e : Fin 32) (j : Fin 1024) : (V m c main_v33 : S32x1x1024.Idx → EReal) (ix3 e 0 j) = (m (c.tc.loc main_arg5) : S1x32x1024.Idx → EReal) (ix3 0 e j) := by
  have he : (V m c main_v33 : S32x1x1024.Idx → EReal) = broadcastInDim S32x1x1024 ![0, 2] bcast_S32x1024_S32x1x1024_0_2 (shapeCast S32x1024 (m (c.tc.loc main_arg5) : Vec Ideal S1x32x1024 .f32) shapeCasts_S1x32x1024_S32x1024) := by
    unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl
  rw [he]
  exact lay_main_v33 _ e j

/-! The blocks of a point. -/

theorem iblk2 (c : Dev nD) (t : Fin (cfgM m (ok m)).N) (y : S1x1x2048.Idx) (j : S32x1x2048.Idx)
    (hj : ∀ a, (j a).val = ![expert m (grid0.coords t), 0, 0] a * S1x1x2048.size a + (y a).val) :
    iblk m (ok m) c 2 t y = (V m c main_v30 : S32x1x2048.Idx → EReal) j := by
  unfold iblk
  refine congrArg (V m c main_v30 : S32x1x2048.Idx → EReal) (funext fun a => Fin.ext (Eq.trans ?_ (hj a).symm))
  exact (emb2 (adm m (ok m)) t y a).trans (congrArg (fun f : Fin 3 → ℕ => f a * S1x1x2048.size a + (y a).val) (idx2 m (grid0.coords t)))
theorem iblk4 (c : Dev nD) (t : Fin (cfgM m (ok m)).N) (y : S1x1x1024.Idx) (j : S32x1x1024.Idx)
    (hj : ∀ a, (j a).val = ![expert m (grid0.coords t), 0, 0] a * S1x1x1024.size a + (y a).val) :
    iblk m (ok m) c 4 t y = (V m c main_v33 : S32x1x1024.Idx → EReal) j := by
  unfold iblk
  refine congrArg (V m c main_v33 : S32x1x1024.Idx → EReal) (funext fun a => Fin.ext (Eq.trans ?_ (hj a).symm))
  exact (emb4 (adm m (ok m)) t y a).trans (congrArg (fun f : Fin 3 → ℕ => f a * S1x1x1024.size a + (y a).val) (idx4 m (grid0.coords t)))

theorem emb0 (A : (pcfg0 (F := Ideal)).Adm) (t : Fin (cfg0 A).N) (y : S512x8x128.Idx) (a : Fin 3) :
    ((((cfg0 A).win 0).blk t).view.emb y a : ℕ) = cc0_transform_0 (grid0.coords t) a * S512x8x128.size a + (y a).val :=
  blk_at (((cfg0 A).win 0).rect t) (fun _ => rfl) y a
theorem emb5 (A : (pcfg0 (F := Ideal)).Adm) (t : Fin (cfg0 A).N) (y : S512x8x128.Idx) (a : Fin 3) :
    ((((cfg0 A).win 5).blk t).view.emb y a : ℕ) = cc0_transform_5 (grid0.coords t) a * S512x8x128.size a + (y a).val :=
  blk_at (((cfg0 A).win 5).rect t) (fun _ => rfl) y a
theorem idx0 : ∀ t : Fin grid0.N, cc0_transform_0 (grid0.coords t) = ![t.val, 0, 0] := by decide +kernel
theorem idx5 : ∀ t : Fin grid0.N, cc0_transform_5 (grid0.coords t) = ![t.val, 0, 0] := by decide +kernel

/-- A point's block, among the 288. -/
abbrev bl (t : Fin grid0.N) : Fin 288 := ⟨t.val, t.isLt⟩

theorem iblk0 (c : Dev nD) (t : Fin grid0.N) (r : Fin 512) (i : Fin 8) (j : Fin 128) :
    iblk m (ok m) c 0 t (ix3 r i j) = (m (c.tc.loc main_arg1) : S147456x8x128.Idx → EReal) (ix3 ⟨(bl t).val * 512 + r.val, by omega⟩ i j) := by
  refine Eq.trans ?_ (congrFun (V_main_arg1 m c) (ix3 ⟨(bl t).val * 512 + r.val, by omega⟩ i j : S147456x8x128.Idx))
  unfold iblk
  refine congrArg (V m c main_arg1 : S147456x8x128.Idx → EReal) (funext fun a => Fin.ext ?_)
  refine (emb0 (adm m (ok m)) t _ a).trans ?_
  rw [idx0 t]
  match a with
  | ⟨0, _⟩ => rfl
  | ⟨1, _⟩ => show 0 * 8 + i.val = i.val; omega
  | ⟨2, _⟩ => show 0 * 128 + j.val = j.val; omega

end Blocks

variable {m : (ℓ : Loc nD τ sig) → Buf (Elt Ideal) ℓ}
  {m' : (ℓ : Loc Cert.Reference4Ideal.nD Cert.Reference4Ideal.τ Cert.Reference4Ideal.sig) → Buf (Elt Ideal) ℓ} {c : Dev nD}
  (h : Same m m' c)

theorem at_ix (t : Fin grid0.N) : at288 t.val t.isLt = (ix1 (bl t) : S288.Idx) :=
  funext fun a => by obtain rfl : a = 0 := Subsingleton.elim (α := Fin 1) _ _; rfl

theorem cell_at (c : Dev nD) (f : Tab (F := Ideal) c mE) (g : IVec S288 32) (hg : (f : IVec S288 32) = g) (t : Fin grid0.N) :
    BitVec.toNat ((f : IVec S288 32) (cell (grid0.coords t))) = BitVec.toNat (g (ix1 (bl t))) := by
  rw [hg, cell_eq t, at_ix t]

include h in
theorem expert_same (t : Fin grid0.N) : expert m (grid0.coords t) = (expertOf m' c (bl t)).val := by
  obtain rfl : c = 0 := Subsingleton.elim _ _
  have e0 : expert m (grid0.coords t) = BitVec.toNat ((tbl m 0 : IVec S288 32) (cell (grid0.coords t))) := rfl
  have e2 := Cert.Reference4Ideal.Experts.expertOf_val m' 0 (bl t)
  refine e0.trans (Eq.trans ?_ e2.symm)
  exact cell_at 0 (tbl m 0) (Cert.Reference4Ideal.Experts.eT m' 0) ((V_e m 0).trans (congrArg (fun k => eTab (padEnd k)) h.a0)) t

theorem wUsed_eq (c : Dev nD) (f : Tab (F := Ideal) c mUsed) : wUsed c f = (f : IVec S1 32) (ix1 0) :=
  congrArg (f : IVec S1 32) (funext fun a => by obtain rfl : a = 0 := Subsingleton.elim (α := Fin 1) _ _; rfl)

include h in
theorem used_same : wUsed c (tbl m 2) = Cert.Reference4Ideal.Experts.uT m' c (ix1 0) := by
  obtain rfl : c = 0 := Subsingleton.elim _ _
  have e : (tbl m 2 : IVec S1 32) = usedTab (padEnd (counts m 0)) := V_used m 0
  refine (wUsed_eq 0 (tbl m 2)).trans ((congrFun e (ix1 0)).trans ?_)
  rw [show counts m 0 = _ from h.a0]

theorem comb {x x' : Fin 1024 → EReal} {w w' : Fin 1024 → Fin 2048 → EReal} {b b' : Fin 2048 → EReal} {v v' : Fin 1024 → Fin 1024 → EReal} {d d' : Fin 1024 → EReal}
    (h1 : x = x') (h2 : w = w') (h3 : b = b') (h4 : v = v') (h5 : d = d') (k : Fin 1024) :
    down (act (unit x w b)) v d k = down (act (unit x' w' b')) v' d' k := by subst h1 h2 h3 h4 h5; rfl

/-- A block of one expert lies at that expert's rows. -/
theorem at_row {e : ℕ} {f : Fin 32} (he : e = f.val) {j : Fin 3 → ℕ} {y : Fin 3 → ℕ} {s : Fin 3 → ℕ} (h0 : j 0 = f.val) (y0 : y 0 = 0) (s0 : s 0 = 1)
    (h1 : j 1 = 0 * s 1 + y 1) (h2 : j 2 = 0 * s 2 + y 2) : ∀ a, j a = ![e, 0, 0] a * s a + y a := by
  intro a
  match a with
  | ⟨0, _⟩ => show j 0 = e * s 0 + y 0; rw [h0, y0, s0, he]; omega
  | ⟨1, _⟩ => exact h1
  | ⟨2, _⟩ => exact h2

include h in
theorem written (t : Fin grid0.N) (r : Fin 512) (i : Fin 8) (j : Fin 128) :
    outAt m (ok m) c t (ix3 r i j) = outOf m' c (bl t) r i j := by
  unfold outAt leave outOf
  rw [used_same h]
  have hc := cond3_iff (grid0.coords t) (Cert.Reference4Ideal.Experts.uT m' c (ix1 0))
  have hv : (grid0.coords t 0).val = (bl t).val := (by decide +kernel : ∀ t : Fin grid0.N, (grid0.coords t 0).val = t.val) t
  rw [hv] at hc
  by_cases hu : (BitVec.ofNat 32 (bl t).val).slt (Cert.Reference4Ideal.Experts.uT m' c (ix1 0)) = true
  · rw [if_pos hu, if_neg (fun h3 => by
      have h4 := hc.mp h3
      rw [BitVec.sle_iff_toInt_le] at h4
      rw [BitVec.slt_iff_toInt_lt] at hu
      omega)]
    refine (pay3_apply _ _ _ _ _ r i j).trans ?_
    unfold rowOf
    have he := expert_same h t
    refine comb (funext fun k => ?_) (funext fun k => funext fun j => ?_) (funext fun j => ?_) (funext fun k => funext fun j => ?_) (funext fun j => ?_) _
    · exact (iblk0 m c t r _ _).trans (congrFun h.a1 _)
    · refine (pay1_apply _ k j).trans ((iblk1 m c t (ix3 0 k j) (ix3 (expertOf m' c (bl t)) k j) ?_).trans ((host_main_v28 m c _ k j).trans (congrFun h.a2 _)))
      exact at_row he rfl rfl rfl (show k.val = 0 * 1024 + k.val by omega) (show j.val = 0 * 2048 + j.val by omega)
    · refine (iblk2 m c t (ix3 0 0 j) (ix3 (expertOf m' c (bl t)) 0 j) ?_).trans ((host_main_v30 m c _ j).trans (congrFun h.a3 _))
      exact at_row he rfl rfl rfl (show 0 = 0 * 1 + 0 by omega) (show j.val = 0 * 2048 + j.val by omega)
    · refine (pay2_apply _ k j).trans ((iblk3 m c t (ix3 0 k j) (ix3 (expertOf m' c (bl t)) k j) ?_).trans ((host_main_v31 m c _ k j).trans (congrFun h.a4 _)))
      exact at_row he rfl rfl rfl (show k.val = 0 * 1024 + k.val by omega) (show j.val = 0 * 1024 + j.val by omega)
    · refine (iblk4 m c t (ix3 0 0 j) (ix3 (expertOf m' c (bl t)) 0 j) ?_).trans ((host_main_v33 m c _ j).trans (congrFun h.a5 _))
      exact at_row he rfl rfl rfl (show 0 = 0 * 1 + 0 by omega) (show j.val = 0 * 1024 + j.val by omega)
  · rw [if_neg hu, if_pos (hc.mpr (by
      rw [BitVec.sle_iff_toInt_le]
      rw [BitVec.slt_iff_toInt_lt] at hu
      omega))]
    exact pay4_apply r i j

theorem emb5_row (A : (pcfg0 (F := Ideal)).Adm) (t : Fin grid0.N) (y : S512x8x128.Idx) :
    (((cfg0 A).win 5).blk t).view.emb y = (ix3 ⟨(bl t).val * 512 + (y 0).val, by have : (y 0).val < 512 := (y 0).isLt; omega⟩ (y 1) (y 2) : S147456x8x128.Idx) := by
  funext a
  refine Fin.ext ((emb5 A t y a).trans ?_)
  rw [idx5 t]
  match a with
  | ⟨0, _⟩ => rfl
  | ⟨1, _⟩ => show 0 * 8 + (y 1).val = (y 1).val; omega
  | ⟨2, _⟩ => show 0 * 128 + (y 2).val = (y 2).val; omega

theorem split_row (q : S147456x8x128.Idx) :
    (ix3 ⟨(q 0).val / 512 * 512 + (q 0).val % 512, by have : (q 0).val < 147456 := (q 0).isLt; omega⟩ (q 1) (q 2) : S147456x8x128.Idx) = q :=
  funext fun a => Fin.ext (by
    match a with
    | ⟨0, _⟩ => show (q 0).val / 512 * 512 + (q 0).val % 512 = (q 0).val; omega
    | ⟨1, _⟩ => rfl
    | ⟨2, _⟩ => rfl)

theorem covered (A : (pcfg0 (F := Ideal)).Adm) (q : S147456x8x128.Idx) :
    ∃ t : Fin (cfg0 A).N, ((cfg0 A).win 5).flush t = true ∧ q ∈ (((cfg0 A).win 5).blk t).view.set := by
  have hq : (q 0).val < 147456 := (q 0).isLt
  let t : Fin grid0.N := ⟨(q 0).val / 512, by show _ < 288; omega⟩
  let y : S512x8x128.Idx := ix3 ⟨(q 0).val % 512, by omega⟩ (q 1) (q 2)
  refine ⟨t, flush_5 A t, ?_⟩
  have e : (((cfg0 A).win 5).blk t).view.emb y = q := (emb5_row A t y).trans (split_row q)
  exact e ▸ View.emb_mem_set _ _

theorem at_point (b : Fin 288) (y : S512x8x128.Idx) (q : S147456x8x128.Idx) (h0 : (q 0).val = b.val * 512 + (y 0).val) (h1 : q 1 = y 1) (h2 : q 2 = y 2) :
    outOf m' c ⟨(q 0).val / 512, by have : (q 0).val < 147456 := (q 0).isLt; omega⟩ ⟨(q 0).val % 512, by omega⟩ (q 1) (q 2) = outOf m' c b (y 0) (y 1) (y 2) := by
  have hy : (y 0).val < 512 := (y 0).isLt
  have e0 : (⟨(q 0).val / 512, by have : (q 0).val < 147456 := (q 0).isLt; omega⟩ : Fin 288) = b := Fin.ext (by show (q 0).val / 512 = b.val; omega)
  have e1 : (⟨(q 0).val % 512, by omega⟩ : Fin 512) = y 0 := Fin.ext (by show (q 0).val % 512 = (y 0).val; omega)
  rw [e0, e1, h1, h2]

include h in
theorem wrote (t : Fin grid0.N) (y : S512x8x128.Idx) :
    ((dats m (ok m) 0 c).after 5 t y : EReal)
    = (fun q : S147456x8x128.Idx => outOf m' c ⟨(q 0).val / 512, by have : (q 0).val < 147456 := (q 0).isLt; omega⟩ ⟨(q 0).val % 512, by omega⟩ (q 1) (q 2)) ((((cfg0 (adm m (ok m))).win 5).blk t).view.emb y) := by
  refine Eq.trans ?_ (congrArg (fun q : S147456x8x128.Idx => outOf m' c ⟨(q 0).val / 512, by have : (q 0).val < 147456 := (q 0).isLt; omega⟩ ⟨(q 0).val % 512, by omega⟩ (q 1) (q 2)) (emb5_row (adm m (ok m)) t y)).symm
  refine (congrFun (after_5 m (ok m) c t) y).trans ?_
  refine Eq.trans ?_ (at_point (bl t) y _ rfl rfl rfl).symm
  refine Eq.trans (congrArg (outAt m (ok m) c t) ?_) (written h t (y 0) (y 1) (y 2))
  exact funext fun a => by
    match a with
    | ⟨0, _⟩ => rfl
    | ⟨1, _⟩ => rfl
    | ⟨2, _⟩ => rfl

include h in
theorem final : ((dats m (ok m) 0 c).arrAt 5 (cfgM m (ok m)).N : S147456x8x128.Idx → EReal)
    = fun q : S147456x8x128.Idx => outOf m' c ⟨(q 0).val / 512, by have : (q 0).val < 147456 := (q 0).isLt; omega⟩ ⟨(q 0).val % 512, by omega⟩ (q 1) (q 2) := by
  refine (dats m (ok m) 0 c).arrAt_eq_of_emb 5 _ (fun t _ y => ?_) (fun q => ?_)
  · exact wrote h t y
  · exact covered (adm m (ok m)) q

theorem algebraic : Cert.algebraic_Kernel4Ideal_Reference4Ideal := by
  intro m ρ m' ρ' hpre hagree
  have hs : ∀ c, Same m m' c := fun c => by
    obtain ⟨h0, h1, h2, h3, h4, h5⟩ := hagree c
    exact ⟨h0.symm, h1.symm, h2.symm, h3.symm, h4.symm, h5.symm⟩
  refine ⟨fun c => Cert.Reference4Ideal.Value.res_out0 m' c, ?_, ?_⟩
  · refine (θ_run Cert.Kernel4Ideal.defs _ _).mono (fun r hh c => ?_) (run m ρ (ok m) (reuse m))
    refine ⟨((hh.1 c).1 5).trans ((final (hs c)).trans ?_),
      ((hh.1 c).2 main_arg0 (by decide : main_arg0 ∈ Pipeline.restRefs sig spec0)).trans (V_main_arg0 m c),
      ((hh.1 c).1 0).trans (((dats m (ok m) 0 c).arrAt_in 0 rfl _).trans ((A_eq m (ok m) c 0).trans (V_main_arg1 m c))),
      ((hh.1 c).2 main_arg2 (by decide : main_arg2 ∈ Pipeline.restRefs sig spec0)).trans (V_main_arg2 m c),
      ((hh.1 c).2 main_arg3 (by decide : main_arg3 ∈ Pipeline.restRefs sig spec0)).trans (V_main_arg3 m c),
      ((hh.1 c).2 main_arg4 (by decide : main_arg4 ∈ Pipeline.restRefs sig spec0)).trans (V_main_arg4 m c),
      ((hh.1 c).2 main_arg5 (by decide : main_arg5 ∈ Pipeline.restRefs sig spec0)).trans (V_main_arg5 m c)⟩
    funext q
    have hq : (q 0).val < 147456 := (q 0).isLt
    refine (Cert.Reference4Ideal.Experts.res_apply m' c ⟨(q 0).val / 512, by omega⟩ ⟨(q 0).val % 512, by omega⟩ (q 1) (q 2)).symm.trans (congrArg (Cert.Reference4Ideal.Value.res_out0 m' c) ?_)
    exact split_row q
  · exact Cert.Reference4Ideal.Value.run m' ρ'

end Cert.Kernel4Ideal.Experts
-- ==== Proof.Dsa.Loops.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

/-! The two counted loops of the selection that hold a loop inside: the search for the threshold (one bit of the
threshold a trip, each trip counting over the key blocks) and the search for the last index taken among equal
scores (one bit of the index a trip). Both only read the stored keys and carry a value. -/

@[expose] public section

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What one trip of the search for the threshold reads: the stored keys. -/
abbrev Keys5 (c : Dev nD) (arg10 : Memref sig .tc .vmem S4x512x512 .i32) (X : BufTy.Contents (Elt F) arg10.view.ty) : sProp 𝕄 :=
  (arg10.view.loc (c : Thread nD τ) ↦[arg10.view.set]{fullShare} X)

/-- One trip of the search for the threshold: the keys are only read, and the value it yields is a function of the value carried in. -/
@[irreducible] def trip5 (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v25 : IVec S1x512 32) (v39 : IVec S1x512 1) (v41 : IVec S1x512 32) (X : BufTy.Contents (Elt F) arg10.view.ty) (k : Fin k0_t5_loop.trips) :
    { R : (IVec S1x512 32 × IVec S1x512 32) → (IVec S1x512 32 × IVec S1x512 32) // ∀ (E : Set ℕ) (acc : IVec S1x512 32 × IVec S1x512 32),
      Keys5 (F := F) c arg10 X
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 v20 v25 v39 v41 k acc)
          (fun yld => iprop(⌜yld = R acc⌝ ∗ Keys5 (F := F) c arg10 X)) } := by
  refine ⟨?_, fun E acc => ?run⟩
  case run =>
    unfold k0_t5_body
    iintro HK
    sl_exec
    sl_step
    sl_close

/-- The value carried before trip `k` of the search for the threshold. -/
def st5 (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v25 : IVec S1x512 32) (v39 : IVec S1x512 1) (v41 : IVec S1x512 32) (X : BufTy.Contents (Elt F) arg10.view.ty) (init : IVec S1x512 32 × IVec S1x512 32) : ℕ → IVec S1x512 32 × IVec S1x512 32
  | 0 => init
  | k + 1 => if h : k < k0_t5_loop.trips then
      (trip5 (F := F) 𝒱 c bd i arg2 harg2 arg3 harg3 arg4 harg4 arg5 harg5 arg6 harg6 arg7 harg7 arg8 harg8 arg9 harg9 arg10 harg10 arg11 harg11 arg12 harg12 v20 v25 v39 v41 X ⟨k, h⟩).1 (st5 𝒱 c bd i arg2 harg2 arg3 harg3 arg4 harg4 arg5 harg5 arg6 harg6 arg7 harg7 arg8 harg8 arg9 harg9 arg10 harg10 arg11 harg11 arg12 harg12 v20 v25 v39 v41 X init k)
    else st5 𝒱 c bd i arg2 harg2 arg3 harg3 arg4 harg4 arg5 harg5 arg6 harg6 arg7 harg7 arg8 harg8 arg9 harg9 arg10 harg10 arg11 harg11 arg12 harg12 v20 v25 v39 v41 X init k

theorem st5_zero (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v25 : IVec S1x512 32) (v39 : IVec S1x512 1) (v41 : IVec S1x512 32) (X : BufTy.Contents (Elt F) arg10.view.ty) (init : IVec S1x512 32 × IVec S1x512 32) :
    st5 (F := F) 𝒱 c bd i arg2 harg2 arg3 harg3 arg4 harg4 arg5 harg5 arg6 harg6 arg7 harg7 arg8 harg8 arg9 harg9 arg10 harg10 arg11 harg11 arg12 harg12 v20 v25 v39 v41 X init 0 = init := rfl

theorem st5_succ (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v25 : IVec S1x512 32) (v39 : IVec S1x512 1) (v41 : IVec S1x512 32) (X : BufTy.Contents (Elt F) arg10.view.ty) (init : IVec S1x512 32 × IVec S1x512 32) (k : Fin k0_t5_loop.trips) :
    st5 (F := F) 𝒱 c bd i arg2 harg2 arg3 harg3 arg4 harg4 arg5 harg5 arg6 harg6 arg7 harg7 arg8 harg8 arg9 harg9 arg10 harg10 arg11 harg11 arg12 harg12 v20 v25 v39 v41 X init (k.val + 1)
      = (trip5 (F := F) 𝒱 c bd i arg2 harg2 arg3 harg3 arg4 harg4 arg5 harg5 arg6 harg6 arg7 harg7 arg8 harg8 arg9 harg9 arg10 harg10 arg11 harg11 arg12 harg12 v20 v25 v39 v41 X k).1 (st5 (F := F) 𝒱 c bd i arg2 harg2 arg3 harg3 arg4 harg4 arg5 harg5 arg6 harg6 arg7 harg7 arg8 harg8 arg9 harg9 arg10 harg10 arg11 harg11 arg12 harg12 v20 v25 v39 v41 X init k.val) := by
  rw [st5.eq_2]; exact dif_pos k.isLt

set_option warn.classDefReducibility false in
/-- the search for the threshold by its invariant: the keys stay, the value carried is `st5`. -/
@[sl_loop] def loopInv5 (𝒱 : Variants) (c : Dev nD) (bd : Option 𝒱.V) (E : Set ℕ) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v25 : IVec S1x512 32) (v39 : IVec S1x512 1) (v41 : IVec S1x512 32) (X : BufTy.Contents (Elt F) arg10.view.ty) (init : IVec S1x512 32 × IVec S1x512 32) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v20 v25 v39 v41 init where
  inv k acc := iprop(Keys5 (F := F) c arg10 X ∗ ⌜acc = st5 (F := F) 𝒱 c bd i arg2 harg2 arg3 harg3 arg4 harg4 arg5 harg5 arg6 harg6 arg7 harg7 arg8 harg8 arg9 harg9 arg10 harg10 arg11 harg11 arg12 harg12 v20 v25 v39 v41 X init k⌝)
  step k acc := by
    iintro ⟨HK, %h_acc⟩
    subst h_acc
    iapply (wp_wand_r Idealize.ShloMosaic.frame (wpE (defs₀ (F := F)) 𝒱 (c : Thread nD τ) bd) E)
    isplitl [HK]
    · iapply ((trip5 (F := F) 𝒱 c bd i arg2 harg2 arg3 harg3 arg4 harg4 arg5 harg5 arg6 harg6 arg7 harg7 arg8 harg8 arg9 harg9 arg10 harg10 arg11 harg11 arg12 harg12 v20 v25 v39 v41 X k).2 E (st5 (F := F) 𝒱 c bd i arg2 harg2 arg3 harg3 arg4 harg4 arg5 harg5 arg6 harg6 arg7 harg7 arg8 harg8 arg9 harg9 arg10 harg10 arg11 harg11 arg12 harg12 v20 v25 v39 v41 X init k))
      iexact HK
    · iintro %yld ⟨%h_res, HK⟩
      isplitl [HK]; · iexact HK
      rw [st5_succ]
      ipureintro; exact h_res

/-- What one trip of the search for the last index reads: the stored keys. -/
abbrev Keys10 (c : Dev nD) (arg10 : Memref sig .tc .vmem S4x512x512 .i32) (X : BufTy.Contents (Elt F) arg10.view.ty) : sProp 𝕄 :=
  (arg10.view.loc (c : Thread nD τ) ↦[arg10.view.set]{fullShare} X)

/-- One trip of the search for the last index: the keys are only read, and the value it yields is a function of the value carried in. -/
@[irreducible] def trip10 (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (v191 : IVec S1x512 32) (X : BufTy.Contents (Elt F) arg10.view.ty) (k : Fin k0_t10_loop.trips) :
    { R : (IVec S1x512 32) → (IVec S1x512 32) // ∀ (E : Set ℕ) (acc : IVec S1x512 32),
      Keys10 (F := F) c arg10 X
      ⊢ wp frame (wpE (defs₀ (F := F)) 𝒱 (c : Thread nD τ) bd) E (k0_t10_body (F := F) i arg2 harg2 arg3 harg3 arg4 harg4 arg5 harg5 arg6 harg6 arg7 harg7 arg8 harg8 arg9 harg9 arg10 harg10 arg11 harg11 arg12 harg12 v20 v47 v48 v76_0 v76_1 v77 v191 k acc)
          (fun yld => iprop(⌜yld = R acc⌝ ∗ Keys10 (F := F) c arg10 X)) } := by
  refine ⟨?_, fun E acc => ?run⟩
  case run =>
    unfold k0_t10_body
    iintro HK
    sl_exec
    sl_step
    sl_close

/-- The value carried before trip `k` of the search for the last index. -/
def st10 (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (v191 : IVec S1x512 32) (X : BufTy.Contents (Elt F) arg10.view.ty) (init : IVec S1x512 32) : ℕ → IVec S1x512 32
  | 0 => init
  | k + 1 => if h : k < k0_t10_loop.trips then
      (trip10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X ⟨k, h⟩).1 (st10 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init k)
    else st10 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init k

theorem st10_zero (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (v191 : IVec S1x512 32) (X : BufTy.Contents (Elt F) arg10.view.ty) (init : IVec S1x512 32) :
    st10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init 0 = init := rfl

theorem st10_succ (𝒱 : Variants) (c : Dev nD) (bd : Option 𝒱.V) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (v191 : IVec S1x512 32) (X : BufTy.Contents (Elt F) arg10.view.ty) (init : IVec S1x512 32) (k : Fin k0_t10_loop.trips) :
    st10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init (k.val + 1)
      = (trip10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X k).1 (st10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init k.val) := by
  rw [st10.eq_2]; exact dif_pos k.isLt

set_option warn.classDefReducibility false in
/-- the search for the last index by its invariant: the keys stay, the value carried is `st10`. -/
@[sl_loop] def loopInv10 (𝒱 : Variants) (c : Dev nD) (bd : Option 𝒱.V) (E : Set ℕ) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (v191 : IVec S1x512 32) (X : BufTy.Contents (Elt F) arg10.view.ty) (init : IVec S1x512 32) :
    LoopInvTy_k0_t10 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v20 v47 v48 v76_0 v76_1 v77 v191 init where
  inv k acc := iprop(Keys10 (F := F) c arg10 X ∗ ⌜acc = st10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init k⌝)
  step k acc := by
    iintro ⟨HK, %h_acc⟩
    subst h_acc
    iapply (wp_wand_r Idealize.ShloMosaic.frame (wpE (defs₀ (F := F)) 𝒱 (c : Thread nD τ) bd) E)
    isplitl [HK]
    · iapply ((trip10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X k).2 E (st10 (F := F) 𝒱 c bd i arg2 harg2 arg3 harg3 arg4 harg4 arg5 harg5 arg6 harg6 arg7 harg7 arg8 harg8 arg9 harg9 arg10 harg10 arg11 harg11 arg12 harg12 v20 v47 v48 v76_0 v76_1 v77 v191 X init k))
      iexact HK
    · iintro %yld ⟨%h_res, HK⟩
      isplitl [HK]; · iexact HK
      rw [st10_succ]
      ipureintro; exact h_res

end Cert.Kernel.Dsa

end
-- ==== Proof.Dsa.Body.lean ====
module

public import proofs.«01_k».proof.Proof.Dsa.Loops

/-! The body's run at one grid point. -/

@[expose] public section

set_option maxRecDepth 16384

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The index up to which equal scores are taken, before it is asked whether any query needs it: the conditional's
first branch. -/
def lastIdx (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (X10 : BufTy.Contents (Elt F) arg10.view.ty) : IVec S1x512 32 :=
  st10 (F := F) Variants.none c none i arg2 harg2 arg3 harg3 arg4 harg4 arg5 harg5 arg6 harg6 arg7 harg7 arg8 harg8 arg9 harg9 arg10 harg10 arg11 harg11 arg12 harg12 v20 v47 v48 v76_0 v76_1 v77
    (st_k0_t9 (F := F) Variants.none c none i arg2 harg2 arg3 harg3 arg4 harg4 arg5 harg5 arg6 harg6 arg7 harg7 arg8 harg8 arg9 harg9 arg10 harg10 arg11 harg11 arg12 harg12 v20 v47 v48 v76_0 v76_1 v77  X10 (st_k0_t8 (F := F) Variants.none c none i arg2 harg2 arg3 harg3 arg4 harg4 arg5 harg5 arg6 harg6 arg7 harg7 arg8 harg8 arg9 harg9 arg10 harg10 arg11 harg11 arg12 harg12 v20 v47 v48 v76_0 v76_1 v77  X10 k0_pay178 (Scf.trips (k0_t8_loop i).lb (k0_t8_loop i).ub (k0_t8_loop i).st)) (Scf.trips (k0_t9_loop i).lb (k0_t9_loop i).ub (k0_t9_loop i).st))
    X10 k0_pay181 (Scf.trips k0_t10_loop.lb k0_t10_loop.ub k0_t10_loop.st)

/-- The conditional's condition: some query has more scores at or above its threshold than it takes. -/
def needTies (v76_0 : IVec S1x512 32) (v76_1 : IVec S1x512 32) (v77 : IVec S1x512 32) : BitVec 1 :=
  Scalar.cmpi .ne (Scalar.extui (Scalar.cmpi .sgt (extractAt ![0, 0, 0] (k0_pay177 v76_0 v76_1 v77) inpos_S1x1x1_p0_0_0) 0#32)) 0#32

/-- What the conditional yields. -/
def maxIdx (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (X10 : BufTy.Contents (Elt F) arg10.view.ty) : IVec S1x512 32 :=
  if needTies v76_0 v76_1 v77 = 1#1 then lastIdx (F := F) c i arg2 harg2 arg3 harg3 arg4 harg4 arg5 harg5 arg6 harg6 arg7 harg7 arg8 harg8 arg9 harg9 arg10 harg10 arg11 harg11 arg12 harg12 v20 v47 v48 v76_0 v76_1 v77 X10 else k0_pay186

/-- The pieces of the bias that part 21 writes, `v90` the index up to which equal scores are taken. -/
def biasL (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (v90 : IVec S1x512 32) (X10 : BufTy.Contents (Elt F) arg10.view.ty) : List (View.Piece (Elt F) S4x512x512 .f32) :=
  (st_k0_t14 (F := F) Variants.none c none i arg2 harg2 arg3 harg3 arg4 harg4 arg5 harg5 arg6 harg6 arg7 harg7 arg8 harg8 arg9 harg9 arg10 harg10 arg11 harg11 arg12 harg12 v20 v47 v48 v76_0 v76_1 v77 v90 (Scalar.addi 0#32 (Scalar.muli (Scalar.divsi (Scalar.subi v20 0#32) 1#32) 1#32)) X10 (st_k0_t13 (F := F) Variants.none c none i arg2 harg2 arg3 harg3 arg4 harg4 arg5 harg5 arg6 harg6 arg7 harg7 arg8 harg8 arg9 harg9 arg10 harg10 arg11 harg11 arg12 harg12 v20 v47 v48 v76_0 v76_1 v77 v90 X10 0#32 (Scf.trips (k0_t13_loop i).lb (k0_t13_loop i).ub (k0_t13_loop i).st)).1 (Scf.trips (k0_t14_loop i).lb (k0_t14_loop i).ub (k0_t14_loop i).st)).2
    ++ (st_k0_t13 (F := F) Variants.none c none i arg2 harg2 arg3 harg3 arg4 harg4 arg5 harg5 arg6 harg6 arg7 harg7 arg8 harg8 arg9 harg9 arg10 harg10 arg11 harg11 arg12 harg12 v20 v47 v48 v76_0 v76_1 v77 v90 X10 0#32 (Scf.trips (k0_t13_loop i).lb (k0_t13_loop i).ub (k0_t13_loop i).st)).2

/-- Head 0's queries. -/
def q0 {arg2 : Memref sig .tc .vmem S512x1024 .bf16} (X2 : BufTy.Contents (Elt F) arg2.view.ty) : Vec F S512x128 .bf16 :=
  View.readAt (Elt F) arg2.view (Rect.unit (s := S512x1024) ![0, 0] S512x128.size inb_S512x1024_S512x128_0_0).toLoadRect X2
/-- Head 1's queries. -/
def q1 {arg2 : Memref sig .tc .vmem S512x1024 .bf16} (X2 : BufTy.Contents (Elt F) arg2.view.ty) : Vec F S512x128 .bf16 :=
  View.readAt (Elt F) arg2.view (Rect.unit (s := S512x1024) ![0, 128] S512x128.size inb_S512x1024_S512x128_0_128).toLoadRect X2
/-- Head 2's queries. -/
def q2 {arg2 : Memref sig .tc .vmem S512x1024 .bf16} (X2 : BufTy.Contents (Elt F) arg2.view.ty) : Vec F S512x128 .bf16 :=
  View.readAt (Elt F) arg2.view (Rect.unit (s := S512x1024) ![0, 256] S512x128.size inb_S512x1024_S512x128_0_256).toLoadRect X2
/-- Head 3's queries. -/
def q3 {arg2 : Memref sig .tc .vmem S512x1024 .bf16} (X2 : BufTy.Contents (Elt F) arg2.view.ty) : Vec F S512x128 .bf16 :=
  View.readAt (Elt F) arg2.view (Rect.unit (s := S512x1024) ![0, 384] S512x128.size inb_S512x1024_S512x128_0_384).toLoadRect X2

/-- Part 21 under a name that a run stops at. -/
@[irreducible] def part21 := k0_part21 (F := F)

theorem part21_eq : k0_part21 (F := F) = part21 (F := F) := by unfold part21; rfl

/-- Part 21: the conditional, then the bias. -/
theorem part21_run (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (v20 : BitVec 32) (v47 : IVec S1x512 32) (v48 : IVec S512x512 32) (v76_0 : IVec S1x512 32) (v76_1 : IVec S1x512 32) (v77 : IVec S1x512 32) (X2 : BufTy.Contents (Elt F) arg2.view.ty) (X10 : BufTy.Contents (Elt F) arg10.view.ty) (f11 : BufTy.Contents (Elt F) arg11.view.ty) (E : Set ℕ) :
    (iprop((arg2.view.loc (c : Thread nD τ) ↦[arg2.view.set]{fullShare} X2) ∗ (arg10.view.loc (c : Thread nD τ) ↦[arg10.view.set]{fullShare} X10) ∗ (arg11.view.loc (c : Thread nD τ) ↦[arg11.view.set]{fullShare} f11)) : sProp 𝕄)
      ⊢ wp frame (wpE (defs₀ (F := F)) Variants.none (c : Thread nD τ) none) E (part21 (F := F) i arg2 harg2 arg3 harg3 arg4 harg4 arg5 harg5 arg6 harg6 arg7 harg7 arg8 harg8 arg9 harg9 arg10 harg10 arg11 harg11 arg12 harg12 v20 v47 v48 v76_0 v76_1 v77)
        (fun r => iprop(⌜r = ⟨q0 X2,
          q1 X2,
          q2 X2,
          q3 X2,
          k0_pay189, k0_pay190, k0_pay191, k0_pay192, k0_pay193, k0_pay194, k0_pay195, k0_pay196, k0_pay197,
          FloatOps.ofBits FTy.f32 4048155338#32⟩⌝
          ∗ (arg2.view.loc (c : Thread nD τ) ↦[arg2.view.set]{fullShare} X2) ∗ (arg10.view.loc (c : Thread nD τ) ↦[arg10.view.set]{fullShare} X10) ∗ (arg11.view.loc (c : Thread nD τ) ↦[arg11.view.set]{fullShare} (arg11.view.writes (Elt F) f11 (biasL (F := F) c i arg2 harg2 arg3 harg3 arg4 harg4 arg5 harg5 arg6 harg6 arg7 harg7 arg8 harg8 arg9 harg9 arg10 harg10 arg11 harg11 arg12 harg12 v20 v47 v48 v76_0 v76_1 v77 (maxIdx (F := F) c i arg2 harg2 arg3 harg3 arg4 harg4 arg5 harg5 arg6 harg6 arg7 harg7 arg8 harg8 arg9 harg9 arg10 harg10 arg11 harg11 arg12 harg12 v20 v47 v48 v76_0 v76_1 v77 X10) X10))))) := by
  unfold part21
  rw [k0_part21_eq_skeleton]
  unfold k0_part21_skel
  dsimp only
  split
  · rename_i h
    rw [show maxIdx (F := F) c i arg2 harg2 arg3 harg3 arg4 harg4 arg5 harg5 arg6 harg6 arg7 harg7 arg8 harg8 arg9 harg9 arg10 harg10 arg11 harg11 arg12 harg12 v20 v47 v48 v76_0 v76_1 v77 X10 = lastIdx (F := F) c i arg2 harg2 arg3 harg3 arg4 harg4 arg5 harg5 arg6 harg6 arg7 harg7 arg8 harg8 arg9 harg9 arg10 harg10 arg11 harg11 arg12 harg12 v20 v47 v48 v76_0 v76_1 v77 X10 from if_pos h]
    unfold biasL lastIdx
    iintro ⟨H2, H10, H11⟩
    sl_exec
    sl_step
    isplitr; · ipureintro; rfl
    isplitl [H2]; · iexact H2
    isplitl [H10]; · iexact H10
    iexact H11
  · rename_i h
    rw [show maxIdx (F := F) c i arg2 harg2 arg3 harg3 arg4 harg4 arg5 harg5 arg6 harg6 arg7 harg7 arg8 harg8 arg9 harg9 arg10 harg10 arg11 harg11 arg12 harg12 v20 v47 v48 v76_0 v76_1 v77 X10 = k0_pay186 from if_neg h]
    unfold biasL
    iintro ⟨H2, H10, H11⟩
    sl_exec
    sl_step
    isplitr; · ipureintro; rfl
    isplitl [H2]; · iexact H2
    isplitl [H10]; · iexact H10
    iexact H11

/-- The body at one grid point: what it reads stays, what it writes to the result is a function of what it reads
and of what the scratch buffers held. -/
@[irreducible] def kernelRun (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S8x512 .f32) (harg4 : arg4.IsWhole) (arg5 : Memref sig .tc .vmem S2048x1024 .bf16) (harg5 : arg5.IsWhole) (arg6 : Memref sig .tc .vmem S4x1024x512 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S512x1024 .bf16) (harg9 : arg9.IsWhole) (arg10 : Memref sig .tc .vmem S4x512x512 .i32) (harg10 : arg10.IsWhole) (arg11 : Memref sig .tc .vmem S4x512x512 .f32) (harg11 : arg11.IsWhole) (arg12 : Memref sig .tc .vmem S4x512x512 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    { L : BufTy.Contents (Elt F) arg10.view.ty → BufTy.Contents (Elt F) arg11.view.ty → BufTy.Contents (Elt F) arg12.view.ty → List (View.Piece (Elt F) S512x1024 .bf16) //
      ∀ (f9 : BufTy.Contents (Elt F) arg9.view.ty) (f10 : BufTy.Contents (Elt F) arg10.view.ty) (f11 : BufTy.Contents (Elt F) arg11.view.ty) (f12 : BufTy.Contents (Elt F) arg12.view.ty) (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_dsa_attn (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt F) f9 (L f10 f11 f12))) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)))) } := by
  refine ⟨?_, fun f9 f10 f11 f12 E => ?run⟩
  case run =>
    rw [cc0_dsa_attn_eq_skeleton]
    unfold cc0_dsa_attn_skel
    obtain ⟨P, hP⟩ : ∃ P, P = k0_part21 (F := F) := ⟨_, rfl⟩
    rw [← hP]
    iintro ⟨H2, H3, H4, H5, H6, H7, H8, H9, H10, H11, H12⟩
    sl_exec
    rw [hP, part21_eq, wp_bind]
    iapply (wp_wand_r Idealize.ShloMosaic.frame (wpE (defs₀ (F := F)) Variants.none (c : Thread nD τ) none) E)
    isplitl [H2 H10 H11]
    · iapply (part21_run (F := F) c i arg2 harg2 arg3 harg3 arg4 harg4 arg5 harg5 arg6 harg6 arg7 harg7 arg8 harg8 arg9 harg9 arg10 harg10 arg11 harg11 arg12 harg12 _ _ _ _ _ _ X2 _ f11 E)
      isplitl [H2]; · iexact H2
      isplitl [H10]; · iexact H10
      iexact H11
    iintro %r ⟨%hr, H2, H10, H11⟩
    subst hr
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iexists _; iexact H12

end Cert.Kernel.Dsa

end
-- ==== Proof.Dsa.Frame.lean ====
module

public import proofs.«01_k».proof.Proof.Dsa.Body
public import proofs.«01_k».proof.Proof.Gen.Kernel.Frame

/-! The frame of `Kernel`: every grid point's body runs, the arguments keep their contents and every semaphore ends at zero. -/

@[expose] public section

set_option maxRecDepth 16384

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The scratch buffers, spelled as the body's memrefs. -/
theorem scratch_eq (c : Dev nD) :
    (Pipeline.scopedRest spec0 c : sProp 𝕄)
      = iprop((∃ f, ((Memref.whole cc0_scratch0).view.loc (c : Thread nD τ) ↦[(Memref.whole cc0_scratch0).view.set]{fullShare} f))
        ∗ (∃ f, ((Memref.whole cc0_scratch1).view.loc (c : Thread nD τ) ↦[(Memref.whole cc0_scratch1).view.set]{fullShare} f))
        ∗ (∃ f, ((Memref.whole cc0_scratch2).view.loc (c : Thread nD τ) ↦[(Memref.whole cc0_scratch2).view.set]{fullShare} f))) := by
  rw [scopedRest0_eq]; simp only [Memref.view_whole, View.set_whole]

/-- The window whose contents the frame does not describe: the output. -/
def fgt : Fin cfg0.W → Bool := fun w => decide (w = 7)

/-- The proof data on core `c`: the arrays as launched, every input's buffer at its block, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d
theorem before_4 (c : Dev nD) (t : Fin cfg0.N) (d) : (dats m 0 c).before 4 t d = iblk m c 4 t :=
  before0_4_of m (dats m 0 c) rfl (after_4 m c) t d
theorem before_5 (c : Dev nD) (t : Fin cfg0.N) (d) : (dats m 0 c).before 5 t d = iblk m c 5 t :=
  before0_5_of m (dats m 0 c) rfl (after_5 m c) t d
theorem before_6 (c : Dev nD) (t : Fin cfg0.N) (d) : (dats m 0 c).before 6 t d = iblk m c 6 t :=
  before0_6_of m (dats m 0 c) rfl (after_6 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, owns (c : Thread nD τ) (st0_7 t) fullShare X))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, owns (c : Thread nD τ) (st0_7 t) fullShare X))

/-- The body's run at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦA spec0 c from rfl]
  unfold Pipeline.ΦA
  rw [scratch_eq]
  unfold Dat.owesAt Pipeline.owesWithin
  rw [show (dats m 0 c).owed t.castSucc = 0 from rfl, show (dats m 0 c).owed t.succ = 0 from rfl]
  simp only [before_0, before_1, before_2, before_3, before_4, before_5, before_6, after_0, after_1, after_2, after_3, after_4, after_5, after_6]
  unfold owns
  iintro ⟨⟨⟨⟨%f10, H10⟩, ⟨%f11, H11⟩, ⟨%f12, H12⟩⟩, Hg⟩, HW, ⟨%d0, %X0, %h0, H0⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %f9, %h7, H7⟩⟩
  iapply (wp_wand_r Idealize.ShloMosaic.frame (wpE (defs₀ (F := F)) Variants.none (c : Thread nD τ) none) Set.univ)
  isplitl [H0 H1 H2 H3 H4 H5 H6 H7 H10 H11 H12]
  · iapply ((kernelRun (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) _ (Memref.isWhole_whole _) _ (Memref.isWhole_whole _) X0 X1 X2 X3 X4 X5 X6).2 f9 f10 f11 f12 Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro %r ⟨H0, H1, H2, H3, H4, H5, H6, H7, H10, H11, H12⟩
  isplitl [H10 H11 H12 Hg]
  · isplitl [H10 H11 H12]
    · isplitl [H10]; · iexact H10
      isplitl [H11]; · iexact H11
      iexact H12
    iexact Hg
  isplitl [HW]; · iexact HW
  isplitl [H0]
  · iexists X0; isplitr
    · ipureintro; exact h0
    iexact H0
  isplitl [H1]
  · iexists X1; isplitr
    · ipureintro; exact h1
    iexact H1
  isplitl [H2]
  · iexists X2; isplitr
    · ipureintro; exact h2
    iexact H2
  isplitl [H3]
  · iexists X3; isplitr
    · ipureintro; exact h3
    iexact H3
  isplitl [H4]
  · iexists X4; isplitr
    · ipureintro; exact h4
    iexact H4
  isplitl [H5]
  · iexists X5; isplitr
    · ipureintro; exact h5
    iexact H5
  isplitl [H6]
  · iexists X6; isplitr
    · ipureintro; exact h6
    iexact H6
  iexists _; iexists _; isplitr
  swap; · iexact H7
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run of the whole kernel. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME of `Kernel`, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans (A_eq m c 0), (h.1.arr_in c 1 rfl).trans (A_eq m c 1), (h.1.arr_in c 2 rfl).trans (A_eq m c 2), (h.1.arr_in c 3 rfl).trans (A_eq m c 3), (h.1.arr_in c 4 rfl).trans (A_eq m c 4), (h.1.arr_in c 5 rfl).trans (A_eq m c 5), (h.1.arr_in c 6 rfl).trans (A_eq m c 6)⟩, h.2⟩) (run_main m ρ)

end Cert.Kernel.Dsa

end
-- ==== Proof.Merge.Out.lean ====
module

public import proofs.«01_k».proof.Proof.Gen.Kernel2Ideal.Value

@[expose] public section

namespace Cert.Kernel2Ideal.Merge
open Idealize.ShloMosaic
open Cert.Kernel2Ideal.Gen

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

theorem ld_0 {e : EltTy} (inb) (X : Vec F S512x1024 e) : View.ld X (Rect.unit (s := S512x1024) ![0, 0] ![512, 1024] inb) = X := View.ld_unit_zero hz2 _ _
theorem ld_1 {e : EltTy} (inb) (X : Vec F S1024x1024 e) : View.ld X (Rect.unit (s := S1024x1024) ![0, 0] ![1024, 1024] inb) = X := View.ld_unit_zero hz2 _ _
theorem ld_2 {e : EltTy} (inb) (X : Vec F S512x2048 e) : View.ld X (Rect.unit (s := S512x2048) ![0, 0] ![512, 2048] inb) = X := View.ld_unit_zero hz2 _ _
theorem ld_3 {e : EltTy} (inb) (X : Vec F S1x2048 e) : View.ld X (Rect.unit (s := S1x2048) ![0, 0] ![1, 2048] inb) = X := View.ld_unit_zero hz2 _ _
theorem ld_4 {e : EltTy} (inb) (X : Vec F S1x1024 e) : View.ld X (Rect.unit (s := S1x1024) ![0, 0] ![1, 1024] inb) = X := View.ld_unit_zero hz2 _ _
theorem ld_5 {e : EltTy} (inb) (X : Vec F S32x1024 e) : View.ld X (Rect.unit (s := S32x1024) ![0, 0] ![32, 1024] inb) = X := View.ld_unit_zero hz2 _ _
theorem ld_6 {e : EltTy} (inb) (X : Vec F S32x1 e) : View.ld X (Rect.unit (s := S32x1) ![0, 0] ![32, 1] inb) = X := View.ld_unit_zero hz2 _ _

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x2048 .f32) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1 .f32) (harg11 : arg11.IsWhole) (arg12 : Memref sig .tc .vmem S512x1024 .f32) (harg12 : arg12.IsWhole) (arg13 : Memref sig .tc .vmem S512x8x128 .bf16) (harg13 : arg13.IsWhole) (arg14 : Memref sig .tc .vmem S32x512 .f32) (harg14 : arg14.IsWhole)
  (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x2048 .f32) (x8 : Vec F S1x1024 .f32) (x9 : Vec F S32x1024 .bf16) (x10 : Vec F S32x1 .f32)

/-- What the body leaves in output 11's block, as a function of the blocks it reads. -/
theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = k0_pay4 x0 x4 x1 x5 x2 x7 x3 x6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  rw [View.canon_unit_zero hz2]
  (try unfold kernelRun0_A.sl.r)
  simp only [View.readAt_eq_ld, Memref.IsWhole.read_unread, ld_0, ld_1, ld_2, ld_3, ld_4, ld_5, ld_6]

/-- What the body leaves in output 12's block, as a function of the blocks it reads. -/
theorem out12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = k0_pay2 (k0_pay5 x0 x4 x1 x5 x2 x7 x3 x6) x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  rw [View.canon_unit_zero hz3]
  (try unfold kernelRun0_A.sl.r)
  simp only [View.readAt_eq_ld, Memref.IsWhole.read_unread, ld_0, ld_1, ld_2, ld_3, ld_4, ld_5, ld_6]

/-- What the body leaves in output 13's block, as a function of the blocks it reads. -/
theorem out13_eq : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = k0_pay3 (k0_pay5 x0 x4 x1 x5 x2 x7 x3 x6) x8 x9 x10 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  rw [View.canon_unit_zero hz2]
  (try unfold kernelRun0_A.sl.r)
  simp only [View.readAt_eq_ld, Memref.IsWhole.read_unread, ld_0, ld_1, ld_2, ld_3, ld_4, ld_5, ld_6]

end Cert.Kernel2Ideal.Merge
-- ==== Proof.Merge.Tile.lean ====
module

public import proofs.«01_k».proof.Proof.Gen.Kernel2Ideal.Value
public import Idealize.ShloMosaic.Lib.Pointwise

@[expose] public section

namespace Cert.Merge
open Idealize.ShloMosaic

/-- The new residual row at column `c`: the two gated output projections summed, rounded and multiplied
    by the last weight, added to the residual row. Each argument is one token's row, or a weight. -/
noncomputable def x1row (oa ob : Fin 1024 → EReal) (gate : Fin 2048 → EReal) (x : Fin 1024 → EReal)
    (wa wb wo : Fin 1024 → Fin 1024 → EReal) (bg : Fin 2048 → EReal) (c : Fin 1024) : EReal :=
  x c + ∑ k : Fin 1024,
    (Ideal.logistic (gate ⟨k.val, by omega⟩ + bg ⟨k.val, by omega⟩) * (∑ j : Fin 1024, oa j * wa j k)
      + Ideal.logistic (gate ⟨1024 + k.val, by omega⟩ + bg ⟨1024 + k.val, by omega⟩) * (∑ j : Fin 1024, ob j * wb j k)) * wo k c

/-- A row divided by its root mean square and multiplied by the norm's weight. -/
noncomputable def hnrow (y gf : Fin 1024 → EReal) (c : Fin 1024) : EReal :=
  y c * Ideal.rsqrt (Ideal.div (∑ k : Fin 1024, y k * y k) (Ideal.ofBits .f32 1149239296#32)
    + Ideal.ofBits .f32 897988541#32) * gf c

/-- The router's logit of one expert, from its weight row, the normalised row and its bias. -/
noncomputable def lgrow (h wr : Fin 1024 → EReal) (b : EReal) : EReal := (∑ k : Fin 1024, wr k * h k) + b

end Cert.Merge

namespace Cert.Kernel2Ideal.Merge
open Idealize.ShloMosaic Cert.Merge
open Cert.Kernel2Ideal.Gen

variable (v0 : Vec Ideal S512x1024 .bf16) (v1 : Vec Ideal S1024x1024 .bf16) (v3 : Vec Ideal S512x1024 .bf16)
    (v4 : Vec Ideal S1024x1024 .bf16) (v6 : Vec Ideal S512x2048 .bf16) (v8 : Vec Ideal S1x2048 .f32)
    (v17 : Vec Ideal S512x1024 .f32) (v19 : Vec Ideal S1024x1024 .bf16) (v33 : Vec Ideal S1x1024 .f32)
    (v39 : Vec Ideal S32x1024 .bf16) (v42 : Vec Ideal S32x1 .f32)

/-- The new residual row `r` of a tile. -/
noncomputable def tileX1 (r : Fin 512) : Fin 1024 → EReal :=
  x1row (fun k => v0 (ix2 r k)) (fun k => v3 (ix2 r k)) (fun k => v6 (ix2 r k)) (fun k => v17 (ix2 r k))
    (fun j k => v1 (ix2 j k)) (fun j k => v4 (ix2 j k)) (fun j k => v19 (ix2 j k)) (fun k => v8 (ix2 0 k))

theorem pay4_apply (r : Fin 512) (c : Fin 1024) :
    k0_pay4 v0 v1 v3 v4 v6 v8 v17 v19 (ix2 r c) = tileX1 v0 v1 v3 v4 v6 v8 v17 v19 r c := by
  unfold k0_pay4 tileX1 x1row
  pointwise [dot_S512x1024_S1024x1024_S512x1024_1_0_0_1_n_n]
  try rfl

theorem hn_apply (r : Fin 512) (c : Fin 1024) :
    k0_pay1 (k0_pay5 v0 v1 v3 v4 v6 v8 v17 v19) v33 (ix2 r c)
      = hnrow (tileX1 v0 v1 v3 v4 v6 v8 v17 v19 r) (fun k => v33 (ix2 0 k)) c := by
  unfold k0_pay1 k0_pay5 hnrow
  pointwise
  simp only [pay4_apply]

theorem pay2_apply (r : Fin 512) (a : Fin 8) (b : Fin 128) :
    k0_pay2 (k0_pay5 v0 v1 v3 v4 v6 v8 v17 v19) v33 (ix3 r a b)
      = hnrow (tileX1 v0 v1 v3 v4 v6 v8 v17 v19 r) (fun k => v33 (ix2 0 k)) ⟨a.val * 128 + b.val, by omega⟩ := by
  rw [← hn_apply]
  unfold k0_pay2
  pointwise
  try rfl

theorem pay3_apply (e : Fin 32) (r : Fin 512) :
    k0_pay3 (k0_pay5 v0 v1 v3 v4 v6 v8 v17 v19) v33 v39 v42 (ix2 e r)
      = lgrow (hnrow (tileX1 v0 v1 v3 v4 v6 v8 v17 v19 r) (fun k => v33 (ix2 0 k))) (fun k => v39 (ix2 e k)) (v42 (ix2 e 0)) := by
  unfold lgrow
  simp only [← hn_apply]
  unfold k0_pay3
  pointwise [dot_S32x1024_S512x1024_S32x512_1_1_0_0_n_n]
  try rfl
end Cert.Kernel2Ideal.Merge
-- ==== Proof.Merge.Ref.lean ====
module

public import proofs.«01_k».proof.Proof.Gen.Reference2Ideal.Run
public import proofs.«01_k».proof.Proof.Merge.Tile

@[expose] public section

namespace Cert.Reference2Ideal.Merge
open Idealize.ShloMosaic Cert.Merge
open Cert.Reference2Ideal.Gen Cert.Reference2Ideal.Value

variable (m : (ℓ : Loc nD τ sig) → Buf (Elt Ideal) ℓ) (c : Dev nD)

/-- Token `r`'s new residual row, from the arguments. -/
noncomputable def rowX1 (r : Fin 32768) : Fin 1024 → EReal :=
  x1row (fun k => (m (c.tc.loc main_arg0) : S32768x1024.Idx → EReal) (ix2 r k)) (fun k => (m (c.tc.loc main_arg1) : S32768x1024.Idx → EReal) (ix2 r k))
    (fun k => (m (c.tc.loc main_arg2) : S32768x6528.Idx → EReal) (ix2 r ⟨k.val, by omega⟩)) (fun k => (m (c.tc.loc main_arg3) : S32768x1024.Idx → EReal) (ix2 r k))
    (fun j k => (m (c.tc.loc main_arg4) : S1024x1024.Idx → EReal) (ix2 j k)) (fun j k => (m (c.tc.loc main_arg5) : S1024x1024.Idx → EReal) (ix2 j k))
    (fun j k => (m (c.tc.loc main_arg6) : S1024x1024.Idx → EReal) (ix2 j k)) (fun k => (m (c.tc.loc main_arg7) : S1x2048.Idx → EReal) (ix2 0 k))

/-- Token `r`'s normalised row. -/
noncomputable def rowHn (r : Fin 32768) : Fin 1024 → EReal :=
  hnrow (rowX1 m c r) (fun k => (m (c.tc.loc main_arg8) : S1x1024.Idx → EReal) (ix2 0 k))

/-- Token `r`'s logit of expert `e`. -/
noncomputable def rowLg (e : Fin 32) (r : Fin 32768) : EReal :=
  lgrow (rowHn m c r) (fun k => (m (c.tc.loc main_arg9) : S32x1024.Idx → EReal) (ix2 e k)) ((m (c.tc.loc main_arg10) : S32x1.Idx → EReal) (ix2 e 0))

theorem out1_apply (r : Fin 32768) (a : Fin 8) (b : Fin 128) :
    (res_out1 m c : S32768x8x128.Idx → EReal) (ix3 r a b) = rowHn m c r ⟨a.val * 128 + b.val, by omega⟩ := by
  show res_main_v37 m c _ = _
  unfold res_main_v37
  pointwise [dot_S32768x1024_S1024x1024_S32768x1024_1_0_0_1_n_n]
  rfl

theorem out2_apply (e : Fin 32) (r : Fin 32768) :
    (res_out2 m c : S32x32768.Idx → EReal) (ix2 e r) = rowLg m c e r := by
  show res_main_v36 m c _ = _
  unfold res_main_v36
  pointwise [dot_S32768x1024_S1024x1024_S32768x1024_1_0_0_1_n_n, dot_S32x1024_S1024x32768_S32x32768_1_0_0_1_n_n]
  rfl
end Cert.Reference2Ideal.Merge
-- ==== Proof.Merge.Blocks.lean ====
module

public import proofs.«01_k».proof.Proof.Merge.Out
public import proofs.«01_k».proof.Proof.Merge.Ref
public import Idealize.ShloMosaic.Lib.Pipeline.ValueKit

@[expose] public section

namespace Cert.Kernel2Ideal.Merge
open Idealize.ShloMosaic Cert.Merge
open Cert.Kernel2Ideal.Gen Cert.Kernel2Ideal.Value

variable (m : (ℓ : Loc nD τ sig) → Buf (Elt Ideal) ℓ) (c : Dev nD) (t : Fin cfg0.N)

theorem tlt : t.val < 64 := t.isLt

/-- The token of row `r` of grid point `t`'s tile. -/
def tok (r : Fin 512) : Fin 32768 := ⟨t.val * 512 + r.val, by have := tlt t; omega⟩

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)
theorem idx11 : ∀ t : Fin cfg0.N, win0_11.index t 0 = t.val ∧ win0_11.index t 1 = 0 :=
  (by decide +kernel : ∀ t : Fin grid0.N, _)
theorem idx12 : ∀ t : Fin cfg0.N, win0_12.index t 0 = t.val ∧ win0_12.index t 1 = 0 ∧ win0_12.index t 2 = 0 :=
  (by decide +kernel : ∀ t : Fin grid0.N, _)
theorem idx13 : ∀ t : Fin cfg0.N, win0_13.index t 0 = 0 ∧ win0_13.index t 1 = t.val :=
  (by decide +kernel : ∀ t : Fin grid0.N, _)

theorem blk0 (r : Fin 512) (k : Fin 1024) : iblk m c 0 t (ix2 r k) = (m (c.tc.loc main_arg0) : S32768x1024.Idx → EReal) (ix2 (tok t r) k) := by
  obtain ⟨e0, e1⟩ := idx0 t
  blk_ext [iblk, V, e0, e1, tok]

theorem blk1 (r : Fin 512) (k : Fin 1024) : iblk m c 1 t (ix2 r k) = (m (c.tc.loc main_arg1) : S32768x1024.Idx → EReal) (ix2 (tok t r) k) := by
  obtain ⟨e0, e1⟩ := idx1 t
  blk_ext [iblk, V, e0, e1, tok]

theorem blk3 (r : Fin 512) (k : Fin 1024) : iblk m c 3 t (ix2 r k) = (m (c.tc.loc main_arg3) : S32768x1024.Idx → EReal) (ix2 (tok t r) k) := by
  obtain ⟨e0, e1⟩ := idx3 t
  blk_ext [iblk, V, e0, e1, tok]

theorem blk2 (r : Fin 512) (k : Fin 2048) :
    (X0_2 m c t : S512x2048.Idx → EReal) (ix2 r k) = (m (c.tc.loc main_arg2) : S32768x6528.Idx → EReal) (ix2 (tok t r) ⟨k.val, by omega⟩) := by
  obtain ⟨e0, e1⟩ := idx2 t
  unfold X0_2 Pipeline.Window.fill
  rw [dif_pos (moved0_2 t (ix2 r k))]
  blk_ext [iblk, V, e0, e1, tok]

theorem blk4 (r : Fin 1024) (k : Fin 1024) : iblk m c 4 t (ix2 r k) = (m (c.tc.loc main_arg4) : S1024x1024.Idx → EReal) (ix2 r k) := by
  obtain ⟨e0, e1⟩ := idx4 t
  blk_ext [iblk, V, e0, e1]

theorem blk5 (r : Fin 1024) (k : Fin 1024) : iblk m c 5 t (ix2 r k) = (m (c.tc.loc main_arg5) : S1024x1024.Idx → EReal) (ix2 r k) := by
  obtain ⟨e0, e1⟩ := idx5 t
  blk_ext [iblk, V, e0, e1]

theorem blk6 (r : Fin 1024) (k : Fin 1024) : iblk m c 6 t (ix2 r k) = (m (c.tc.loc main_arg6) : S1024x1024.Idx → EReal) (ix2 r k) := by
  obtain ⟨e0, e1⟩ := idx6 t
  blk_ext [iblk, V, e0, e1]

theorem blk7 (r : Fin 1) (k : Fin 2048) : iblk m c 7 t (ix2 r k) = (m (c.tc.loc main_arg7) : S1x2048.Idx → EReal) (ix2 r k) := by
  obtain ⟨e0, e1⟩ := idx7 t
  blk_ext [iblk, V, e0, e1]

theorem blk8 (r : Fin 1) (k : Fin 1024) : iblk m c 8 t (ix2 r k) = (m (c.tc.loc main_arg8) : S1x1024.Idx → EReal) (ix2 r k) := by
  obtain ⟨e0, e1⟩ := idx8 t
  blk_ext [iblk, V, e0, e1]

theorem blk9 (r : Fin 32) (k : Fin 1024) : iblk m c 9 t (ix2 r k) = (m (c.tc.loc main_arg9) : S32x1024.Idx → EReal) (ix2 r k) := by
  obtain ⟨e0, e1⟩ := idx9 t
  blk_ext [iblk, V, e0, e1]

theorem blk10 (r : Fin 32) (k : Fin 1) : iblk m c 10 t (ix2 r k) = (m (c.tc.loc main_arg10) : S32x1.Idx → EReal) (ix2 r k) := by
  obtain ⟨e0, e1⟩ := idx10 t
  blk_ext [iblk, V, e0, e1]

end Cert.Kernel2Ideal.Merge
-- ==== Proof.Merge.Value.lean ====
module

public import proofs.«01_k».proof.Defs
public import proofs.«01_k».proof.Proof.Merge.Blocks

@[expose] public section

namespace Cert.Kernel2Ideal.Merge
open Idealize.ShloMosaic Cert.Merge
open Cert.Kernel2Ideal.Gen Cert.Kernel2Ideal.Value

/-- The two programs' arguments are the same arrays. -/
structure Same (m : (ℓ : Loc nD τ sig) → Buf (Elt Ideal) ℓ)
    (m' : (ℓ : Loc Cert.Reference2Ideal.nD Cert.Reference2Ideal.τ Cert.Reference2Ideal.sig) → Buf (Elt Ideal) ℓ) (c : Dev nD) : Prop where
  a0 : (m (c.tc.loc main_arg0) : S32768x1024.Idx → EReal) = m' (c.tc.loc Cert.Reference2Ideal.main_arg0)
  a1 : (m (c.tc.loc main_arg1) : S32768x1024.Idx → EReal) = m' (c.tc.loc Cert.Reference2Ideal.main_arg1)
  a2 : (m (c.tc.loc main_arg2) : S32768x6528.Idx → EReal) = m' (c.tc.loc Cert.Reference2Ideal.main_arg2)
  a3 : (m (c.tc.loc main_arg3) : S32768x1024.Idx → EReal) = m' (c.tc.loc Cert.Reference2Ideal.main_arg3)
  a4 : (m (c.tc.loc main_arg4) : S1024x1024.Idx → EReal) = m' (c.tc.loc Cert.Reference2Ideal.main_arg4)
  a5 : (m (c.tc.loc main_arg5) : S1024x1024.Idx → EReal) = m' (c.tc.loc Cert.Reference2Ideal.main_arg5)
  a6 : (m (c.tc.loc main_arg6) : S1024x1024.Idx → EReal) = m' (c.tc.loc Cert.Reference2Ideal.main_arg6)
  a7 : (m (c.tc.loc main_arg7) : S1x2048.Idx → EReal) = m' (c.tc.loc Cert.Reference2Ideal.main_arg7)
  a8 : (m (c.tc.loc main_arg8) : S1x1024.Idx → EReal) = m' (c.tc.loc Cert.Reference2Ideal.main_arg8)
  a9 : (m (c.tc.loc main_arg9) : S32x1024.Idx → EReal) = m' (c.tc.loc Cert.Reference2Ideal.main_arg9)
  a10 : (m (c.tc.loc main_arg10) : S32x1.Idx → EReal) = m' (c.tc.loc Cert.Reference2Ideal.main_arg10)

variable {m : (ℓ : Loc nD τ sig) → Buf (Elt Ideal) ℓ}
  {m' : (ℓ : Loc Cert.Reference2Ideal.nD Cert.Reference2Ideal.τ Cert.Reference2Ideal.sig) → Buf (Elt Ideal) ℓ} {c : Dev nD}
  (h : Same m m' c)

open Cert.Reference2Ideal.Merge (rowX1 rowHn rowLg)

include h in
/-- A tile's rows are the tokens' rows. -/
theorem tile_row (t : Fin cfg0.N) (r : Fin 512) :
    tileX1 (iblk m c 0 t) (iblk m c 4 t) (iblk m c 1 t) (iblk m c 5 t) (X0_2 m c t) (iblk m c 7 t) (iblk m c 3 t) (iblk m c 6 t) r
      = rowX1 m' c (tok t r) := by
  unfold tileX1 rowX1
  simp only [blk0, blk1, blk2, blk3, blk4, blk5, blk6, blk7]
  rw [h.a0, h.a1, h.a2, h.a3, h.a4, h.a5, h.a6, h.a7]

include h in
theorem at11 (t : Fin cfg0.N) (r : Fin 512) (k : Fin 1024) :
    k0_pay4 (F := Ideal) (iblk m c 0 t) (iblk m c 4 t) (iblk m c 1 t) (iblk m c 5 t) (X0_2 m c t) (iblk m c 7 t) (iblk m c 3 t) (iblk m c 6 t) (ix2 r k) = rowX1 m' c (tok t r) k := by
  rw [pay4_apply, tile_row h t]

include h in
theorem at12 (t : Fin cfg0.N) (r : Fin 512) (a : Fin 8) (b : Fin 128) :
    k0_pay2 (F := Ideal) (k0_pay5 (iblk m c 0 t) (iblk m c 4 t) (iblk m c 1 t) (iblk m c 5 t) (X0_2 m c t) (iblk m c 7 t) (iblk m c 3 t) (iblk m c 6 t)) (iblk m c 8 t) (ix3 r a b) = rowHn m' c (tok t r) ⟨a.val * 128 + b.val, by omega⟩ := by
  rw [pay2_apply, tile_row h t]
  unfold rowHn
  simp only [blk8]
  rw [h.a8]

include h in
theorem at13 (t : Fin cfg0.N) (e : Fin 32) (r : Fin 512) :
    k0_pay3 (F := Ideal) (k0_pay5 (iblk m c 0 t) (iblk m c 4 t) (iblk m c 1 t) (iblk m c 5 t) (X0_2 m c t) (iblk m c 7 t) (iblk m c 3 t) (iblk m c 6 t)) (iblk m c 8 t) (iblk m c 9 t) (iblk m c 10 t) (ix2 e r) = rowLg m' c e (tok t r) := by
  rw [pay3_apply, tile_row h t]
  unfold rowLg rowHn
  simp only [blk8, blk9, blk10]
  rw [h.a8, h.a9, h.a10]

include h in
theorem final11 : ((dats m 0 c).arrAt 11 cfg0.N : S32768x1024.Idx → EReal) = fun i => rowX1 m' c (i 0) (i 1) := by
  refine (dats m 0 c).arrAt_eq_of_covers 11 _ (by decide +kernel) fun t hf y => ?_
  obtain ⟨e0, e1⟩ := idx11 t
  have E : (((cfg0.win 11).blk t).view.emb y : S32768x1024.Idx) = ix2 (tok t ((y : S512x1024.Idx) 0)) ((y : S512x1024.Idx) 1) := by
    blk_ext [e0, e1, tok]
  refine (show _ = _ from congrFun (flushed11_A m c t) y).trans ?_
  refine (show _ = k0_pay4 _ _ _ _ _ _ _ _ y from congrFun (out11_eq _ _ _ _ _ _ _ _ _ _ _ _ _ _ _ _ _ _ _ _ _ _ _ _ _ _ _ _ _ _ _ _ _ _ _ _ _ _ _ _ _) y).trans ?_
  have hy : (y : S512x1024.Idx) = ix2 ((y : S512x1024.Idx) 0) ((y : S512x1024.Idx) 1) := by
    funext a; match a with | ⟨0, _⟩ => rfl | ⟨1, _⟩ => rfl
  refine (congrArg _ hy).trans ((at11 h t _ _).trans ?_)
  exact (congrArg (fun i : S32768x1024.Idx => rowX1 m' c (i 0) (i 1)) E).symm

include h in
theorem final12 : ((dats m 0 c).arrAt 12 cfg0.N : S32768x8x128.Idx → EReal)
    = fun i => rowHn m' c (i 0) ⟨(i 1).val * 128 + (i 2).val, by have h1 : (i 1).val < 8 := (i 1).isLt; have h2 : (i 2).val < 128 := (i 2).isLt; omega⟩ := by
  refine (dats m 0 c).arrAt_eq_of_covers 12 _ (by decide +kernel) fun t hf y => ?_
  obtain ⟨e0, e1, e2⟩ := idx12 t
  have E : (((cfg0.win 12).blk t).view.emb y : S32768x8x128.Idx)
      = ix3 (tok t ((y : S512x8x128.Idx) 0)) ((y : S512x8x128.Idx) 1) ((y : S512x8x128.Idx) 2) := by
    blk_ext [e0, e1, e2, tok]
  refine (show _ = _ from congrFun (flushed12_A m c t) y).trans ?_
  refine (show _ = k0_pay2 _ _ y from congrFun (out12_eq _ _ _ _ _ _ _ _ _ _ _ _ _ _ _ _ _ _ _ _ _ _ _ _ _ _ _ _ _ _ _ _ _ _ _ _ _ _ _ _ _) y).trans ?_
  have hy : (y : S512x8x128.Idx) = ix3 ((y : S512x8x128.Idx) 0) ((y : S512x8x128.Idx) 1) ((y : S512x8x128.Idx) 2) := by
    funext a; match a with | ⟨0, _⟩ => rfl | ⟨1, _⟩ => rfl | ⟨2, _⟩ => rfl
  refine (congrArg _ hy).trans ((at12 h t _ _ _).trans ?_)
  refine Eq.trans ?_ (congrArg (fun i : S32768x8x128.Idx => rowHn m' c (i 0) ⟨(i 1).val * 128 + (i 2).val, by have h1 : (i 1).val < 8 := (i 1).isLt; have h2 : (i 2).val < 128 := (i 2).isLt; omega⟩) E).symm
  rfl

include h in
theorem final13 : ((dats m 0 c).arrAt 13 cfg0.N : S32x32768.Idx → EReal) = fun i => rowLg m' c (i 0) (i 1) := by
  refine (dats m 0 c).arrAt_eq_of_covers 13 _ (by decide +kernel) fun t hf y => ?_
  obtain ⟨e0, e1⟩ := idx13 t
  have E : (((cfg0.win 13).blk t).view.emb y : S32x32768.Idx) = ix2 ((y : S32x512.Idx) 0) (tok t ((y : S32x512.Idx) 1)) := by
    blk_ext [e0, e1, tok]
  refine (show _ = _ from congrFun (flushed13_A m c t) y).trans ?_
  refine (show _ = k0_pay3 _ _ _ _ y from congrFun (out13_eq _ _ _ _ _ _ _ _ _ _ _ _ _ _ _ _ _ _ _ _ _ _ _ _ _ _ _ _ _ _ _ _ _ _ _ _ _ _ _ _ _) y).trans ?_
  have hy : (y : S32x512.Idx) = ix2 ((y : S32x512.Idx) 0) ((y : S32x512.Idx) 1) := by
    funext a; match a with | ⟨0, _⟩ => rfl | ⟨1, _⟩ => rfl
  refine (congrArg _ hy).trans ((at13 h t _ _).trans ?_)
  exact (congrArg (fun i : S32x32768.Idx => rowLg m' c (i 0) (i 1)) E).symm

end Cert.Kernel2Ideal.Merge

namespace Cert.Merge
open Idealize.ShloMosaic

/-- The merge call and its reference leave the same three arrays, at the ideal values. -/
theorem algebraic : Cert.algebraic_Kernel2Ideal_Reference2Ideal := by
  intro m ρ m' ρ' hpre hagree
  have hs : ∀ c, Cert.Kernel2Ideal.Merge.Same m m' c := fun c => by
    obtain ⟨h0, h1, h2, h3, h4, h5, h6, h7, h8, h9, h10⟩ := hagree c
    exact ⟨h0.symm, h1.symm, h2.symm, h3.symm, h4.symm, h5.symm, h6.symm, h7.symm, h8.symm, h9.symm, h10.symm⟩
  refine ⟨fun c => fun i => Cert.Reference2Ideal.Merge.rowX1 m' c (i 0) (i 1),
    fun c => Cert.Reference2Ideal.Value.res_out1 m' c, fun c => Cert.Reference2Ideal.Value.res_out2 m' c, ?_, ?_⟩
  · refine (θ_run Cert.Kernel2Ideal.defs _ _).mono (fun _ hr c => ?_) (Cert.Kernel2Ideal.Value.run_blocks m ρ)
    obtain ⟨r0, r1, r2, rest⟩ := hr c
    refine ⟨r0.trans (Cert.Kernel2Ideal.Merge.final11 (hs c)), r1.trans ((Cert.Kernel2Ideal.Merge.final12 (hs c)).trans ?_),
      r2.trans ((Cert.Kernel2Ideal.Merge.final13 (hs c)).trans ?_), rest⟩
    · funext i
      have hi : i = ix3 (i 0) (i 1) (i 2) := by funext a; match a with | ⟨0, _⟩ => rfl | ⟨1, _⟩ => rfl | ⟨2, _⟩ => rfl
      exact (Cert.Reference2Ideal.Merge.out1_apply m' c (i 0) (i 1) (i 2)).symm.trans (congrArg _ hi.symm)
    · funext i
      have hi : i = ix2 (i 0) (i 1) := by funext a; match a with | ⟨0, _⟩ => rfl | ⟨1, _⟩ => rfl
      exact (Cert.Reference2Ideal.Merge.out2_apply m' c (i 0) (i 1)).symm.trans (congrArg _ hi.symm)
  · refine (θ_run Cert.Reference2Ideal.defs _ _).mono (fun _ hr c => ?_) (Cert.Reference2Ideal.Value.run m' ρ')
    obtain ⟨r0, rest⟩ := hr c
    refine ⟨r0.trans ?_, rest⟩
    funext i
    have hi : i = ix2 (i 0) (i 1) := by funext a; match a with | ⟨0, _⟩ => rfl | ⟨1, _⟩ => rfl
    generalize i 0 = r at hi
    generalize i 1 = k at hi
    subst hi
    pointwise [Cert.Reference2Ideal.dot_S32768x1024_S1024x1024_S32768x1024_1_0_0_1_n_n]
    rfl

end Cert.Merge
-- ==== Proof.Mla.Run.lean ====
module

public import proofs.«01_k».proof.Proof.Gen.Kernel5Ideal.Frame.Runs

@[expose] public section

/-! One run of the attention body on whole buffers: the inputs come back as they were, the scratch holds something, and the
    output block has a list of pieces written into it, the list being what the run finds from
    what the scratch held before. -/

set_option maxRecDepth 16384

noncomputable section

namespace Cert.Proof.Mla

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers a point of the body reads: queries, keys and values. -/
abbrev reads (c : Dev nD) (arg2 : Memref sig .tc .vmem S512x2048 .bf16) (arg3 : Memref sig .tc .vmem S2048x2048 .bf16) (arg4 : Memref sig .tc .vmem S4x1024x512 .bf16)
    (q : Vec F S512x2048 .bf16) (k : Vec F S2048x2048 .bf16) (v : Vec F S4x1024x512 .bf16) : sProp 𝕄 :=
  iprop(owns (c : Thread nD τ) arg2 fullShare q ∗ owns (c : Thread nD τ) arg3 fullShare k ∗ owns (c : Thread nD τ) arg4 fullShare v)

set_option maxHeartbeats 4000000 in
/-- The body's run at one grid point, with the pieces it stores. -/
noncomputable def bodyRun (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S4x1024x512 .bf16) (harg4 : arg4.IsWhole) (arg5 : Memref sig .tc .vmem S512x1024 .bf16) (harg5 : arg5.IsWhole) (arg6 : Memref sig .tc .vmem S8x512x512 .f32) (harg6 : arg6.IsWhole)
    (q : Vec F S512x2048 .bf16) (k : Vec F S2048x2048 .bf16) (v : Vec F S4x1024x512 .bf16) :
    { L : BufTy.Contents (Elt F) arg6.view.ty → List (View.Piece (Elt F) S512x1024 .bf16) //
      ∀ (g : BufTy.Contents (Elt F) arg6.view.ty) (K : PUnit → sProp 𝕄),
        iprop(reads c arg2 arg3 arg4 q k v ∗ (∃ o, owns (c : Thread nD τ) arg5 fullShare o) ∗ (arg6.view.loc (c : Thread nD τ) ↦[arg6.view.set]{fullShare} g)
            ∗ (iprop(reads c arg2 arg3 arg4 q k v ∗ (∃ s, owns (c : Thread nD τ) arg6 fullShare s)
                ∗ (∃ f, arg5.view.loc (c : Thread nD τ) ↦[arg5.view.set]{fullShare} arg5.view.writes (Elt F) f (L g))) -∗ K ⟨⟩))
          ⊢ wp frame (wpE (defs₀ (F := F)) Variants.none c none) Set.univ (cc0_mla_attn i arg2 harg2 arg3 harg3 arg4 harg4 arg5 harg5 arg6 harg6) K } := by
  refine ⟨?_, fun g K => ?run⟩
  case run =>
    simp only [cc0_mla_attn_eq_skeleton]; unfold cc0_mla_attn_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold reads owns
    iintro ⟨⟨⟨%g0, %e0, HQ⟩, ⟨%g1, %e1, HK⟩, ⟨%g2, %e2, HV⟩⟩, ⟨%o, %g3, -, HO⟩, HS, Hk⟩
    obtain rfl := harg2.eq_unread e0; obtain rfl := harg3.eq_unread e1; obtain rfl := harg4.eq_unread e2
    sl_exec
    sl_step
    iapply Hk
    isplitl [HQ HK HV]
    · isplitl [HQ]
      · iexists _; isplitr; · ipureintro; exact harg2.read_unread _
        iexact HQ
      isplitl [HK]
      · iexists _; isplitr; · ipureintro; exact harg3.read_unread _
        iexact HK
      iexists _; isplitr; · ipureintro; exact harg4.read_unread _
      iexact HV
    isplitl [HS]
    · iexists _, _; isplitr; swap; · iexact HS
      ipureintro; rfl
    iexists _; iexact HO

end Cert.Proof.Mla

end
-- ==== Proof.Mla.Steps.lean ====
module

public import proofs.«01_k».proof.Proof.Gen.Kernel5Ideal.Loops
public import Idealize.ShloMosaic.Lib.Pipeline.ReadBack
public import Idealize.ShloMosaic.Lib.Pipeline.FrameBody

@[expose] public section

/-! One tile of keys against one block of queries, as the body computes it: the scores of each head go through the scratch,
    and each head's maximum, sum and weighted values are rescaled and extended. -/

set_option maxRecDepth 16384
set_option maxHeartbeats 400000

noncomputable section

namespace Cert.Proof.Mla

open Cert.Kernel5Ideal Cert.Kernel5Ideal.Gen Idealize.ShloMosaic Idealize.ShloMosaic.TcCoe Idealize.SL.Sem

variable {F : FTy → Type} [FloatOps F] [Named F]

/-- A head's carried values: maximum, sum, weighted values, one column per query. -/
abbrev Head (F : FTy → Type) : Type := FVec F S1x512 .f32 × FVec F S1x512 .f32 × FVec F S128x512 .f32

/-- Scores of a tile of keys against the queries, a column per query, as a slab of the scratch. -/
def slab (q k : Vec F S512x256 .bf16) : FVec F S1x512x512 .f32 :=
  shapeCast S1x512x512 (matmul dot_S512x256_S512x256_S512x512_1_1_0_0_n_n none k q (constant S512x512 .f32 0x00000000#32)) shapeCasts_S512x512_S1x512x512

/-- The slab loaded back. -/
def loaded (q k : Vec F S512x256 .bf16) : FVec F S512x512 .f32 := shapeCast S512x512 (slab q k) shapeCasts_S1x512x512_S512x512

/-- The maximum after a tile's scores `x`, -/
def nextMax (m : FVec F S1x512 .f32) (x : FVec F S512x512 .f32) : FVec F S1x512 .f32 :=
  maximumf m (shapeCast S1x512 (multiReduction .maximumf [0] S512 x 0xFF800000#32 reduces_S512x512_S512 (.inl rfl) rfl) shapeCasts_S512_S1x512)
/-- the factor the old sums take, -/
def factor (m : FVec F S1x512 .f32) (x : FVec F S512x512 .f32) : FVec F S1x512 .f32 := exp2 (subf m (nextMax m x))
/-- the weights of the tile's keys, -/
def weights (m : FVec F S1x512 .f32) (x : FVec F S512x512 .f32) : FVec F S512x512 .f32 :=
  exp2 (subf x (broadcastTo S512x512 (nextMax m x) broadcasts_S1x512_S512x512))
/-- the sum of weights, -/
def nextSum (m l : FVec F S1x512 .f32) (x : FVec F S512x512 .f32) : FVec F S1x512 .f32 :=
  addf (mulf (factor m x) l) (shapeCast S1x512 (multiReduction .add [0] S512 (weights m x) 0x00000000#32 reduces_S512x512_S512 (.inl rfl) rfl) shapeCasts_S512_S1x512)
/-- and the weighted values. -/
def nextVal (m : FVec F S1x512 .f32) (a : FVec F S128x512 .f32) (x : FVec F S512x512 .f32) (v : FVec F S128x512 .bf16) : FVec F S128x512 .f32 :=
  addf (mulf (broadcastTo S128x512 (factor m x) broadcasts_S1x512_S128x512) a)
    (matmul dot_S128x512_S512x512_S128x512_1_0_0_1_n_n none v (truncf .bf16 (weights m x) bitsLt_bf16_f32) (constant S128x512 .f32 0x00000000#32))

/-- One head, one tile. -/
def step (x : FVec F S512x512 .f32) (v : FVec F S128x512 .bf16) (a : Head F) : Head F :=
  (nextMax a.1 x, nextSum a.1 a.2.1 x, nextVal a.1 a.2.2 x v)

/-- The eight heads' carried values as the loop carries them. -/
abbrev Carry (F : FTy → Type) : Type := FVec F S1x512 .f32 × FVec F S1x512 .f32 × FVec F S128x512 .f32 × FVec F S1x512 .f32 × FVec F S1x512 .f32 × FVec F S128x512 .f32 × FVec F S1x512 .f32 × FVec F S1x512 .f32 × FVec F S128x512 .f32 × FVec F S1x512 .f32 × FVec F S1x512 .f32 × FVec F S128x512 .f32 × FVec F S1x512 .f32 × FVec F S1x512 .f32 × FVec F S128x512 .f32 × FVec F S1x512 .f32 × FVec F S1x512 .f32 × FVec F S128x512 .f32 × FVec F S1x512 .f32 × FVec F S1x512 .f32 × FVec F S128x512 .f32 × FVec F S1x512 .f32 × FVec F S1x512 .f32 × FVec F S128x512 .f32

/-- Packing eight heads, -/
def pack (t : Fin 8 → Head F) : Carry F :=
  ((t 0).1, (t 0).2.1, (t 0).2.2, (t 1).1, (t 1).2.1, (t 1).2.2, (t 2).1, (t 2).2.1, (t 2).2.2, (t 3).1, (t 3).2.1, (t 3).2.2, (t 4).1, (t 4).2.1, (t 4).2.2, (t 5).1, (t 5).2.1, (t 5).2.2, (t 6).1, (t 6).2.1, (t 6).2.2, (t 7).1, (t 7).2.1, (t 7).2.2)
/-- and taking them apart. -/
def head (a : Carry F) : Fin 8 → Head F
  | 0 => (a.1, a.2.1, a.2.2.1)
  | 1 => (a.2.2.2.1, a.2.2.2.2.1, a.2.2.2.2.2.1)
  | 2 => (a.2.2.2.2.2.2.1, a.2.2.2.2.2.2.2.1, a.2.2.2.2.2.2.2.2.1)
  | 3 => (a.2.2.2.2.2.2.2.2.2.1, a.2.2.2.2.2.2.2.2.2.2.1, a.2.2.2.2.2.2.2.2.2.2.2.1)
  | 4 => (a.2.2.2.2.2.2.2.2.2.2.2.2.1, a.2.2.2.2.2.2.2.2.2.2.2.2.2.1, a.2.2.2.2.2.2.2.2.2.2.2.2.2.2.1)
  | 5 => (a.2.2.2.2.2.2.2.2.2.2.2.2.2.2.2.1, a.2.2.2.2.2.2.2.2.2.2.2.2.2.2.2.2.1, a.2.2.2.2.2.2.2.2.2.2.2.2.2.2.2.2.2.1)
  | 6 => (a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1)
  | 7 => (a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)

theorem head_pack (t : Fin 8 → Head F) : head (pack t) = t := by
  funext h
  fin_cases h <;> rfl

/-! ### The scratch read back -/

/-- A slab loaded past the store of another slab. -/
theorem skipSlab {sig : RefSig} {κ : Kind} {sp : Space} (view : View sig κ sp S8x512x512 .f32) (n m : ℕ) (h : n + 1 ≤ m ∨ m + 1 ≤ n)
    (b : ∀ a, ![n, 0, 0] a + S1x512x512.size a ≤ S8x512x512.size a) (b' : ∀ a, ![m, 0, 0] a + S1x512x512.size a ≤ S8x512x512.size a)
    (w : FVec F S1x512x512 .f32) (L : List (View.Piece (Elt F) S8x512x512 .f32)) :
    view.readCov (⟨Rect.unit ![n, 0, 0] S1x512x512.size b, w⟩ :: L) (Rect.unit (s := S8x512x512) ![m, 0, 0] S1x512x512.size b').toLoadRect
      = view.readCov L (Rect.unit (s := S8x512x512) ![m, 0, 0] S1x512x512.size b').toLoadRect :=
  by
  rw [View.readCov_cons_of_disjoint]
  refine Rect.unit_disjoint (s := S8x512x512) (inb := b) (inb' := b') 0 ?_
  exact h

section Scratch

variable {sig : RefSig} {κ : Kind} {sp : Space} (view : View sig κ sp S8x512x512 .f32)
variable {w0 w1 w2 w3 w4 w5 w6 w7 : FVec F S1x512x512 .f32} {L : List (View.Piece (Elt F) S8x512x512 .f32)}

variable {b0 : ∀ a, ![0, 0, 0] a + S1x512x512.size a ≤ S8x512x512.size a} {b1 : ∀ a, ![1, 0, 0] a + S1x512x512.size a ≤ S8x512x512.size a} {b2 : ∀ a, ![2, 0, 0] a + S1x512x512.size a ≤ S8x512x512.size a} {b3 : ∀ a, ![3, 0, 0] a + S1x512x512.size a ≤ S8x512x512.size a} {b4 : ∀ a, ![4, 0, 0] a + S1x512x512.size a ≤ S8x512x512.size a} {b5 : ∀ a, ![5, 0, 0] a + S1x512x512.size a ≤ S8x512x512.size a} {b6 : ∀ a, ![6, 0, 0] a + S1x512x512.size a ≤ S8x512x512.size a} {b7 : ∀ a, ![7, 0, 0] a + S1x512x512.size a ≤ S8x512x512.size a}

theorem slab_0 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![0, 0, 0] S1x512x512.size b0).toLoadRect = w0 :=
  (skipSlab view 7 0 (by decide) b7 b0 w7 _).trans ((skipSlab view 6 0 (by decide) b6 b0 w6 _).trans ((skipSlab view 5 0 (by decide) b5 b0 w5 _).trans ((skipSlab view 4 0 (by decide) b4 b0 w4 _).trans ((skipSlab view 3 0 (by decide) b3 b0 w3 _).trans ((skipSlab view 2 0 (by decide) b2 b0 w2 _).trans ((skipSlab view 1 0 (by decide) b1 b0 w1 _).trans (View.readCov_cons_toLoadRect _ _ _ _)))))))
theorem slab_1 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![1, 0, 0] S1x512x512.size b1).toLoadRect = w1 :=
  (skipSlab view 7 1 (by decide) b7 b1 w7 _).trans ((skipSlab view 6 1 (by decide) b6 b1 w6 _).trans ((skipSlab view 5 1 (by decide) b5 b1 w5 _).trans ((skipSlab view 4 1 (by decide) b4 b1 w4 _).trans ((skipSlab view 3 1 (by decide) b3 b1 w3 _).trans ((skipSlab view 2 1 (by decide) b2 b1 w2 _).trans (View.readCov_cons_toLoadRect _ _ _ _))))))
theorem slab_2 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![2, 0, 0] S1x512x512.size b2).toLoadRect = w2 :=
  (skipSlab view 7 2 (by decide) b7 b2 w7 _).trans ((skipSlab view 6 2 (by decide) b6 b2 w6 _).trans ((skipSlab view 5 2 (by decide) b5 b2 w5 _).trans ((skipSlab view 4 2 (by decide) b4 b2 w4 _).trans ((skipSlab view 3 2 (by decide) b3 b2 w3 _).trans (View.readCov_cons_toLoadRect _ _ _ _)))))
theorem slab_3 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![3, 0, 0] S1x512x512.size b3).toLoadRect = w3 :=
  (skipSlab view 7 3 (by decide) b7 b3 w7 _).trans ((skipSlab view 6 3 (by decide) b6 b3 w6 _).trans ((skipSlab view 5 3 (by decide) b5 b3 w5 _).trans ((skipSlab view 4 3 (by decide) b4 b3 w4 _).trans (View.readCov_cons_toLoadRect _ _ _ _))))
theorem slab_4 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![4, 0, 0] S1x512x512.size b4).toLoadRect = w4 :=
  (skipSlab view 7 4 (by decide) b7 b4 w7 _).trans ((skipSlab view 6 4 (by decide) b6 b4 w6 _).trans ((skipSlab view 5 4 (by decide) b5 b4 w5 _).trans (View.readCov_cons_toLoadRect _ _ _ _)))
theorem slab_5 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![5, 0, 0] S1x512x512.size b5).toLoadRect = w5 :=
  (skipSlab view 7 5 (by decide) b7 b5 w7 _).trans ((skipSlab view 6 5 (by decide) b6 b5 w6 _).trans (View.readCov_cons_toLoadRect _ _ _ _))
theorem slab_6 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![6, 0, 0] S1x512x512.size b6).toLoadRect = w6 :=
  (skipSlab view 7 6 (by decide) b7 b6 w7 _).trans (View.readCov_cons_toLoadRect _ _ _ _)
theorem slab_7 : view.readCov (⟨Rect.unit ![7, 0, 0] S1x512x512.size b7, w7⟩ :: ⟨Rect.unit ![6, 0, 0] S1x512x512.size b6, w6⟩ :: ⟨Rect.unit ![5, 0, 0] S1x512x512.size b5, w5⟩ :: ⟨Rect.unit ![4, 0, 0] S1x512x512.size b4, w4⟩ :: ⟨Rect.unit ![3, 0, 0] S1x512x512.size b3, w3⟩ :: ⟨Rect.unit ![2, 0, 0] S1x512x512.size b2, w2⟩ :: ⟨Rect.unit ![1, 0, 0] S1x512x512.size b1, w1⟩ :: ⟨Rect.unit ![0, 0, 0] S1x512x512.size b0, w0⟩ :: L) (Rect.unit (s := S8x512x512) ![7, 0, 0] S1x512x512.size b7).toLoadRect = w7 :=
  View.readCov_cons_toLoadRect _ _ _ _

end Scratch

/-! ### One trip of the loop -/

variable (𝒱 : Variants) (c : Dev nD) (bd : Option 𝒱.V) (i : grid0.Coords) (arg2 : Memref sig .tc .vmem S512x2048 .bf16) (harg2 : arg2.IsWhole) (arg3 : Memref sig .tc .vmem S2048x2048 .bf16) (harg3 : arg3.IsWhole) (arg4 : Memref sig .tc .vmem S4x1024x512 .bf16) (harg4 : arg4.IsWhole) (arg5 : Memref sig .tc .vmem S512x1024 .bf16) (harg5 : arg5.IsWhole) (arg6 : Memref sig .tc .vmem S8x512x512 .f32) (harg6 : arg6.IsWhole) (v21 : BitVec 32) (v81 : Vec F S512x256 .bf16) (v82 : Vec F S512x256 .bf16) (v83 : Vec F S512x256 .bf16) (v84 : Vec F S512x256 .bf16) (v85 : Vec F S512x256 .bf16) (v86 : Vec F S512x256 .bf16) (v87 : Vec F S512x256 .bf16) (v88 : Vec F S512x256 .bf16) (v89 : FVec F S1x512 .f32) (v90 : FVec F S1x512 .f32) (v91 : FVec F S128x512 .f32) (v92 : FVec F S1x512 .f32) (v93 : FVec F S1x512 .f32) (v94 : FVec F S128x512 .f32) (v95 : FVec F S1x512 .f32) (v96 : FVec F S1x512 .f32) (v97 : FVec F S128x512 .f32) (v98 : FVec F S1x512 .f32) (v99 : FVec F S1x512 .f32) (v100 : FVec F S128x512 .f32) (v101 : FVec F S1x512 .f32) (v102 : FVec F S1x512 .f32) (v103 : FVec F S128x512 .f32) (v104 : FVec F S1x512 .f32) (v105 : FVec F S1x512 .f32) (v106 : FVec F S128x512 .f32) (v107 : FVec F S1x512 .f32) (v108 : FVec F S1x512 .f32) (v109 : FVec F S128x512 .f32) (v110 : FVec F S1x512 .f32) (X_arg3 : BufTy.Contents (Elt F) arg3.view.ty) (X_arg4 : BufTy.Contents (Elt F) arg4.view.ty)
variable (k : Fin (k0_t1_loop i).trips) (a : Carry F) (f_arg6 : BufTy.Contents (Elt F) arg6.view.ty)

/-- The trip's keys of a head, -/
def keysAt (h : Fin 8) : Vec F S512x256 .bf16 :=
  match h with
  | 0 => View.readAt (Elt F) arg3.view (Rect.unit (s := S2048x2048) (k0_off1 i k) S512x256.size (k0_off1_inb i k)).toLoadRect X_arg3
  | 1 => View.readAt (Elt F) arg3.view (Rect.unit (s := S2048x2048) (k0_off2 i k) S512x256.size (k0_off2_inb i k)).toLoadRect X_arg3
  | 2 => View.readAt (Elt F) arg3.view (Rect.unit (s := S2048x2048) (k0_off3 i k) S512x256.size (k0_off3_inb i k)).toLoadRect X_arg3
  | 3 => View.readAt (Elt F) arg3.view (Rect.unit (s := S2048x2048) (k0_off4 i k) S512x256.size (k0_off4_inb i k)).toLoadRect X_arg3
  | 4 => View.readAt (Elt F) arg3.view (Rect.unit (s := S2048x2048) (k0_off5 i k) S512x256.size (k0_off5_inb i k)).toLoadRect X_arg3
  | 5 => View.readAt (Elt F) arg3.view (Rect.unit (s := S2048x2048) (k0_off6 i k) S512x256.size (k0_off6_inb i k)).toLoadRect X_arg3
  | 6 => View.readAt (Elt F) arg3.view (Rect.unit (s := S2048x2048) (k0_off7 i k) S512x256.size (k0_off7_inb i k)).toLoadRect X_arg3
  | 7 => View.readAt (Elt F) arg3.view (Rect.unit (s := S2048x2048) (k0_off8 i k) S512x256.size (k0_off8_inb i k)).toLoadRect X_arg3
/-- and values. -/
def valuesAt (h : Fin 8) : FVec F S128x512 .bf16 :=
  match h with
  | 0 => shapeCast S128x512 (View.readAt (Elt F) arg4.view (Rect.unit (s := S4x1024x512) (k0_off9 i k) S1x128x512.size (k0_off9_inb i k)).toLoadRect X_arg4) shapeCasts_S1x128x512_S128x512
  | 1 => shapeCast S128x512 (View.readAt (Elt F) arg4.view (Rect.unit (s := S4x1024x512) (k0_off10 i k) S1x128x512.size (k0_off10_inb i k)).toLoadRect X_arg4) shapeCasts_S1x128x512_S128x512
  | 2 => shapeCast S128x512 (View.readAt (Elt F) arg4.view (Rect.unit (s := S4x1024x512) (k0_off11 i k) S1x128x512.size (k0_off11_inb i k)).toLoadRect X_arg4) shapeCasts_S1x128x512_S128x512
  | 3 => shapeCast S128x512 (View.readAt (Elt F) arg4.view (Rect.unit (s := S4x1024x512) (k0_off12 i k) S1x128x512.size (k0_off12_inb i k)).toLoadRect X_arg4) shapeCasts_S1x128x512_S128x512
  | 4 => shapeCast S128x512 (View.readAt (Elt F) arg4.view (Rect.unit (s := S4x1024x512) (k0_off13 i k) S1x128x512.size (k0_off13_inb i k)).toLoadRect X_arg4) shapeCasts_S1x128x512_S128x512
  | 5 => shapeCast S128x512 (View.readAt (Elt F) arg4.view (Rect.unit (s := S4x1024x512) (k0_off14 i k) S1x128x512.size (k0_off14_inb i k)).toLoadRect X_arg4) shapeCasts_S1x128x512_S128x512
  | 6 => shapeCast S128x512 (View.readAt (Elt F) arg4.view (Rect.unit (s := S4x1024x512) (k0_off15 i k) S1x128x512.size (k0_off15_inb i k)).toLoadRect X_arg4) shapeCasts_S1x128x512_S128x512
  | 7 => shapeCast S128x512 (View.readAt (Elt F) arg4.view (Rect.unit (s := S4x1024x512) (k0_off16 i k) S1x128x512.size (k0_off16_inb i k)).toLoadRect X_arg4) shapeCasts_S1x128x512_S128x512
/-- The eight heads' queries. -/
def queries (h : Fin 8) : Vec F S512x256 .bf16 :=
  match h with
  | 0 => v81
  | 1 => v82
  | 2 => v83
  | 3 => v84
  | 4 => v85
  | 5 => v86
  | 6 => v87
  | 7 => v88

theorem load_0 : trip_k0_t1.sl.v468 i arg3 arg6 v81 v82 v83 v84 v85 v86 v87 v88 X_arg3 k = slab v81 (keysAt i arg3 X_arg3 k 0) :=
  slab_0 arg6.view
theorem load_1 : trip_k0_t1.sl.v487 i arg3 arg6 v81 v82 v83 v84 v85 v86 v87 v88 X_arg3 k = slab v82 (keysAt i arg3 X_arg3 k 1) :=
  slab_1 arg6.view
theorem load_2 : trip_k0_t1.sl.v506 i arg3 arg6 v81 v82 v83 v84 v85 v86 v87 v88 X_arg3 k = slab v83 (keysAt i arg3 X_arg3 k 2) :=
  slab_2 arg6.view
theorem load_3 : trip_k0_t1.sl.v525 i arg3 arg6 v81 v82 v83 v84 v85 v86 v87 v88 X_arg3 k = slab v84 (keysAt i arg3 X_arg3 k 3) :=
  slab_3 arg6.view
theorem load_4 : trip_k0_t1.sl.v544 i arg3 arg6 v81 v82 v83 v84 v85 v86 v87 v88 X_arg3 k = slab v85 (keysAt i arg3 X_arg3 k 4) :=
  slab_4 arg6.view
theorem load_5 : trip_k0_t1.sl.v563 i arg3 arg6 v81 v82 v83 v84 v85 v86 v87 v88 X_arg3 k = slab v86 (keysAt i arg3 X_arg3 k 5) :=
  slab_5 arg6.view
theorem load_6 : trip_k0_t1.sl.v582 i arg3 arg6 v81 v82 v83 v84 v85 v86 v87 v88 X_arg3 k = slab v87 (keysAt i arg3 X_arg3 k 6) :=
  slab_6 arg6.view
theorem load_7 : trip_k0_t1.sl.v601 i arg3 arg6 v81 v82 v83 v84 v85 v86 v87 v88 X_arg3 k = slab v88 (keysAt i arg3 X_arg3 k 7) :=
  slab_7 arg6.view

set_option maxHeartbeats 4000000 in
/-- A trip steps each head by its tile. -/
theorem trip_eq : tripR_k0_t1 (F := F) 𝒱 c bd i arg2 harg2 arg3 harg3 arg4 harg4 arg5 harg5 arg6 harg6 v21 v81 v82 v83 v84 v85 v86 v87 v88 v89 v90 v91 v92 v93 v94 v95 v96 v97 v98 v99 v100 v101 v102 v103 v104 v105 v106 v107 v108 v109 v110 X_arg3 X_arg4 k a f_arg6
    = pack fun h => step (loaded (queries v81 v82 v83 v84 v85 v86 v87 v88 h) (keysAt i arg3 X_arg3 k h)) (valuesAt i arg4 X_arg4 k h) (head a h) := by
  unfold tripR_k0_t1 trip_k0_t1
  unfold pack loaded
  have e0 := load_0 (F := F) i arg3 arg6 v81 v82 v83 v84 v85 v86 v87 v88 X_arg3 k
  have e1 := load_1 (F := F) i arg3 arg6 v81 v82 v83 v84 v85 v86 v87 v88 X_arg3 k
  have e2 := load_2 (F := F) i arg3 arg6 v81 v82 v83 v84 v85 v86 v87 v88 X_arg3 k
  have e3 := load_3 (F := F) i arg3 arg6 v81 v82 v83 v84 v85 v86 v87 v88 X_arg3 k
  have e4 := load_4 (F := F) i arg3 arg6 v81 v82 v83 v84 v85 v86 v87 v88 X_arg3 k
  have e5 := load_5 (F := F) i arg3 arg6 v81 v82 v83 v84 v85 v86 v87 v88 X_arg3 k
  have e6 := load_6 (F := F) i arg3 arg6 v81 v82 v83 v84 v85 v86 v87 v88 X_arg3 k
  have e7 := load_7 (F := F) i arg3 arg6 v81 v82 v83 v84 v85 v86 v87 v88 X_arg3 k
  simp only [queries]
  rw [← e0, ← e1, ← e2, ← e3, ← e4, ← e5, ← e6, ← e7]
  rfl

end Cert.Proof.Mla

end
-- ==== Proof.Mla.Out.lean ====
module

public import proofs.«01_k».proof.Proof.Mla.Run
public import proofs.«01_k».proof.Proof.Mla.Steps

@[expose] public section

/-! What a run of the attention body stores, as a function of the three blocks it reads. -/

set_option maxRecDepth 16384

noncomputable section

namespace Cert.Proof.Mla

open Cert.Kernel5Ideal Cert.Kernel5Ideal.Gen
open Idealize.ShloMosaic Idealize.ShloMosaic.TcCoe Idealize.ShloMosaic.Tactic

variable {F : FTy → Type} [FloatOps F] [Named F]

/-- A head after some tiles. -/
def heads (t : Head F) (x : ℕ → FVec F S512x512 .f32) (v : ℕ → FVec F S128x512 .bf16) : ℕ → Head F
  | 0 => t
  | n + 1 => step (x n) (v n) (heads t x v n)

section Loop

variable (𝒱 : Variants) (c : Dev nD) (bd : Option 𝒱.V) (i : grid0.Coords) (arg2 : Memref sig .tc .vmem S512x2048 .bf16) (harg2 : arg2.IsWhole) (arg3 : Memref sig .tc .vmem S2048x2048 .bf16) (harg3 : arg3.IsWhole) (arg4 : Memref sig .tc .vmem S4x1024x512 .bf16) (harg4 : arg4.IsWhole) (arg5 : Memref sig .tc .vmem S512x1024 .bf16) (harg5 : arg5.IsWhole) (arg6 : Memref sig .tc .vmem S8x512x512 .f32) (harg6 : arg6.IsWhole) (v21 : BitVec 32) (v81 : Vec F S512x256 .bf16) (v82 : Vec F S512x256 .bf16) (v83 : Vec F S512x256 .bf16) (v84 : Vec F S512x256 .bf16) (v85 : Vec F S512x256 .bf16) (v86 : Vec F S512x256 .bf16) (v87 : Vec F S512x256 .bf16) (v88 : Vec F S512x256 .bf16) (v89 : FVec F S1x512 .f32) (v90 : FVec F S1x512 .f32) (v91 : FVec F S128x512 .f32) (v92 : FVec F S1x512 .f32) (v93 : FVec F S1x512 .f32) (v94 : FVec F S128x512 .f32) (v95 : FVec F S1x512 .f32) (v96 : FVec F S1x512 .f32) (v97 : FVec F S128x512 .f32) (v98 : FVec F S1x512 .f32) (v99 : FVec F S1x512 .f32) (v100 : FVec F S128x512 .f32) (v101 : FVec F S1x512 .f32) (v102 : FVec F S1x512 .f32) (v103 : FVec F S128x512 .f32) (v104 : FVec F S1x512 .f32) (v105 : FVec F S1x512 .f32) (v106 : FVec F S128x512 .f32) (v107 : FVec F S1x512 .f32) (v108 : FVec F S1x512 .f32) (v109 : FVec F S128x512 .f32) (v110 : FVec F S1x512 .f32) (X_arg3 : BufTy.Contents (Elt F) arg3.view.ty) (X_arg4 : BufTy.Contents (Elt F) arg4.view.ty)
variable (K : ℕ → Fin 8 → Vec F S512x256 .bf16) (V : ℕ → Fin 8 → FVec F S128x512 .bf16)

/-- The loop takes every head through its tiles. -/
theorem st_eq (hK : ∀ k h, keysAt i arg3 X_arg3 k h = K k.val h) (hV : ∀ k h, valuesAt i arg4 X_arg4 k h = V k.val h)
    (G : BufTy.Contents (Elt F) arg6.view.ty) (t : Fin 8 → Head F) :
    ∀ n, n ≤ (k0_t1_loop i).trips → (st_k0_t1 (F := F) 𝒱 c bd i arg2 harg2 arg3 harg3 arg4 harg4 arg5 harg5 arg6 harg6 v21 v81 v82 v83 v84 v85 v86 v87 v88 v89 v90 v91 v92 v93 v94 v95 v96 v97 v98 v99 v100 v101 v102 v103 v104 v105 v106 v107 v108 v109 v110 X_arg3 X_arg4 G (pack t) n).1
      = pack fun h => heads (t h) (fun n => loaded (queries v81 v82 v83 v84 v85 v86 v87 v88 h) (K n h)) (fun n => V n h) n
  | 0, _ => rfl
  | n + 1, hn => by
    refine (congrArg Prod.fst (st_k0_t1_succ (F := F) 𝒱 c bd i arg2 harg2 arg3 harg3 arg4 harg4 arg5 harg5 arg6 harg6 v21 v81 v82 v83 v84 v85 v86 v87 v88 v89 v90 v91 v92 v93 v94 v95 v96 v97 v98 v99 v100 v101 v102 v103 v104 v105 v106 v107 v108 v109 v110 X_arg3 X_arg4 G (pack t) ⟨n, hn⟩)).trans ?_
    dsimp only
    rw [trip_eq, st_eq hK hV G t n (Nat.le_of_succ_le hn), head_pack]
    simp only [hK, hV]
    rfl

end Loop

section Body

variable (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S4x1024x512 .bf16) (harg4 : arg4.IsWhole) (arg5 : Memref sig .tc .vmem S512x1024 .bf16) (harg5 : arg5.IsWhole) (arg6 : Memref sig .tc .vmem S8x512x512 .f32) (harg6 : arg6.IsWhole)
variable (q : Vec F S512x2048 .bf16) (k : Vec F S2048x2048 .bf16) (v : Vec F S4x1024x512 .bf16) (g : BufTy.Contents (Elt F) arg6.view.ty)

/-- What the loop carries out. -/
def carried : Carry F :=
  (st_k0_t1 Variants.none c none i arg2 harg2 arg3 harg3 arg4 harg4 arg5 harg5 arg6 harg6 (bodyRun.sl.v21 i) (bodyRun.sl.r_1 c arg2 harg2 q) (bodyRun.sl.r_2 c arg2 harg2 q) (bodyRun.sl.r_3 c arg2 harg2 q) (bodyRun.sl.r_4 c arg2 harg2 q) (bodyRun.sl.r_5 c arg2 harg2 q) (bodyRun.sl.r_6 c arg2 harg2 q) (bodyRun.sl.r_7 c arg2 harg2 q) (bodyRun.sl.r_8 c arg2 harg2 q) k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 (harg3.unread k) (harg4.unread v) g (k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143) (Scf.trips (k0_t1_loop i).lb (k0_t1_loop i).ub (k0_t1_loop i).st)).1

theorem no_trips : Scf.trips (k0_t2_loop i).lb (k0_t2_loop i).ub (k0_t2_loop i).st = 0 := Nat.le_zero.mp (k0_t2_abs i).2.1

theorem out_9 : bodyRun.sl.r_9 c i arg2 harg2 arg3 harg3 arg4 harg4 arg5 harg5 arg6 harg6 q k v g = (carried c i arg2 harg2 arg3 harg3 arg4 harg4 arg5 harg5 arg6 harg6 q k v g).1 := by
  unfold bodyRun.sl.r_9 carried; rw [no_trips, st_k0_t2.eq_1]
theorem out_10 : bodyRun.sl.r_10 c i arg2 harg2 arg3 harg3 arg4 harg4 arg5 harg5 arg6 harg6 q k v g = (carried c i arg2 harg2 arg3 harg3 arg4 harg4 arg5 harg5 arg6 harg6 q k v g).2.1 := by
  unfold bodyRun.sl.r_10 carried; rw [no_trips, st_k0_t2.eq_1]
theorem out_11 : bodyRun.sl.r_11 c i arg2 harg2 arg3 harg3 arg4 harg4 arg5 harg5 arg6 harg6 q k v g = (carried c i arg2 harg2 arg3 harg3 arg4 harg4 arg5 harg5 arg6 harg6 q k v g).2.2.1 := by
  unfold bodyRun.sl.r_11 carried; rw [no_trips, st_k0_t2.eq_1]
theorem out_12 : bodyRun.sl.r_12 c i arg2 harg2 arg3 harg3 arg4 harg4 arg5 harg5 arg6 harg6 q k v g = (carried c i arg2 harg2 arg3 harg3 arg4 harg4 arg5 harg5 arg6 harg6 q k v g).2.2.2.1 := by
  unfold bodyRun.sl.r_12 carried; rw [no_trips, st_k0_t2.eq_1]
theorem out_13 : bodyRun.sl.r_13 c i arg2 harg2 arg3 harg3 arg4 harg4 arg5 harg5 arg6 harg6 q k v g = (carried c i arg2 harg2 arg3 harg3 arg4 harg4 arg5 harg5 arg6 harg6 q k v g).2.2.2.2.1 := by
  unfold bodyRun.sl.r_13 carried; rw [no_trips, st_k0_t2.eq_1]
theorem out_14 : bodyRun.sl.r_14 c i arg2 harg2 arg3 harg3 arg4 harg4 arg5 harg5 arg6 harg6 q k v g = (carried c i arg2 harg2 arg3 harg3 arg4 harg4 arg5 harg5 arg6 harg6 q k v g).2.2.2.2.2.1 := by
  unfold bodyRun.sl.r_14 carried; rw [no_trips, st_k0_t2.eq_1]
theorem out_15 : bodyRun.sl.r_15 c i arg2 harg2 arg3 harg3 arg4 harg4 arg5 harg5 arg6 harg6 q k v g = (carried c i arg2 harg2 arg3 harg3 arg4 harg4 arg5 harg5 arg6 harg6 q k v g).2.2.2.2.2.2.1 := by
  unfold bodyRun.sl.r_15 carried; rw [no_trips, st_k0_t2.eq_1]
theorem out_16 : bodyRun.sl.r_16 c i arg2 harg2 arg3 harg3 arg4 harg4 arg5 harg5 arg6 harg6 q k v g = (carried c i arg2 harg2 arg3 harg3 arg4 harg4 arg5 harg5 arg6 harg6 q k v g).2.2.2.2.2.2.2.1 := by
  unfold bodyRun.sl.r_16 carried; rw [no_trips, st_k0_t2.eq_1]
theorem out_17 : bodyRun.sl.r_17 c i arg2 harg2 arg3 harg3 arg4 harg4 arg5 harg5 arg6 harg6 q k v g = (carried c i arg2 harg2 arg3 harg3 arg4 harg4 arg5 harg5 arg6 harg6 q k v g).2.2.2.2.2.2.2.2.1 := by
  unfold bodyRun.sl.r_17 carried; rw [no_trips, st_k0_t2.eq_1]
theorem out_18 : bodyRun.sl.r_18 c i arg2 harg2 arg3 harg3 arg4 harg4 arg5 harg5 arg6 harg6 q k v g = (carried c i arg2 harg2 arg3 harg3 arg4 harg4 arg5 harg5 arg6 harg6 q k v g).2.2.2.2.2.2.2.2.2.1 := by
  unfold bodyRun.sl.r_18 carried; rw [no_trips, st_k0_t2.eq_1]
theorem out_19 : bodyRun.sl.r_19 c i arg2 harg2 arg3 harg3 arg4 harg4 arg5 harg5 arg6 harg6 q k v g = (carried c i arg2 harg2 arg3 harg3 arg4 harg4 arg5 harg5 arg6 harg6 q k v g).2.2.2.2.2.2.2.2.2.2.1 := by
  unfold bodyRun.sl.r_19 carried; rw [no_trips, st_k0_t2.eq_1]
theorem out_20 : bodyRun.sl.r_20 c i arg2 harg2 arg3 harg3 arg4 harg4 arg5 harg5 arg6 harg6 q k v g = (carried c i arg2 harg2 arg3 harg3 arg4 harg4 arg5 harg5 arg6 harg6 q k v g).2.2.2.2.2.2.2.2.2.2.2.1 := by
  unfold bodyRun.sl.r_20 carried; rw [no_trips, st_k0_t2.eq_1]
theorem out_21 : bodyRun.sl.r_21 c i arg2 harg2 arg3 harg3 arg4 harg4 arg5 harg5 arg6 harg6 q k v g = (carried c i arg2 harg2 arg3 harg3 arg4 harg4 arg5 harg5 arg6 harg6 q k v g).2.2.2.2.2.2.2.2.2.2.2.2.1 := by
  unfold bodyRun.sl.r_21 carried; rw [no_trips, st_k0_t2.eq_1]
theorem out_22 : bodyRun.sl.r_22 c i arg2 harg2 arg3 harg3 arg4 harg4 arg5 harg5 arg6 harg6 q k v g = (carried c i arg2 harg2 arg3 harg3 arg4 harg4 arg5 harg5 arg6 harg6 q k v g).2.2.2.2.2.2.2.2.2.2.2.2.2.1 := by
  unfold bodyRun.sl.r_22 carried; rw [no_trips, st_k0_t2.eq_1]
theorem out_23 : bodyRun.sl.r_23 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.1 := by
  unfold bodyRun.sl.r_23 carried; rw [no_trips, st_k0_t2.eq_1]
theorem out_24 : bodyRun.sl.r_24 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.1 := by
  unfold bodyRun.sl.r_24 carried; rw [no_trips, st_k0_t2.eq_1]
theorem out_25 : bodyRun.sl.r_25 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.1 := by
  unfold bodyRun.sl.r_25 carried; rw [no_trips, st_k0_t2.eq_1]
theorem out_26 : bodyRun.sl.r_26 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.1 := by
  unfold bodyRun.sl.r_26 carried; rw [no_trips, st_k0_t2.eq_1]
theorem out_27 : bodyRun.sl.r_27 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.2.1 := by
  unfold bodyRun.sl.r_27 carried; rw [no_trips, st_k0_t2.eq_1]
theorem out_28 : bodyRun.sl.r_28 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.2.2.1 := by
  unfold bodyRun.sl.r_28 carried; rw [no_trips, st_k0_t2.eq_1]
theorem out_29 : bodyRun.sl.r_29 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.2.2.2.1 := by
  unfold bodyRun.sl.r_29 carried; rw [no_trips, st_k0_t2.eq_1]
theorem out_30 : bodyRun.sl.r_30 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.2.2.2.2.1 := by
  unfold bodyRun.sl.r_30 carried; rw [no_trips, st_k0_t2.eq_1]
theorem out_31 : bodyRun.sl.r_31 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.2.2.2.2.2.1 := by
  unfold bodyRun.sl.r_31 carried; rw [no_trips, st_k0_t2.eq_1]
theorem out_32 : bodyRun.sl.r_32 c i arg2 harg2 arg3 harg3 arg4 harg4 arg5 harg5 arg6 harg6 q k v g = (carried c i arg2 harg2 arg3 harg3 arg4 harg4 arg5 harg5 arg6 harg6 q k v g).2.2.2.2.2.2.2.2.2.2.2.2.2.2.2.2.2.2.2.2.2.2.2 := by
  unfold bodyRun.sl.r_32 carried; rw [no_trips, st_k0_t2.eq_1]
theorem tail_0 : bodyRun.sl.v194 c i arg2 harg2 arg3 harg3 arg4 harg4 arg5 harg5 arg6 harg6 q k v g = slab (bodyRun.sl.r_1 c arg2 harg2 q) (bodyRun.sl.r_33 i arg3 harg3 k) :=
  slab_0 arg6.view
theorem tail_1 : bodyRun.sl.v214 c i arg2 harg2 arg3 harg3 arg4 harg4 arg5 harg5 arg6 harg6 q k v g = slab (bodyRun.sl.r_2 c arg2 harg2 q) (bodyRun.sl.r_34 i arg3 harg3 k) :=
  slab_1 arg6.view
theorem tail_2 : bodyRun.sl.v234 c i arg2 harg2 arg3 harg3 arg4 harg4 arg5 harg5 arg6 harg6 q k v g = slab (bodyRun.sl.r_3 c arg2 harg2 q) (bodyRun.sl.r_35 i arg3 harg3 k) :=
  slab_2 arg6.view
theorem tail_3 : bodyRun.sl.v254 c i arg2 harg2 arg3 harg3 arg4 harg4 arg5 harg5 arg6 harg6 q k v g = slab (bodyRun.sl.r_4 c arg2 harg2 q) (bodyRun.sl.r_36 i arg3 harg3 k) :=
  slab_3 arg6.view
theorem tail_4 : bodyRun.sl.v274 c i arg2 harg2 arg3 harg3 arg4 harg4 arg5 harg5 arg6 harg6 q k v g = slab (bodyRun.sl.r_5 c arg2 harg2 q) (bodyRun.sl.r_37 i arg3 harg3 k) :=
  slab_4 arg6.view
theorem tail_5 : bodyRun.sl.v294 c i arg2 harg2 arg3 harg3 arg4 harg4 arg5 harg5 arg6 harg6 q k v g = slab (bodyRun.sl.r_6 c arg2 harg2 q) (bodyRun.sl.r_38 i arg3 harg3 k) :=
  slab_5 arg6.view
theorem tail_6 : bodyRun.sl.v314 c i arg2 harg2 arg3 harg3 arg4 harg4 arg5 harg5 arg6 harg6 q k v g = slab (bodyRun.sl.r_7 c arg2 harg2 q) (bodyRun.sl.r_39 i arg3 harg3 k) :=
  slab_6 arg6.view
theorem tail_7 : bodyRun.sl.v334 c i arg2 harg2 arg3 harg3 arg4 harg4 arg5 harg5 arg6 harg6 q k v g = slab (bodyRun.sl.r_8 c arg2 harg2 q) (bodyRun.sl.r_40 i arg3 harg3 k) :=
  slab_7 arg6.view

/-- A head's result block: the weighted values over the sum of weights, a row per query. -/
def outPiece (t : Head F) : FVec F S512x128 .bf16 :=
  truncf .bf16 (transpose S512x128 [1, 0] (divf t.2.2 (broadcastTo S128x512 t.2.1 broadcasts_S1x512_S128x512)) transposes_S128x512_p1_0_S512x128) bitsLt_bf16_f32

theorem piece_0 : k0_pay232 (bodyRun.sl.r_50 c i arg2 harg2 arg3 harg3 arg4 harg4 arg5 harg5 arg6 harg6 q k v g) (bodyRun.sl.r_51 c i arg2 harg2 arg3 harg3 arg4 harg4 arg5 harg5 arg6 harg6 q k v g)
    = outPiece (step (addf (loaded (bodyRun.sl.r_1 c arg2 harg2 q) (bodyRun.sl.r_33 i arg3 harg3 k)) (bodyRun.sl.r i)) (bodyRun.sl.r_41 i arg4 harg4 v) (head (carried c i arg2 harg2 arg3 harg3 arg4 harg4 arg5 harg5 arg6 harg6 q k v g) 0)) := by
  unfold bodyRun.sl.r_50 bodyRun.sl.r_51 loaded
  rw [out_9, out_10, out_11, tail_0]
  generalize carried c i arg2 harg2 arg3 harg3 arg4 harg4 arg5 harg5 arg6 harg6 q k v g = C
  rfl
theorem piece_1 : k0_pay233 (bodyRun.sl.r_52 c i arg2 harg2 arg3 harg3 arg4 harg4 arg5 harg5 arg6 harg6 q k v g) (bodyRun.sl.r_53 c i arg2 harg2 arg3 harg3 arg4 harg4 arg5 harg5 arg6 harg6 q k v g)
    = outPiece (step (addf (loaded (bodyRun.sl.r_2 c arg2 harg2 q) (bodyRun.sl.r_34 i arg3 harg3 k)) (bodyRun.sl.r i)) (bodyRun.sl.r_42 i arg4 harg4 v) (head (carried c i arg2 harg2 arg3 harg3 arg4 harg4 arg5 harg5 arg6 harg6 q k v g) 1)) := by
  unfold bodyRun.sl.r_52 bodyRun.sl.r_53 loaded
  rw [out_12, out_13, out_14, tail_1]
  generalize carried c i arg2 harg2 arg3 harg3 arg4 harg4 arg5 harg5 arg6 harg6 q k v g = C
  rfl
theorem piece_2 : k0_pay234 (bodyRun.sl.r_54 c i arg2 harg2 arg3 harg3 arg4 harg4 arg5 harg5 arg6 harg6 q k v g) (bodyRun.sl.r_55 c i arg2 harg2 arg3 harg3 arg4 harg4 arg5 harg5 arg6 harg6 q k v g)
    = outPiece (step (addf (loaded (bodyRun.sl.r_3 c arg2 harg2 q) (bodyRun.sl.r_35 i arg3 harg3 k)) (bodyRun.sl.r i)) (bodyRun.sl.r_43 i arg4 harg4 v) (head (carried c i arg2 harg2 arg3 harg3 arg4 harg4 arg5 harg5 arg6 harg6 q k v g) 2)) := by
  unfold bodyRun.sl.r_54 bodyRun.sl.r_55 loaded
  rw [out_15, out_16, out_17, tail_2]
  generalize carried c i arg2 harg2 arg3 harg3 arg4 harg4 arg5 harg5 arg6 harg6 q k v g = C
  rfl
theorem piece_3 : k0_pay235 (bodyRun.sl.r_58 c i arg2 harg2 arg3 harg3 arg4 harg4 arg5 harg5 arg6 harg6 q k v g) (bodyRun.sl.r_59 c i arg2 harg2 arg3 harg3 arg4 harg4 arg5 harg5 arg6 harg6 q k v g)
    = outPiece (step (addf (loaded (bodyRun.sl.r_4 c arg2 harg2 q) (bodyRun.sl.r_36 i arg3 harg3 k)) (bodyRun.sl.r i)) (bodyRun.sl.r_44 i arg4 harg4 v) (head (carried c i arg2 harg2 arg3 harg3 arg4 harg4 arg5 harg5 arg6 harg6 q k v g) 3)) := by
  unfold bodyRun.sl.r_58 bodyRun.sl.r_59 bodyRun.sl.r_56 bodyRun.sl.r_57 loaded
  rw [out_18, out_19, out_20, tail_3]
  generalize carried c i arg2 harg2 arg3 harg3 arg4 harg4 arg5 harg5 arg6 harg6 q k v g = C
  rfl
theorem piece_4 : k0_pay236 (bodyRun.sl.r_60 c i arg2 harg2 arg3 harg3 arg4 harg4 arg5 harg5 arg6 harg6 q k v g) (bodyRun.sl.r_61 c i arg2 harg2 arg3 harg3 arg4 harg4 arg5 harg5 arg6 harg6 q k v g)
    = outPiece (step (addf (loaded (bodyRun.sl.r_5 c arg2 harg2 q) (bodyRun.sl.r_37 i arg3 harg3 k)) (bodyRun.sl.r i)) (bodyRun.sl.r_45 i arg4 harg4 v) (head (carried c i arg2 harg2 arg3 harg3 arg4 harg4 arg5 harg5 arg6 harg6 q k v g) 4)) := by
  unfold bodyRun.sl.r_60 bodyRun.sl.r_61 loaded
  rw [out_21, out_22, out_23, tail_4]
  generalize carried c i arg2 harg2 arg3 harg3 arg4 harg4 arg5 harg5 arg6 harg6 q k v g = C
  rfl
theorem piece_5 : k0_pay237 (bodyRun.sl.r_65 c i arg2 harg2 arg3 harg3 arg4 harg4 arg5 harg5 arg6 harg6 q k v g) (bodyRun.sl.r_66 c i arg2 harg2 arg3 harg3 arg4 harg4 arg5 harg5 arg6 harg6 q k v g)
    = outPiece (step (addf (loaded (bodyRun.sl.r_6 c arg2 harg2 q) (bodyRun.sl.r_38 i arg3 harg3 k)) (bodyRun.sl.r i)) (bodyRun.sl.r_46 i arg4 harg4 v) (head (carried c i arg2 harg2 arg3 harg3 arg4 harg4 arg5 harg5 arg6 harg6 q k v g) 5)) := by
  unfold bodyRun.sl.r_65 bodyRun.sl.r_66 bodyRun.sl.r_64 bodyRun.sl.r_62 bodyRun.sl.r_63 loaded
  rw [out_24, out_25, out_26, tail_5]
  generalize carried c i arg2 harg2 arg3 harg3 arg4 harg4 arg5 harg5 arg6 harg6 q k v g = C
  rfl
theorem piece_6 : k0_pay238 (bodyRun.sl.r_67 c i arg2 harg2 arg3 harg3 arg4 harg4 arg5 harg5 arg6 harg6 q k v g) (bodyRun.sl.r_68 c i arg2 harg2 arg3 harg3 arg4 harg4 arg5 harg5 arg6 harg6 q k v g)
    = outPiece (step (addf (loaded (bodyRun.sl.r_7 c arg2 harg2 q) (bodyRun.sl.r_39 i arg3 harg3 k)) (bodyRun.sl.r i)) (bodyRun.sl.r_47 i arg4 harg4 v) (head (carried c i arg2 harg2 arg3 harg3 arg4 harg4 arg5 harg5 arg6 harg6 q k v g) 6)) := by
  unfold bodyRun.sl.r_67 bodyRun.sl.r_68 loaded
  rw [out_27, out_28, out_29, tail_6]
  generalize carried c i arg2 harg2 arg3 harg3 arg4 harg4 arg5 harg5 arg6 harg6 q k v g = C
  rfl
theorem piece_7 : k0_pay1 (bodyRun.sl.r_72 c i arg2 harg2 arg3 harg3 arg4 harg4 arg5 harg5 arg6 harg6 q k v g)
    = outPiece (step (addf (loaded (bodyRun.sl.r_8 c arg2 harg2 q) (bodyRun.sl.r_40 i arg3 harg3 k)) (bodyRun.sl.r i)) (bodyRun.sl.r_48 i arg4 harg4 v) (head (carried c i arg2 harg2 arg3 harg3 arg4 harg4 arg5 harg5 arg6 harg6 q k v g) 7)) := by
  unfold bodyRun.sl.r_72 bodyRun.sl.r_69 bodyRun.sl.r_70 bodyRun.sl.r_71 loaded
  rw [out_30, out_31, out_32, tail_7]
  generalize carried c i arg2 harg2 arg3 harg3 arg4 harg4 arg5 harg5 arg6 harg6 q k v g = C
  rfl

end Body

end Cert.Proof.Mla

end
-- ==== Proof.Mla.Block.lean ====
module

public import proofs.«01_k».proof.Proof.Mla.Out
public import Idealize.ShloMosaic.Lib.Pointwise
public import Idealize.ShloMosaic.Lib.Writes

@[expose] public section

/-! The block of results a point of the grid leaves, from the blocks of queries, keys and values it reads. -/

set_option maxRecDepth 16384

noncomputable section

namespace Cert.Proof.Mla

open Cert.Kernel5Ideal Cert.Kernel5Ideal.Gen
open Idealize.ShloMosaic Idealize.ShloMosaic.TcCoe Idealize.ShloMosaic.Tactic

variable {F : FTy → Type} [FloatOps F] [Named F]

/-- A head's queries, -/
def qOf (q : Vec F S512x2048 .bf16) (h : Fin 8) : Vec F S512x256 .bf16 :=
  fun y => q (ix2 (y 0 : Fin 512) (⟨256 * h.val + (y 1).val, by have : (y 1).val < 256 := (y 1).isLt; omega⟩ : Fin 2048))
/-- its keys of a tile -/
def kOf (k : Vec F S2048x2048 .bf16) (n : ℕ) (h : Fin 8) : Vec F S512x256 .bf16 :=
  fun y => k (ix2 (⟨(512 * n + (y 0).val) % 2048, by omega⟩ : Fin 2048) (⟨256 * h.val + (y 1).val, by have : (y 1).val < 256 := (y 1).isLt; omega⟩ : Fin 2048))
/-- and its values of a tile. -/
def vOf (v : Vec F S4x1024x512 .bf16) (n : ℕ) (h : Fin 8) : FVec F S128x512 .bf16 :=
  fun y => v (ix3 (⟨n % 4, by omega⟩ : Fin 4) (⟨128 * h.val + (y 0).val, by have : (y 0).val < 128 := (y 0).isLt; omega⟩ : Fin 1024) (y 1 : Fin 512))

theorem queries_of (arg2 : Memref sig .tc .vmem S512x2048 .bf16) (harg2 : arg2.IsWhole) (q : Vec F S512x2048 .bf16) (h : Fin 8)
    (off : Fin 2 → ℕ) (b : ∀ a, off a + S512x256.size a ≤ S512x2048.size a) (e : off = ![0, 256 * h.val]) :
    View.readAt (Elt F) arg2.view (Rect.unit (s := S512x2048) off S512x256.size b).toLoadRect (harg2.unread q) = qOf q h := by
  subst e
  rw [View.readAt_eq_ld, harg2.read_unread]
  funext y
  refine congrArg q (Rect.emb_eq_of_coords _ _ _ fun a => ?_)
  match a with
  | ⟨0, _⟩ => show (y 0).val = 0 + 1 * (y 0).val; omega
  | ⟨1, _⟩ => show 256 * h.val + (y 1).val = 256 * h.val + 1 * (y 1).val; omega

theorem keys_of (arg3 : Memref sig .tc .vmem S2048x2048 .bf16) (harg3 : arg3.IsWhole) (k : Vec F S2048x2048 .bf16) (n : ℕ) (hn : n < 4) (h : Fin 8)
    (off : Fin 2 → ℕ) (b : ∀ a, off a + S512x256.size a ≤ S2048x2048.size a) (e : off = ![512 * n, 256 * h.val]) :
    View.readAt (Elt F) arg3.view (Rect.unit (s := S2048x2048) off S512x256.size b).toLoadRect (harg3.unread k) = kOf k n h := by
  subst e
  rw [View.readAt_eq_ld, harg3.read_unread]
  funext y
  have hy : (y 0).val < 512 := (y 0).isLt
  refine congrArg k (Rect.emb_eq_of_coords _ _ _ fun a => ?_)
  match a with
  | ⟨0, _⟩ => show (512 * n + (y 0).val) % 2048 = 512 * n + 1 * (y 0).val; omega
  | ⟨1, _⟩ => show 256 * h.val + (y 1).val = 256 * h.val + 1 * (y 1).val; omega

theorem flat_tile (x : Vec F S1x128x512 .bf16) (y : S128x512.Idx) :
    shapeCast S128x512 x shapeCasts_S1x128x512_S128x512 y = x (ix3 (0 : Fin 1) (y 0 : Fin 128) (y 1 : Fin 512)) := by
  have hy : y = ix2 (y 0 : Fin 128) (y 1 : Fin 512) := by funext a; match a with | ⟨0, _⟩ => rfl | ⟨1, _⟩ => rfl
  rw [hy]
  pointwise

theorem values_of (arg4 : Memref sig .tc .vmem S4x1024x512 .bf16) (harg4 : arg4.IsWhole) (v : Vec F S4x1024x512 .bf16) (n : ℕ) (hn : n < 4) (h : Fin 8)
    (off : Fin 3 → ℕ) (b : ∀ a, off a + S1x128x512.size a ≤ S4x1024x512.size a) (e : off = ![n, 128 * h.val, 0]) :
    shapeCast S128x512 (View.readAt (Elt F) arg4.view (Rect.unit (s := S4x1024x512) off S1x128x512.size b).toLoadRect (harg4.unread v)) shapeCasts_S1x128x512_S128x512 = vOf v n h := by
  subst e
  rw [View.readAt_eq_ld, harg4.read_unread]
  funext y
  rw [flat_tile]
  refine congrArg v (Rect.emb_eq_of_coords _ _ _ fun a => ?_)
  match a with
  | ⟨0, _⟩ => show n % 4 = n + 1 * 0; omega
  | ⟨1, _⟩ => show 128 * h.val + (y 0).val = 128 * h.val + 1 * (y 0).val; omega
  | ⟨2, _⟩ => show (y 1).val = 0 + 1 * (y 1).val; omega

theorem trips_eq : ∀ i : grid0.Coords, (k0_t1_loop i).trips = (i 1).val := by decide +kernel

/-- A head's sums over its row of tiles, the last one masked. -/
def done (i : grid0.Coords) (q : Vec F S512x2048 .bf16) (k : Vec F S2048x2048 .bf16) (v : Vec F S4x1024x512 .bf16) (h : Fin 8) : Head F :=
  step (addf (loaded (qOf q h) (kOf k (i 1).val h)) (bodyRun.sl.r i)) (vOf v (i 1).val h)
    (heads (k0_pay120, k0_pay121, k0_pay122) (fun n => loaded (qOf q h) (kOf k n h)) (fun n => vOf v n h) (i 1).val)

/-- The block of results: a row per query, 128 columns a head. -/
def outBlock (i : grid0.Coords) (q : Vec F S512x2048 .bf16) (k : Vec F S2048x2048 .bf16) (v : Vec F S4x1024x512 .bf16) : Vec F S512x1024 .bf16 :=
  fun y => outPiece (done i q k v (⟨(y 1).val / 128, by have : (y 1).val < 1024 := (y 1).isLt; omega⟩ : Fin 8))
    (ix2 (y 0 : Fin 512) (⟨(y 1).val % 128, by omega⟩ : Fin 128))

theorem outBlock_piece (i : grid0.Coords) (q : Vec F S512x2048 .bf16) (k : Vec F S2048x2048 .bf16) (v : Vec F S4x1024x512 .bf16) (h : Fin 8)
    (b : ∀ a, ![0, 128 * h.val] a + S512x128.size a ≤ S512x1024.size a) (x : S512x128.Idx) :
    outPiece (done i q k v h) x = outBlock i q k v ((Rect.unit (s := S512x1024) ![0, 128 * h.val] S512x128.size b).emb x) := by
  have hx : (x 1).val < 128 := (x 1).isLt
  have e : (Rect.unit (s := S512x1024) ![0, 128 * h.val] S512x128.size b).emb x
      = ix2 (x 0 : Fin 512) (⟨128 * h.val + (x 1).val, by omega⟩ : Fin 1024) := Rect.emb_eq_of_coords _ _ _ fun a => by
    match a with
    | ⟨0, _⟩ => show (x 0).val = 0 + 1 * (x 0).val; omega
    | ⟨1, _⟩ => show 128 * h.val + (x 1).val = 128 * h.val + 1 * (x 1).val; omega
  rw [e]
  have e1 : (⟨(128 * h.val + (x 1).val) / 128, by omega⟩ : Fin 8) = h := Fin.ext (by show (128 * h.val + (x 1).val) / 128 = h.val; omega)
  have e2 : (⟨(128 * h.val + (x 1).val) % 128, by omega⟩ : Fin 128) = (x 1 : Fin 128) := Fin.ext (by show (128 * h.val + (x 1).val) % 128 = (x 1).val; omega)
  show _ = outPiece (done i q k v (⟨(128 * h.val + (x 1).val) / 128, _⟩ : Fin 8)) (ix2 (x 0 : Fin 512) (⟨(128 * h.val + (x 1).val) % 128, _⟩ : Fin 128))
  rw [e1, e2]
  exact congrArg _ (by funext a; match a with | ⟨0, _⟩ => rfl | ⟨1, _⟩ => rfl)

section Body

variable (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S4x1024x512 .bf16) (harg4 : arg4.IsWhole) (arg5 : Memref sig .tc .vmem S512x1024 .bf16) (harg5 : arg5.IsWhole) (arg6 : Memref sig .tc .vmem S8x512x512 .f32) (harg6 : arg6.IsWhole)
variable (q : Vec F S512x2048 .bf16) (k : Vec F S2048x2048 .bf16) (v : Vec F S4x1024x512 .bf16) (g : BufTy.Contents (Elt F) arg6.view.ty)

theorem column_lt : (i 1).val < 4 := (i 1).isLt

theorem q_0 : bodyRun.sl.r_1 c arg2 harg2 q = qOf q 0 := queries_of arg2 harg2 q 0 _ _ rfl
theorem q_1 : bodyRun.sl.r_2 c arg2 harg2 q = qOf q 1 := queries_of arg2 harg2 q 1 _ _ rfl
theorem q_2 : bodyRun.sl.r_3 c arg2 harg2 q = qOf q 2 := queries_of arg2 harg2 q 2 _ _ rfl
theorem q_3 : bodyRun.sl.r_4 c arg2 harg2 q = qOf q 3 := queries_of arg2 harg2 q 3 _ _ rfl
theorem q_4 : bodyRun.sl.r_5 c arg2 harg2 q = qOf q 4 := queries_of arg2 harg2 q 4 _ _ rfl
theorem q_5 : bodyRun.sl.r_6 c arg2 harg2 q = qOf q 5 := queries_of arg2 harg2 q 5 _ _ rfl
theorem q_6 : bodyRun.sl.r_7 c arg2 harg2 q = qOf q 6 := queries_of arg2 harg2 q 6 _ _ rfl
theorem q_7 : bodyRun.sl.r_8 c arg2 harg2 q = qOf q 7 := queries_of arg2 harg2 q 7 _ _ rfl
theorem k_0 : bodyRun.sl.r_33 i arg3 harg3 k = kOf k (i 1).val 0 := keys_of arg3 harg3 k _ (column_lt i) 0 _ _ (k0_off33_eq i)
theorem k_1 : bodyRun.sl.r_34 i arg3 harg3 k = kOf k (i 1).val 1 := keys_of arg3 harg3 k _ (column_lt i) 1 _ _ (k0_off34_eq i)
theorem k_2 : bodyRun.sl.r_35 i arg3 harg3 k = kOf k (i 1).val 2 := keys_of arg3 harg3 k _ (column_lt i) 2 _ _ (k0_off35_eq i)
theorem k_3 : bodyRun.sl.r_36 i arg3 harg3 k = kOf k (i 1).val 3 := keys_of arg3 harg3 k _ (column_lt i) 3 _ _ (k0_off36_eq i)
theorem k_4 : bodyRun.sl.r_37 i arg3 harg3 k = kOf k (i 1).val 4 := keys_of arg3 harg3 k _ (column_lt i) 4 _ _ (k0_off37_eq i)
theorem k_5 : bodyRun.sl.r_38 i arg3 harg3 k = kOf k (i 1).val 5 := keys_of arg3 harg3 k _ (column_lt i) 5 _ _ (k0_off38_eq i)
theorem k_6 : bodyRun.sl.r_39 i arg3 harg3 k = kOf k (i 1).val 6 := keys_of arg3 harg3 k _ (column_lt i) 6 _ _ (k0_off39_eq i)
theorem k_7 : bodyRun.sl.r_40 i arg3 harg3 k = kOf k (i 1).val 7 := keys_of arg3 harg3 k _ (column_lt i) 7 _ _ (k0_off40_eq i)
theorem v_0 : bodyRun.sl.r_41 i arg4 harg4 v = vOf v (i 1).val 0 := values_of arg4 harg4 v _ (column_lt i) 0 _ _ (k0_off41_eq i)
theorem v_1 : bodyRun.sl.r_42 i arg4 harg4 v = vOf v (i 1).val 1 := values_of arg4 harg4 v _ (column_lt i) 1 _ _ (k0_off42_eq i)
theorem v_2 : bodyRun.sl.r_43 i arg4 harg4 v = vOf v (i 1).val 2 := values_of arg4 harg4 v _ (column_lt i) 2 _ _ (k0_off43_eq i)
theorem v_3 : bodyRun.sl.r_44 i arg4 harg4 v = vOf v (i 1).val 3 := values_of arg4 harg4 v _ (column_lt i) 3 _ _ (k0_off44_eq i)
theorem v_4 : bodyRun.sl.r_45 i arg4 harg4 v = vOf v (i 1).val 4 := values_of arg4 harg4 v _ (column_lt i) 4 _ _ (k0_off45_eq i)
theorem v_5 : bodyRun.sl.r_46 i arg4 harg4 v = vOf v (i 1).val 5 := values_of arg4 harg4 v _ (column_lt i) 5 _ _ (k0_off46_eq i)
theorem v_6 : bodyRun.sl.r_47 i arg4 harg4 v = vOf v (i 1).val 6 := values_of arg4 harg4 v _ (column_lt i) 6 _ _ (k0_off47_eq i)
theorem v_7 : bodyRun.sl.r_48 i arg4 harg4 v = vOf v (i 1).val 7 := values_of arg4 harg4 v _ (column_lt i) 7 _ _ (k0_off48_eq i)

theorem trip_lt (n : Fin (k0_t1_loop i).trips) : n.val < 4 := Nat.lt_of_lt_of_le n.isLt (Nat.le_succ_of_le (k0_t1_abs i).2.1)

theorem keys_at (n : Fin (k0_t1_loop i).trips) : ∀ h, keysAt i arg3 (harg3.unread k) n h = kOf k n.val h
  | 0 => keys_of arg3 harg3 k n.val (trip_lt i n) 0 _ _ (k0_off1_eq i n)
  | 1 => keys_of arg3 harg3 k n.val (trip_lt i n) 1 _ _ (k0_off2_eq i n)
  | 2 => keys_of arg3 harg3 k n.val (trip_lt i n) 2 _ _ (k0_off3_eq i n)
  | 3 => keys_of arg3 harg3 k n.val (trip_lt i n) 3 _ _ (k0_off4_eq i n)
  | 4 => keys_of arg3 harg3 k n.val (trip_lt i n) 4 _ _ (k0_off5_eq i n)
  | 5 => keys_of arg3 harg3 k n.val (trip_lt i n) 5 _ _ (k0_off6_eq i n)
  | 6 => keys_of arg3 harg3 k n.val (trip_lt i n) 6 _ _ (k0_off7_eq i n)
  | 7 => keys_of arg3 harg3 k n.val (trip_lt i n) 7 _ _ (k0_off8_eq i n)

theorem values_at (n : Fin (k0_t1_loop i).trips) : ∀ h, valuesAt i arg4 (harg4.unread v) n h = vOf v n.val h
  | 0 => values_of arg4 harg4 v n.val (trip_lt i n) 0 _ _ (k0_off9_eq i n)
  | 1 => values_of arg4 harg4 v n.val (trip_lt i n) 1 _ _ (k0_off10_eq i n)
  | 2 => values_of arg4 harg4 v n.val (trip_lt i n) 2 _ _ (k0_off11_eq i n)
  | 3 => values_of arg4 harg4 v n.val (trip_lt i n) 3 _ _ (k0_off12_eq i n)
  | 4 => values_of arg4 harg4 v n.val (trip_lt i n) 4 _ _ (k0_off13_eq i n)
  | 5 => values_of arg4 harg4 v n.val (trip_lt i n) 5 _ _ (k0_off14_eq i n)
  | 6 => values_of arg4 harg4 v n.val (trip_lt i n) 6 _ _ (k0_off15_eq i n)
  | 7 => values_of arg4 harg4 v n.val (trip_lt i n) 7 _ _ (k0_off16_eq i n)

theorem queries_at : ∀ h, queries (bodyRun.sl.r_1 c arg2 harg2 q) (bodyRun.sl.r_2 c arg2 harg2 q) (bodyRun.sl.r_3 c arg2 harg2 q) (bodyRun.sl.r_4 c arg2 harg2 q) (bodyRun.sl.r_5 c arg2 harg2 q) (bodyRun.sl.r_6 c arg2 harg2 q) (bodyRun.sl.r_7 c arg2 harg2 q) (bodyRun.sl.r_8 c arg2 harg2 q) h = qOf q h
  | 0 => q_0 c arg2 harg2 q
  | 1 => q_1 c arg2 harg2 q
  | 2 => q_2 c arg2 harg2 q
  | 3 => q_3 c arg2 harg2 q
  | 4 => q_4 c arg2 harg2 q
  | 5 => q_5 c arg2 harg2 q
  | 6 => q_6 c arg2 harg2 q
  | 7 => q_7 c arg2 harg2 q

theorem carried_eq : head (carried c i arg2 harg2 arg3 harg3 arg4 harg4 arg5 harg5 arg6 harg6 q k v g)
    = fun h => heads (k0_pay120, k0_pay121, k0_pay122) (fun n => loaded (qOf q h) (kOf k n h)) (fun n => vOf v n h) (i 1).val := by
  have e : carried c i arg2 harg2 arg3 harg3 arg4 harg4 arg5 harg5 arg6 harg6 q k v g = _ :=
    st_eq _ _ _ _ _ _ _ _ _ _ _ _ _ _ _ _ _ _ _ _ _ _ _ _ _ _ _ _ _ _ _ _ _ _ _ _ _ _ _ _ _ _ _ _ _ _ _ (fun n h => kOf k n h) (fun n h => vOf v n h)
      (keys_at i arg3 harg3 k) (values_at i arg4 harg4 v) g (fun _ => (k0_pay120, k0_pay121, k0_pay122)) _ (le_refl _)
  rw [e, head_pack]
  funext h
  rw [show Scf.trips (k0_t1_loop i).lb (k0_t1_loop i).ub (k0_t1_loop i).st = (i 1).val from trips_eq i, queries_at]

theorem head_done (h : Fin 8) : step (addf (loaded (qOf q h) (kOf k (i 1).val h)) (bodyRun.sl.r i)) (vOf v (i 1).val h) (head (carried c i arg2 harg2 arg3 harg3 arg4 harg4 arg5 harg5 arg6 harg6 q k v g) h) = done i q k v h := by
  rw [carried_eq]; rfl

theorem stored_0 : k0_pay232 (bodyRun.sl.r_50 c i arg2 harg2 arg3 harg3 arg4 harg4 arg5 harg5 arg6 harg6 q k v g) (bodyRun.sl.r_51 c i arg2 harg2 arg3 harg3 arg4 harg4 arg5 harg5 arg6 harg6 q k v g) = outPiece (done i q k v 0) := by
  rw [piece_0, q_0, k_0, v_0, head_done]
theorem stored_1 : k0_pay233 (bodyRun.sl.r_52 c i arg2 harg2 arg3 harg3 arg4 harg4 arg5 harg5 arg6 harg6 q k v g) (bodyRun.sl.r_53 c i arg2 harg2 arg3 harg3 arg4 harg4 arg5 harg5 arg6 harg6 q k v g) = outPiece (done i q k v 1) := by
  rw [piece_1, q_1, k_1, v_1, head_done]
theorem stored_2 : k0_pay234 (bodyRun.sl.r_54 c i arg2 harg2 arg3 harg3 arg4 harg4 arg5 harg5 arg6 harg6 q k v g) (bodyRun.sl.r_55 c i arg2 harg2 arg3 harg3 arg4 harg4 arg5 harg5 arg6 harg6 q k v g) = outPiece (done i q k v 2) := by
  rw [piece_2, q_2, k_2, v_2, head_done]
theorem stored_3 : k0_pay235 (bodyRun.sl.r_58 c i arg2 harg2 arg3 harg3 arg4 harg4 arg5 harg5 arg6 harg6 q k v g) (bodyRun.sl.r_59 c i arg2 harg2 arg3 harg3 arg4 harg4 arg5 harg5 arg6 harg6 q k v g) = outPiece (done i q k v 3) := by
  rw [piece_3, q_3, k_3, v_3, head_done]
theorem stored_4 : k0_pay236 (bodyRun.sl.r_60 c i arg2 harg2 arg3 harg3 arg4 harg4 arg5 harg5 arg6 harg6 q k v g) (bodyRun.sl.r_61 c i arg2 harg2 arg3 harg3 arg4 harg4 arg5 harg5 arg6 harg6 q k v g) = outPiece (done i q k v 4) := by
  rw [piece_4, q_4, k_4, v_4, head_done]
theorem stored_5 : k0_pay237 (bodyRun.sl.r_65 c i arg2 harg2 arg3 harg3 arg4 harg4 arg5 harg5 arg6 harg6 q k v g) (bodyRun.sl.r_66 c i arg2 harg2 arg3 harg3 arg4 harg4 arg5 harg5 arg6 harg6 q k v g) = outPiece (done i q k v 5) := by
  rw [piece_5, q_5, k_5, v_5, head_done]
theorem stored_6 : k0_pay238 (bodyRun.sl.r_67 c i arg2 harg2 arg3 harg3 arg4 harg4 arg5 harg5 arg6 harg6 q k v g) (bodyRun.sl.r_68 c i arg2 harg2 arg3 harg3 arg4 harg4 arg5 harg5 arg6 harg6 q k v g) = outPiece (done i q k v 6) := by
  rw [piece_6, q_6, k_6, v_6, head_done]
theorem stored_7 : k0_pay1 (bodyRun.sl.r_72 c i arg2 harg2 arg3 harg3 arg4 harg4 arg5 harg5 arg6 harg6 q k v g) = outPiece (done i q k v 7) := by
  rw [piece_7, q_7, k_7, v_7, head_done]

/-- The pieces cover the block, -/
theorem covers (y : S512x1024.Idx) :
    ∃ pc ∈ (bodyRun c i arg2 harg2 arg3 harg3 arg4 harg4 arg5 harg5 arg6 harg6 q k v).1 g, y ∈ pc.1.set :=
  View.cover_of_tiledL ((bodyRun c i arg2 harg2 arg3 harg3 arg4 harg4 arg5 harg5 arg6 harg6 q k v).1 g) S512x128.size (by sl_kernel_rfl) y

/-- so read back they are the block of results. -/
theorem read_out (f : BufTy.Contents (Elt F) arg5.view.ty) :
    arg5.view.read (Elt F) (arg5.view.writes (Elt F) f ((bodyRun c i arg2 harg2 arg3 harg3 arg4 harg4 arg5 harg5 arg6 harg6 q k v).1 g))
      = outBlock i q k v := by
  funext y
  refine View.read_writes_apply_of_pieces _ _ (outBlock i q k v) _ (fun p hp => ?_) y (covers c i arg2 harg2 arg3 harg3 arg4 harg4 arg5 harg5 arg6 harg6 q k v g y)
  unfold bodyRun at hp
  dsimp only at hp
  simp only [List.mem_cons, List.not_mem_nil, or_false] at hp
  obtain rfl | rfl | rfl | rfl | rfl | rfl | rfl | rfl := hp
  · intro x; exact (congrFun (stored_7 c i arg2 harg2 arg3 harg3 arg4 harg4 arg5 harg5 arg6 harg6 q k v g) x).trans (outBlock_piece i q k v 7 inb_S512x1024_S512x128_0_896 x)
  · intro x; exact (congrFun (stored_6 c i arg2 harg2 arg3 harg3 arg4 harg4 arg5 harg5 arg6 harg6 q k v g) x).trans (outBlock_piece i q k v 6 inb_S512x1024_S512x128_0_768 x)
  · intro x; exact (congrFun (stored_5 c i arg2 harg2 arg3 harg3 arg4 harg4 arg5 harg5 arg6 harg6 q k v g) x).trans (outBlock_piece i q k v 5 inb_S512x1024_S512x128_0_640 x)
  · intro x; exact (congrFun (stored_4 c i arg2 harg2 arg3 harg3 arg4 harg4 arg5 harg5 arg6 harg6 q k v g) x).trans (outBlock_piece i q k v 4 inb_S512x1024_S512x128_0_512 x)
  · intro x; exact (congrFun (stored_3 c i arg2 harg2 arg3 harg3 arg4 harg4 arg5 harg5 arg6 harg6 q k v g) x).trans (outBlock_piece i q k v 3 inb_S512x1024_S512x128_0_384 x)
  · intro x; exact (congrFun (stored_2 c i arg2 harg2 arg3 harg3 arg4 harg4 arg5 harg5 arg6 harg6 q k v g) x).trans (outBlock_piece i q k v 2 inb_S512x1024_S512x128_0_256 x)
  · intro x; exact (congrFun (stored_1 c i arg2 harg2 arg3 harg3 arg4 harg4 arg5 harg5 arg6 harg6 q k v g) x).trans (outBlock_piece i q k v 1 inb_S512x1024_S512x128_0_128 x)
  · intro x; exact (congrFun (stored_0 c i arg2 harg2 arg3 harg3 arg4 harg4 arg5 harg5 arg6 harg6 q k v g) x).trans (outBlock_piece i q k v 0 inb_S512x1024_S512x128_0_0 x)

end Body

end Cert.Proof.Mla

end
-- ==== Proof.Mla.Frame.lean ====
module

public import proofs.«01_k».proof.Proof.Mla.Block
public import Idealize.ShloMosaic.Lib.Claim

@[expose] public section

/-! The attention call's pipeline: every point's body meets its obligation, so the call ends, leaving its arguments alone and
    the result's array at the blocks of results. -/

set_option maxRecDepth 16384

noncomputable section

namespace Cert.Proof.Mla

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of results after a point. -/
def outAt (c : Dev nD) (t : Fin cfg0.N) : Vec F S512x1024 .bf16 :=
  outBlock (grid0.coords t) (iblk m c 0 t) (iblk m c 1 t) (iblk m c 2 t)

/-- The pipeline's data: inputs stay at their blocks, the result is at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem arrays (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]

theorem before_q (c : Dev nD) (t : Fin cfg0.N) (d) : (dats m 0 c).before 0 t d = iblk m c 0 t :=
  before0_0_of m (dats m 0 c) (arrays m c 0) (after_q m c) t d
theorem before_k (c : Dev nD) (t : Fin cfg0.N) (d) : (dats m 0 c).before 1 t d = iblk m c 1 t :=
  before0_1_of m (dats m 0 c) (arrays m c 1) (after_k m c) t d
theorem before_v (c : Dev nD) (t : Fin cfg0.N) (d) : (dats m 0 c).before 2 t d = iblk m c 2 t :=
  before0_2_of m (dats m 0 c) (arrays m c 2) (after_v m c) t d

/-- What a point's body is given -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem point (c : Dev nD) (t : Fin cfg0.N) :
    given m c t ⊢ wp frame (wpE (defs₀ (F := F)) Variants.none c none) Set.univ (bodyAt0 t) (fun _ => returned m c t) := by
  unfold given returned bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = Pipeline.ΦA spec0 c from rfl, PhiA0_eq]
  unfold outAt owns
  iintro ⟨⟨⟨%s, %g, %hg, HS⟩, Hp⟩, Ho, ⟨%d0, HQ⟩, ⟨%d1, HK⟩, ⟨%d2, HV⟩, ⟨%d3, HR⟩⟩
  iapply ((bodyRun c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (iblk m c 2 t)).2 g _)
  isplitl [HQ HK HV]
  · unfold reads owns
    isplitl [HQ]; · iexact HQ
    isplitl [HK]; · iexact HK
    iexact HV
  isplitl [HR]; · unfold owns; iexists _; iexact HR
  isplitl [HS]; · iexact HS
  unfold reads owns
  iintro ⟨⟨HQ, HK, HV⟩, HS, ⟨%f, HR⟩⟩
  isplitl [HS Hp]
  · isplitl [HS]
    · iexact HS
    iexact Hp
  isplitl [Ho]; · iexact Ho
  isplitl [HQ]; · iexact HQ
  isplitl [HK]; · iexact HK
  isplitl [HV]; · iexact HV
  iexists _; isplitr
  swap; · iexact HR
  ipureintro
  exact read_out _ _ _ _ _ _ _ _ _ _ _ _ _ _ _ _ _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- The call ends with the arrays at what the data say and every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

theorem ends : θ_run defs (onTc (τ := τ) (main (F := F))) (s₀ m ρ) (Pipeline.FramePost cfgs (dats m) 0 (V m)) :=
  (θ_run defs _ _).mono (fun _ h => h.1) (launched m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (arrays m) (ends m ρ)

/-- The frame: it ends, with its arguments as they were and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (launched m ρ))

end Cert.Proof.Mla

end
-- ==== Proof.Mla.Flash.lean ====
module

public import Idealize.ShloMosaic.PureOps.Ideal
public import Mathlib.Algebra.BigOperators.Fin
public import Mathlib.Data.EReal.Operations

@[expose] public section

/-! Softmax over a row of keys, taken tile by tile with a running maximum, is softmax over the row. -/

noncomputable section

namespace Cert.Proof.Mla.Flash

open Idealize.ShloMosaic

/-- Keys in one tile. -/
abbrev Tile := Fin 512

variable (s v : ℕ → Tile → EReal)

/-- The largest score of the first tiles, -/
def top : ℕ → EReal
  | 0 => ⊥
  | k + 1 => max (top k) (Finset.univ.sup (s k))

/-- and the weighted sum so far, rescaled whenever the maximum moves. -/
def acc : ℕ → EReal
  | 0 => 0
  | k + 1 => Ideal.exp2 (top s k - top s (k + 1)) * acc k + ∑ j, v k j * Ideal.exp2 (s k j - top s (k + 1))

theorem top_le_succ (k : ℕ) : top s k ≤ top s (k + 1) := le_max_left _ _

theorem top_mono {k k' : ℕ} (h : k ≤ k') : top s k ≤ top s k' := monotone_nat_of_le_succ (top_le_succ s) h

theorem le_top {t k : ℕ} (h : t < k) (j : Tile) : s t j ≤ top s k :=
  ((Finset.le_sup (f := s t) (Finset.mem_univ j)).trans (le_max_right _ _)).trans (top_mono s (Nat.succ_le_of_lt h))

theorem top_ne_top (hs : ∀ t j, s t j ≠ ⊤) (k : ℕ) : top s k ≠ ⊤ := by
  induction k with
  | zero => exact bot_ne_top
  | succ k ih =>
    refine (max_lt ih.lt_top ((Finset.sup_lt_iff bot_lt_top).mpr fun j _ => (hs k j).lt_top)).ne

theorem bot_sub' (x : EReal) : (⊥ : EReal) - x = ⊥ := by rw [sub_eq_add_neg, EReal.bot_add]

theorem exp2_nonneg (x : EReal) : 0 ≤ Ideal.exp2 x := by
  induction x with
  | bot => simp
  | top => simp
  | coe r => simp only [Ideal.exp2_coe]; exact_mod_cast Real.rpow_nonneg (by norm_num) r

theorem exp2_ne_top {x : EReal} (h : x ≠ ⊤) : Ideal.exp2 x ≠ ⊤ := by
  induction x with
  | bot => simp
  | top => exact absurd rfl h
  | coe r => simp only [Ideal.exp2_coe]; exact EReal.coe_ne_top _

theorem sub_ne_top {x y : EReal} (hxy : x ≤ y) : x - y ≠ ⊤ := by
  induction x with
  | bot => rw [bot_sub']; exact bot_ne_top
  | top => rw [top_le_iff.mp hxy]; simp
  | coe r =>
    induction y with
    | bot => exact absurd hxy (by simp)
    | top => simp
    | coe r' => rw [← EReal.coe_sub]; exact EReal.coe_ne_top _

/-- Moving the reference point from one maximum to a larger one. -/
theorem rescale {x M M' : EReal} (hx : x ≤ M) (hM : M ≤ M') (h' : M' ≠ ⊤) :
    Ideal.exp2 (M - M') * Ideal.exp2 (x - M) = Ideal.exp2 (x - M') := by
  induction x with
  | bot => rw [bot_sub', bot_sub']; simp
  | top => exact absurd (top_le_iff.mp ((hx.trans hM))) h'
  | coe r =>
    induction M with
    | bot => exact absurd hx (by simp)
    | top => exact absurd (top_le_iff.mp hM) h'
    | coe a =>
      induction M' with
      | bot => exact absurd hM (by simp)
      | top => exact absurd rfl h'
      | coe b =>
        rw [← EReal.coe_sub, ← EReal.coe_sub, ← EReal.coe_sub]
        simp only [Ideal.exp2_coe, Real.rpow_eq_pow]
        rw [← EReal.coe_mul, ← Real.rpow_add (by norm_num)]
        congr 2; ring

theorem mul_sum_of {ι : Type*} (u : Finset ι) (f : ι → EReal) {a : EReal} (h0 : 0 ≤ a) (ht : a ≠ ⊤) :
    a * ∑ x ∈ u, f x = ∑ x ∈ u, a * f x := by
  classical
  induction u using Finset.induction_on with
  | empty => simp
  | insert x u hx ih => rw [Finset.sum_insert hx, Finset.sum_insert hx, EReal.left_distrib_of_nonneg_of_ne_top h0 ht, ih]

/-- The running sum is the sum of every tile against the maximum so far. -/
theorem acc_eq (hs : ∀ t j, s t j ≠ ⊤) (k : ℕ) :
    acc s v k = ∑ t ∈ Finset.range k, ∑ j, v t j * Ideal.exp2 (s t j - top s k) := by
  induction k with
  | zero => simp [acc]
  | succ k ih =>
    rw [Finset.sum_range_succ, acc, ih]
    congr 1
    have h0 := exp2_nonneg (top s k - top s (k + 1))
    have ht := exp2_ne_top (sub_ne_top (top_le_succ s k))
    rw [mul_sum_of _ _ h0 ht]
    refine Finset.sum_congr rfl fun t htk => ?_
    rw [mul_sum_of _ _ h0 ht]
    refine Finset.sum_congr rfl fun j _ => ?_
    rw [mul_left_comm, rescale (le_top s (Finset.mem_range.mp htk) j) (top_le_succ s k) (top_ne_top s hs _)]

/-! ### One row of 2048 keys -/

variable (σ w : Fin 2048 → EReal)

/-- Tile `t` of a row. -/
def tile (f : Fin 2048 → EReal) (d : EReal) (t : ℕ) (j : Tile) : EReal := if h : 512 * t + j.val < 2048 then f ⟨512 * t + j.val, h⟩ else d

theorem tile_of_lt (f : Fin 2048 → EReal) (d : EReal) {t : ℕ} (h : t < 4) (j : Tile) :
    tile f d t j = f ⟨512 * t + j.val, by omega⟩ := dif_pos (by omega)

theorem sum_tiles (f : Fin 2048 → EReal) : ∑ c, f c = ∑ t ∈ Finset.range 4, ∑ j, tile f 0 t j := by
  have e : ∑ c, f c = ∑ p : Fin 4 × Fin 512, f ⟨512 * p.1.val + p.2.val, by omega⟩ :=
    (Fintype.sum_equiv (finProdFinEquiv (m := 4) (n := 512)) _ _ fun p => by
      refine congrArg f (Fin.ext ?_)
      simp [finProdFinEquiv, Nat.add_comm]).symm
  rw [e, Fintype.sum_prod_type, Finset.sum_range]
  exact Finset.sum_congr rfl fun t _ => Finset.sum_congr rfl fun j _ => (tile_of_lt f 0 t.isLt j).symm

variable {i : ℕ}

theorem top_row (hi : i < 4) (hm : ∀ c : Fin 2048, 512 * (i + 1) ≤ c.val → σ c = ⊥) :
    top (tile σ ⊥) (i + 1) = Finset.univ.sup σ := by
  apply le_antisymm
  · have : ∀ k, top (tile σ ⊥) k ≤ Finset.univ.sup σ := by
      intro k
      induction k with
      | zero => exact bot_le
      | succ k ih =>
        refine max_le ih (Finset.sup_le fun j _ => ?_)
        unfold tile
        split
        · exact Finset.le_sup (Finset.mem_univ _)
        · exact bot_le
    exact this _
  · refine Finset.sup_le fun c _ => ?_
    by_cases hc : 512 * (i + 1) ≤ c.val
    · rw [hm c hc]; exact bot_le
    · have := le_top (tile σ ⊥) (t := c.val / 512) (k := i + 1) (by omega) ⟨c.val % 512, by omega⟩
      rw [tile_of_lt _ _ (by omega)] at this
      exact (congrArg σ (Fin.ext (by simp only []; omega))).le.trans this

theorem acc_row (hi : i < 4) (hσ : ∀ c, σ c ≠ ⊤) (hm : ∀ c : Fin 2048, 512 * (i + 1) ≤ c.val → σ c = ⊥) (d : EReal) :
    acc (tile σ ⊥) (tile w d) (i + 1) = ∑ c, w c * Ideal.exp2 (σ c - Finset.univ.sup σ) := by
  rw [acc_eq _ _ (fun t j => by unfold tile; split; exacts [hσ _, bot_ne_top]), top_row σ hi hm, sum_tiles]
  rw [← Finset.sum_subset (Finset.range_subset_range.mpr (show i + 1 ≤ 4 by omega))]
  · refine Finset.sum_congr rfl fun t ht => Finset.sum_congr rfl fun j _ => ?_
    have ht' := Finset.mem_range.mp ht
    rw [tile_of_lt _ _ (by omega), tile_of_lt _ _ (by omega), tile_of_lt _ _ (by omega)]
  · intro t ht hn
    have ht' := Finset.mem_range.mp ht
    have hn' : i + 1 ≤ t := by simpa using hn
    refine Finset.sum_eq_zero fun j _ => ?_
    rw [tile_of_lt _ _ ht', hm _ (by simp only []; omega), bot_sub']
    simp

/-- The row's result, by tiles, is the softmax of the scores times the values. -/
theorem flash (hi : i < 4) (hσ : ∀ c, σ c ≠ ⊤) (h0 : σ 0 ≠ ⊥) (hm : ∀ c : Fin 2048, 512 * (i + 1) ≤ c.val → σ c = ⊥) :
    Ideal.div (acc (tile σ ⊥) (tile w 1) (i + 1)) (acc (tile σ ⊥) (fun _ _ => 1) (i + 1))
      = ∑ c, w c * Ideal.div (Ideal.exp2 (σ c - Finset.univ.sup σ)) (∑ c', Ideal.exp2 (σ c' - Finset.univ.sup σ)) := by
  have one : (fun (_ : ℕ) (_ : Tile) => (1 : EReal)) = tile (fun _ => 1) 1 := by
    funext t j; unfold tile; split <;> rfl
  rw [one, acc_row σ w hi hσ hm, acc_row σ (fun _ => 1) hi hσ hm]
  simp only [one_mul]
  have hμ : Finset.univ.sup σ ≠ ⊤ := ((Finset.sup_lt_iff bot_lt_top).mpr fun c _ => (hσ c).lt_top).ne
  have hμ' : Finset.univ.sup σ ≠ ⊥ := fun e => h0 (le_bot_iff.mp (e ▸ Finset.le_sup (Finset.mem_univ 0)))
  generalize Finset.univ.sup σ = μ at hμ hμ' ⊢
  lift μ to ℝ using ⟨hμ, hμ'⟩
  have he : ∀ c, ∃ r : ℝ, 0 ≤ r ∧ (c = 0 → 0 < r) ∧ Ideal.exp2 (σ c - μ) = (r : EReal) := by
    intro c
    have hc := hσ c
    have hz : c = 0 → σ c ≠ ⊥ := fun e => e ▸ h0
    generalize σ c = x at hc hz
    induction x with
    | bot => exact ⟨0, le_rfl, fun e => absurd rfl (hz e), by rw [bot_sub']; simp⟩
    | top => exact absurd rfl hc
    | coe r =>
      refine ⟨Real.rpow 2 (r - μ), Real.rpow_nonneg (by norm_num) _, fun _ => Real.rpow_pos_of_pos (by norm_num) _, ?_⟩
      rw [← EReal.coe_sub, Ideal.exp2_coe]
  choose ε hε hε0 hεe using he
  simp only [hεe]
  have hl : (∑ c, ((ε c : ℝ) : EReal)) = ((∑ c, ε c : ℝ) : EReal) := by
    induction (Finset.univ : Finset (Fin 2048)) using Finset.induction_on with
    | empty => simp
    | insert x u hx ih => rw [Finset.sum_insert hx, Finset.sum_insert hx, ih, EReal.coe_add]
  have hpos : 0 < ∑ c, ε c := Finset.sum_pos' (fun c _ => hε c) ⟨0, Finset.mem_univ _, hε0 0 rfl⟩
  rw [hl, Ideal.div_coe hpos.ne', mul_comm, mul_sum_of _ _ (by exact_mod_cast (one_div_pos.mpr hpos).le) (EReal.coe_ne_top _)]
  refine Finset.sum_congr rfl fun c _ => ?_
  rw [Ideal.div_coe hpos.ne', mul_left_comm, mul_comm ((1 / _ : ℝ) : EReal)]

end Cert.Proof.Mla.Flash

end
-- ==== Proof.Mla.Columns.lean ====
module

public import proofs.«01_k».proof.Proof.Mla.Block
public import proofs.«01_k».proof.Proof.Mla.Flash

@[expose] public section

/-! The attention body's arithmetic, read at one query: the running maximum and sums of the rows by tiles. -/

noncomputable section

namespace Cert.Proof.Mla

open Cert.Kernel5Ideal Cert.Kernel5Ideal.Gen
open Idealize.ShloMosaic

variable (x : FVec Ideal S512x512 .f32) (v : FVec Ideal S128x512 .bf16) (a : Head Ideal) (r : Fin 512)

theorem nextMax_at (m : FVec Ideal S1x512 .f32) :
    nextMax m x (ix2 (0 : Fin 1) r) = max (m (ix2 (0 : Fin 1) r)) (Finset.univ.sup fun j : Fin 512 => x (ix2 j r)) := by
  unfold nextMax
  pointwise
  rfl

theorem factor_at (m : FVec Ideal S1x512 .f32) :
    factor m x (ix2 (0 : Fin 1) r) = Ideal.exp2 (m (ix2 (0 : Fin 1) r) - nextMax m x (ix2 (0 : Fin 1) r)) := by
  unfold factor
  pointwise
  rfl

theorem weights_at (m : FVec Ideal S1x512 .f32) (j : Fin 512) :
    weights m x (ix2 j r) = Ideal.exp2 (x (ix2 j r) - nextMax m x (ix2 (0 : Fin 1) r)) := by
  unfold weights
  pointwise
  rfl

theorem nextSum_at (m l : FVec Ideal S1x512 .f32) :
    nextSum m l x (ix2 (0 : Fin 1) r)
      = factor m x (ix2 (0 : Fin 1) r) * l (ix2 (0 : Fin 1) r) + ∑ j : Fin 512, weights m x (ix2 j r) := by
  unfold nextSum
  pointwise
  try simp only [pointwise, Ideal.reduceAdd_def]
  try rfl

theorem nextVal_at (m : FVec Ideal S1x512 .f32) (s : FVec Ideal S128x512 .f32) (d : Fin 128) :
    nextVal m s x v (ix2 d r)
      = factor m x (ix2 (0 : Fin 1) r) * s (ix2 d r) + ∑ j : Fin 512, v (ix2 d j) * weights m x (ix2 j r) := by
  unfold nextVal
  pointwise [dot_S128x512_S512x512_S128x512_1_0_0_1_n_n]
  try rfl

theorem score_at (q k : Vec Ideal S512x256 .bf16) (j : Fin 512) :
    loaded q k (ix2 j r) = ∑ e : Fin 256, k (ix2 j e) * q (ix2 r e) := by
  unfold loaded slab
  pointwise [dot_S512x256_S512x256_S512x512_1_1_0_0_n_n]
  try rfl

theorem outPiece_at (d : Fin 128) : outPiece a (ix2 r d) = Ideal.div (a.2.2 (ix2 d r)) (a.2.1 (ix2 (0 : Fin 1) r)) := by
  unfold outPiece
  pointwise
  try rfl

theorem start_max : (k0_pay120 (F := Ideal)) (ix2 (0 : Fin 1) r) = (⊥ : EReal) := rfl
theorem start_sum : (k0_pay121 (F := Ideal)) (ix2 (0 : Fin 1) r) = (0 : EReal) := by
  unfold k0_pay121; pointwise
theorem start_val (d : Fin 128) : (k0_pay122 (F := Ideal)) (ix2 d r) = (0 : EReal) := by
  unfold k0_pay122; pointwise

/-- A head's triple is the running maximum and sums of a row. -/
structure Rows (s : ℕ → Flash.Tile → EReal) (w : Fin 128 → ℕ → Flash.Tile → EReal) (n : ℕ) (a : Head Ideal) : Prop where
  top : a.1 (ix2 (0 : Fin 1) r) = Flash.top s n
  sum : a.2.1 (ix2 (0 : Fin 1) r) = Flash.acc s (fun _ _ => 1) n
  val : ∀ d, a.2.2 (ix2 d r) = Flash.acc s (w d) n

variable {r}
variable {s : ℕ → Flash.Tile → EReal} {w : Fin 128 → ℕ → Flash.Tile → EReal} {n : ℕ}

theorem Rows.start : Rows r s w 0 (k0_pay120, k0_pay121, k0_pay122) := ⟨start_max r, start_sum r, start_val r⟩

theorem Rows.next {a : Head Ideal} (h : Rows r s w n a) (hs : ∀ j : Fin 512, x (ix2 j r) = s n j) (hw : ∀ d j, v (ix2 d j) = w d n j) :
    Rows r s w (n + 1) (step x v a) := by
  have t : nextMax a.1 x (ix2 (0 : Fin 1) r) = Flash.top s (n + 1) := by
    rw [nextMax_at, h.top]
    exact congrArg (max (Flash.top s n)) (congrArg Finset.univ.sup (funext hs))
  have f : factor a.1 x (ix2 (0 : Fin 1) r) = Ideal.exp2 (Flash.top s n - Flash.top s (n + 1)) := by rw [factor_at, h.top, t]
  have g : ∀ j : Fin 512, weights a.1 x (ix2 j r) = Ideal.exp2 (s n j - Flash.top s (n + 1)) := fun j => by rw [weights_at, hs, t]
  refine ⟨t, ?_, fun d => ?_⟩
  · show nextSum a.1 a.2.1 x (ix2 (0 : Fin 1) r) = _
    rw [nextSum_at, f, h.sum]
    simp only [g, Flash.acc, one_mul]
  · show nextVal a.1 a.2.2 x v (ix2 d r) = _
    rw [nextVal_at, f, h.val]
    simp only [g, hw, Flash.acc]

theorem Rows.upto (x : ℕ → FVec Ideal S512x512 .f32) (v : ℕ → FVec Ideal S128x512 .bf16) :
    ∀ n, (∀ t, t < n → ∀ j : Fin 512, x t (ix2 j r) = s t j) → (∀ t, t < n → ∀ d j, v t (ix2 d j) = w d t j)
      → Rows r s w n (heads (k0_pay120, k0_pay121, k0_pay122) x v n)
  | 0, _, _ => Rows.start
  | n + 1, hs, hw => (Rows.upto x v n (fun t ht => hs t (Nat.lt_succ_of_lt ht)) fun t ht => hw t (Nat.lt_succ_of_lt ht)).next _ _
      (hs n (Nat.lt_succ_self n)) (hw n (Nat.lt_succ_self n))

end Cert.Proof.Mla

end
-- ==== Proof.Mla.Mask.lean ====
module

public import proofs.«01_k».proof.Proof.Mla.Columns

@[expose] public section

/-! The mask of the last tile: a key counts for a query when its chunk of 64 is no later than the query's. -/

set_option maxRecDepth 16384

noncomputable section

namespace Cert.Proof.Mla

open Cert.Kernel5Ideal Cert.Kernel5Ideal.Gen
open Idealize.ShloMosaic

/-- Division by 64, rounding down, as the body spells it. -/
def chunk (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32))) 1#32)
      (IntOp.cmpi .ne (IntOp.remsi .vector n 64#32) 0#32))
    (IntOp.subi (IntOp.divsi .vector n 64#32) 1#32) (IntOp.divsi .vector n 64#32)

theorem chunk_of : ∀ x : Fin 2048, chunk (BitVec.ofNat 32 x.val) = BitVec.ofNat 32 (x.val / 64) := by decide +kernel

theorem sle_of : ∀ a b : Fin 32, IntOp.cmpi .sle (BitVec.ofNat 32 a.val) (BitVec.ofNat 32 b.val) = if a.val ≤ b.val then 1#1 else 0#1 := by
  decide +kernel

theorem column_lt' (i : grid0.Coords) : (i 1).val < 4 := (i 1).isLt

theorem key_at (i : grid0.Coords) (j r : Fin 512) : k0_pay116 i (ix2 j r) = BitVec.ofNat 32 (512 * (i 1).val + j.val) := by
  unfold k0_pay116
  pointwise
  have h := column_lt' i
  generalize (i 1).val = n at h ⊢
  revert j
  interval_cases n <;> decide +kernel

theorem query_at (i : grid0.Coords) (r : Fin 512) : IntOp.addi (bodyRun.sl.v0 i) (BitVec.ofNat 32 r.val) = BitVec.ofNat 32 (512 * (i 1).val + r.val) := by
  unfold bodyRun.sl.v0
  have h := column_lt' i
  generalize (i 1).val = n at h ⊢
  revert r
  interval_cases n <;> decide +kernel

theorem bias_at (i : grid0.Coords) (j r : Fin 512) :
    (bodyRun.sl.r (F := Ideal) i) (ix2 j r) = if (512 * (i 1).val + j.val) / 64 ≤ (512 * (i 1).val + r.val) / 64 then (0 : EReal) else ⊥ := by
  have h := column_lt' i
  unfold bodyRun.sl.r k0_pay119 k0_pay117 k0_pay118
  pointwise
  rw [key_at, query_at]
  refine (show _ = Scalar.select (IntOp.cmpi .sle (chunk (BitVec.ofNat 32 (512 * (i 1).val + j.val))) (chunk (BitVec.ofNat 32 (512 * (i 1).val + r.val)))) (0 : EReal) ⊥ from rfl).trans ?_
  rw [chunk_of ⟨512 * (i 1).val + j.val, by omega⟩, chunk_of ⟨512 * (i 1).val + r.val, by omega⟩,
    sle_of ⟨(512 * (i 1).val + j.val) / 64, by omega⟩ ⟨(512 * (i 1).val + r.val) / 64, by omega⟩]
  dsimp only
  split <;> rfl

end Cert.Proof.Mla

end
-- ==== Proof.Mla.BlockAt.lean ====
module

public import proofs.«01_k».proof.Proof.Mla.Mask

@[expose] public section

/-! A point's block of results, element by element: the softmax of a query's scores over the keys of its sequence, times the values. -/

noncomputable section

namespace Cert.Proof.Mla

open Cert.Kernel5Ideal Cert.Kernel5Ideal.Gen
open Idealize.ShloMosaic

/-- A softmax of scores in powers of two, times values. -/
def soft (σ w : Fin 2048 → EReal) : EReal :=
  ∑ c, w c * Ideal.div (Ideal.exp2 (σ c - Finset.univ.sup σ)) (∑ c', Ideal.exp2 (σ c' - Finset.univ.sup σ))

theorem sum_real {ι : Type} (u : Finset ι) (f g : ι → EReal) (hf : ∀ i, f i ≠ ⊤ ∧ f i ≠ ⊥) (hg : ∀ i, g i ≠ ⊤ ∧ g i ≠ ⊥) :
    (∑ i ∈ u, f i * g i) ≠ ⊤ ∧ (∑ i ∈ u, f i * g i) ≠ ⊥ := by
  have e : ∃ x : ℝ, ∑ i ∈ u, f i * g i = x := by
    classical
    induction u using Finset.induction_on with
    | empty => exact ⟨0, by simp⟩
    | insert a s ha ih =>
      obtain ⟨x, hx⟩ := ih
      rw [Finset.sum_insert ha, hx]
      have h1 := hf a
      have h2 := hg a
      generalize f a = y at h1
      generalize g a = z at h2
      lift y to ℝ using h1
      lift z to ℝ using h2
      exact ⟨y * z + x, by rw [EReal.coe_add, EReal.coe_mul]⟩
  obtain ⟨x, hx⟩ := e
  rw [hx]
  exact ⟨EReal.coe_ne_top x, EReal.coe_ne_bot x⟩

section

variable (i : grid0.Coords) (q : Vec Ideal S512x2048 .bf16) (k : Vec Ideal S2048x2048 .bf16) (v : Vec Ideal S4x1024x512 .bf16)
variable (h : Fin 8) (r : Fin 512)

/-- A query's score of a key. -/
def scoreOf (c : Fin 2048) : EReal :=
  ∑ e : Fin 256, (k (ix2 c (⟨256 * h.val + e.val, by omega⟩ : Fin 2048)) : EReal) * q (ix2 r (⟨256 * h.val + e.val, by omega⟩ : Fin 2048))

/-- The row of masked scores, -/
def rowOf (c : Fin 2048) : EReal := if c.val / 64 ≤ (512 * (i 1).val + r.val) / 64 then scoreOf q k h r c else ⊥

/-- and a column of values. -/
def colOf (d : Fin 128) (c : Fin 2048) : EReal :=
  v (ix3 (⟨c.val / 512, by omega⟩ : Fin 4) (⟨128 * h.val + d.val, by omega⟩ : Fin 1024) (⟨c.val % 512, by omega⟩ : Fin 512))

theorem tile_score (t : ℕ) (ht : t < 4) (j : Fin 512) :
    loaded (qOf q h) (kOf k t h) (ix2 j r) = scoreOf q k h r ⟨512 * t + j.val, by omega⟩ := by
  rw [score_at]
  refine Finset.sum_congr rfl fun e _ => ?_
  have e1 : (⟨(512 * t + j.val) % 2048, by omega⟩ : Fin 2048) = ⟨512 * t + j.val, by omega⟩ := Fin.ext (by show (512 * t + j.val) % 2048 = 512 * t + j.val; omega)
  show (k (ix2 (⟨(512 * t + j.val) % 2048, _⟩ : Fin 2048) _) : EReal) * q (ix2 r _) = _
  rw [e1]
  rfl

theorem tile_value (t : ℕ) (ht : t < 4) (d : Fin 128) (j : Fin 512) :
    vOf v t h (ix2 d j) = colOf v h d ⟨512 * t + j.val, by omega⟩ := by
  have e1 : (⟨t % 4, by omega⟩ : Fin 4) = ⟨(512 * t + j.val) / 512, by omega⟩ := Fin.ext (by show t % 4 = (512 * t + j.val) / 512; omega)
  have e2 : j = (⟨(512 * t + j.val) % 512, by omega⟩ : Fin 512) := Fin.ext (by show j.val = (512 * t + j.val) % 512; omega)
  show v (ix3 (⟨t % 4, _⟩ : Fin 4) _ j) = v (ix3 (⟨(512 * t + j.val) / 512, _⟩ : Fin 4) _ (⟨(512 * t + j.val) % 512, _⟩ : Fin 512))
  rw [e1, ← e2]
  rfl

theorem done_rows : Rows r (Flash.tile (rowOf i q k h r) ⊥) (fun d => Flash.tile (colOf v h d) 1) ((i 1).val + 1) (done i q k v h) := by
  have hi := column_lt' i
  unfold done
  refine Rows.next _ _ (Rows.upto _ _ _ (fun t ht j => ?_) fun t ht d j => ?_) (fun j => ?_) fun d j => ?_
  · rw [tile_score q k h r t (by omega), Flash.tile_of_lt _ _ (by omega : t < 4)]
    exact (if_pos (by show (512 * t + j.val) / 64 ≤ _; omega)).symm
  · rw [tile_value v h t (by omega), Flash.tile_of_lt _ _ (by omega : t < 4)]
  · have e : (addf (loaded (qOf q h) (kOf k (i 1).val h)) (bodyRun.sl.r i)) (ix2 j r)
        = loaded (qOf q h) (kOf k (i 1).val h) (ix2 j r) + bodyRun.sl.r (F := Ideal) i (ix2 j r) := by pointwise
    rw [e, tile_score q k h r _ hi, bias_at, Flash.tile_of_lt _ _ hi]
    unfold rowOf
    dsimp only
    split
    · exact add_zero _
    · exact EReal.add_bot _
  · rw [tile_value v h _ hi, Flash.tile_of_lt _ _ hi]

theorem block_at (hq : ∀ y, (q y : EReal) ≠ ⊤ ∧ (q y : EReal) ≠ ⊥) (hk : ∀ y, (k y : EReal) ≠ ⊤ ∧ (k y : EReal) ≠ ⊥) (d : Fin 128) :
    (outBlock i q k v (ix2 r (⟨128 * h.val + d.val, by omega⟩ : Fin 1024)) : EReal) = soft (rowOf i q k h r) (colOf v h d) := by
  have hi := column_lt' i
  have e1 : (⟨(128 * h.val + d.val) / 128, by omega⟩ : Fin 8) = h := Fin.ext (by show (128 * h.val + d.val) / 128 = h.val; omega)
  have e2 : (⟨(128 * h.val + d.val) % 128, by omega⟩ : Fin 128) = d := Fin.ext (by show (128 * h.val + d.val) % 128 = d.val; omega)
  show outPiece (done i q k v (⟨(128 * h.val + d.val) / 128, _⟩ : Fin 8)) (ix2 r (⟨(128 * h.val + d.val) % 128, _⟩ : Fin 128)) = _
  rw [e1, e2, outPiece_at, (done_rows i q k v h r).sum, (done_rows i q k v h r).val]
  have hs : ∀ c, scoreOf q k h r c ≠ ⊤ ∧ scoreOf q k h r c ≠ ⊥ := fun c => sum_real _ _ _ (fun _ => hk _) fun _ => hq _
  refine Flash.flash (rowOf i q k h r) (colOf v h d) hi (fun c => ?_) ?_ fun c hc => ?_
  · unfold rowOf; split
    · exact (hs c).1
    · exact bot_ne_top
  · unfold rowOf; rw [if_pos (by show 0 / 64 ≤ _; omega)]; exact (hs 0).2
  · unfold rowOf; exact if_neg (by omega)

end

end Cert.Proof.Mla

end
-- ==== Proof.Mla.RefRows.lean ====
module

public import proofs.«01_k».proof.Proof.Gen.Reference5Ideal.Run
public import proofs.«01_k».proof.Proof.Mla.BlockAt

@[expose] public section

/-! The plain attention, element by element. -/

set_option maxRecDepth 16384

noncomputable section

namespace Cert.Reference5Ideal.Mla

open Cert.Reference5Ideal Cert.Reference5Ideal.Gen
open Idealize.ShloMosaic

/-- A position's chunk of 64, -/
def chunkT : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- the scores, -/
def scores (A0 A1 : Vec Ideal S32768x2048 .bf16) : FVec Ideal S16x8x2048x2048 .f32 :=
  Host.dotGeneral dot_S16x2048x8x256_S16x2048x8x256_S16x8x2048x2048_3_3_1_1_02_02 none (shapeCast _ (extf .f32 A0 bitsLt_bf16_f32) shapeCasts_S32768x2048_S16x2048x8x256) (shapeCast _ (extf .f32 A1 bitsLt_bf16_f32) shapeCasts_S32768x2048_S16x2048x8x256)

/-- masked, -/
def masked (A0 A1 : Vec Ideal S32768x2048 .bf16) : FVec Ideal S16x8x2048x2048 .f32 :=
  select (broadcastInDim S16x8x2048x2048 ![0, 1, 2, 3] bcast_S1x1x2048x2048_S16x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 chunkT)) (broadcastInDim S2048x2048 ![0, 1] bcast_S2048x1_S2048x2048_0_1 (broadcastInDim S2048x1 ![0] bcast_S2048_S2048x1_0 chunkT))))) (scores A0 A1) (broadcastInDim S16x8x2048x2048 ![] bcast_S_S16x8x2048x2048 (id (constant S_ .f32 0xFF800000#32)))

/-- two to the score over the row's greatest, -/
def weights (M : FVec Ideal S16x8x2048x2048 .f32) : FVec Ideal S16x8x2048x2048 .f32 :=
  Host.powf (broadcastInDim S16x8x2048x2048 ![] bcast_S_S16x8x2048x2048 (constant S_ .f32 0x40000000#32)) (subf M (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduce FloatOps.maximumf M (constant S_ .f32 0xFF800000#32) reducesTo_S16x8x2048x2048_S16x8x2048_d3 h_S_))))

/-- divided by the row's sum. -/
def probs (P : FVec Ideal S16x8x2048x2048 .f32) : FVec Ideal S16x8x2048x2048 .f32 :=
  Host.divf P (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd P (constant S_ .f32 0x00000000#32) reducesTo_S16x8x2048x2048_S16x8x2048_d3 h_S_)))

/-- The values, by sequence and position; -/
def values (A2 : Vec Ideal S64x1024x512 .bf16) : FVec Ideal S16x2048x8x128 .f32 :=
  shapeCast S16x2048x8x128 (transpose S16x4x512x8x128 [0, 1, 4, 2, 3] (shapeCast S16x4x8x128x512 (extf .f32 A2 bitsLt_bf16_f32) shapeCasts_S64x1024x512_S16x4x8x128x512) transposes_S16x4x8x128x512_S16x4x512x8x128_0_1_4_2_3) shapeCasts_S16x4x512x8x128_S16x2048x8x128

/-- and the products, laid out as the rows of the result. -/
def mixed (W : FVec Ideal S16x2048x8x128 .f32) (Q : FVec Ideal S16x8x2048x2048 .f32) : FVec Ideal S32768x1024 .bf16 :=
  truncf .bf16 (shapeCast S32768x1024 (transpose S16x2048x8x128 [0, 3, 1, 2] (Host.dotGeneral dot_S16x2048x8x128_S16x8x2048x2048_S16x8x128x2048_1_3_3_2_02_01 none W Q) transposes_S16x8x128x2048_S16x2048x8x128_0_3_1_2) shapeCasts_S16x2048x8x128_S32768x1024) bitsLt_bf16_f32

theorem res_eq (m : (ℓ : Loc nD τ sig) → Buf (Elt Ideal) ℓ) (c : Dev nD) :
    Cert.Reference5Ideal.Value.res_main_v31 m c
      = mixed (values (m (c.tc.loc main_arg2))) (probs (weights (masked (m (c.tc.loc main_arg0)) (m (c.tc.loc main_arg1))))) := rfl

/-- A position's chunk, from its index. -/
def chunkN (n : BitVec 32) : BitVec 32 :=
  Scalar.select
    (IntOp.andi (IntOp.cmpi .ne (if n = 0 then 0 else if n.msb = true then -1 else 1) 1#32) (IntOp.cmpi .ne (IntOp.remsi .host n 64#32) 0#32))
    (IntOp.subi (IntOp.divsi .host n 64#32) 1#32) (IntOp.divsi .host n 64#32)

theorem chunkN_of : ∀ x : Fin 2048, chunkN (BitVec.ofNat 32 x.val) = BitVec.ofNat 32 (x.val / 64) := by decide +kernel

theorem chunk_at (x : Fin 2048) : chunkT (ix1 x) = BitVec.ofNat 32 (x.val / 64) := by
  refine Eq.trans ?_ (chunkN_of x)
  unfold chunkT
  pointwise
  rfl

theorem scores_at (A0 A1 : Vec Ideal S32768x2048 .bf16) (b : Fin 16) (h : Fin 8) (r c : Fin 2048) :
    scores A0 A1 (ix4 b h r c) = ∑ e : Fin 256, (A1 (ix2 (⟨2048 * b.val + c.val, by omega⟩ : Fin 32768) (⟨256 * h.val + e.val, by omega⟩ : Fin 2048)) : EReal)
      * A0 (ix2 (⟨2048 * b.val + r.val, by omega⟩ : Fin 32768) (⟨256 * h.val + e.val, by omega⟩ : Fin 2048)) := by
  unfold scores
  pointwise [dot_S16x2048x8x256_S16x2048x8x256_S16x8x2048x2048_3_3_1_1_02_02]
  refine Finset.sum_congr rfl fun e _ => ?_
  rw [mul_comm]
  simp only [Nat.mul_comm]

theorem masked_at (A0 A1 : Vec Ideal S32768x2048 .bf16) (b : Fin 16) (h : Fin 8) (r c : Fin 2048) :
    masked A0 A1 (ix4 b h r c) = if c.val / 64 ≤ r.val / 64 then (scores A0 A1 (ix4 b h r c) : EReal) else ⊥ := by
  unfold masked
  pointwise
  rw [chunk_at, chunk_at, Cert.Proof.Mla.sle_of ⟨c.val / 64, by omega⟩ ⟨r.val / 64, by omega⟩]
  dsimp only
  split <;> rfl

theorem pow_two (x : EReal) : Ideal.pow ((2 : ℝ) : EReal) x = Ideal.exp2 x := by
  induction x using EReal.rec with
  | bot => exact (Ideal.pow_coe_bot (r := 2)).trans (by norm_num)
  | coe x => rfl
  | top => exact (Ideal.pow_coe_top (r := 2)).trans (by norm_num)

theorem two_of : Ideal.ofBits .f32 0x40000000#32 = ((2 : ℝ) : EReal) := by
  simp [Ideal.ofBits, Ideal.ieee, -EReal.coe_mul]
  norm_num

theorem weights_at (M : FVec Ideal S16x8x2048x2048 .f32) (b : Fin 16) (h : Fin 8) (r c : Fin 2048) :
    weights M (ix4 b h r c) = Ideal.exp2 ((M (ix4 b h r c) : EReal) - Finset.univ.sup fun c' : Fin 2048 => (M (ix4 b h r c') : EReal)) := by
  unfold weights
  pointwise
  rw [two_of, pow_two]
  rfl

theorem probs_at (P : FVec Ideal S16x8x2048x2048 .f32) (b : Fin 16) (h : Fin 8) (r c : Fin 2048) :
    probs P (ix4 b h r c) = Ideal.div (P (ix4 b h r c)) (∑ c' : Fin 2048, (P (ix4 b h r c') : EReal)) := by
  unfold probs
  simp only [pointwise, Ideal.reduceAdd_def]
  rw [zero_add]
  rfl

theorem values_at (A2 : Vec Ideal S64x1024x512 .bf16) (b : Fin 16) (c : Fin 2048) (h : Fin 8) (d : Fin 128) :
    values A2 (ix4 b c h d) = A2 (ix3 (⟨4 * b.val + c.val / 512, by omega⟩ : Fin 64) (⟨128 * h.val + d.val, by omega⟩ : Fin 1024) (⟨c.val % 512, by omega⟩ : Fin 512)) := by
  unfold values
  pointwise
  simp only [Nat.mul_comm]

theorem mixed_at (W : FVec Ideal S16x2048x8x128 .f32) (Q : FVec Ideal S16x8x2048x2048 .f32) (b : Fin 16) (r : Fin 2048) (h : Fin 8) (d : Fin 128) :
    mixed W Q (ix2 (⟨2048 * b.val + r.val, by omega⟩ : Fin 32768) (⟨128 * h.val + d.val, by omega⟩ : Fin 1024))
      = ∑ c : Fin 2048, (W (ix4 b c h d) : EReal) * Q (ix4 b h r c) := by
  unfold mixed
  pointwise [dot_S16x2048x8x128_S16x8x2048x2048_S16x8x128x2048_1_3_3_2_02_01]

/-- A query's score of a key, -/
def refRow (A0 A1 : Vec Ideal S32768x2048 .bf16) (b : Fin 16) (h : Fin 8) (r c : Fin 2048) : EReal :=
  if c.val / 64 ≤ r.val / 64 then
    ∑ e : Fin 256, (A1 (ix2 (⟨2048 * b.val + c.val, by omega⟩ : Fin 32768) (⟨256 * h.val + e.val, by omega⟩ : Fin 2048)) : EReal)
      * A0 (ix2 (⟨2048 * b.val + r.val, by omega⟩ : Fin 32768) (⟨256 * h.val + e.val, by omega⟩ : Fin 2048))
  else ⊥

/-- and a column of values. -/
def refCol (A2 : Vec Ideal S64x1024x512 .bf16) (b : Fin 16) (h : Fin 8) (d : Fin 128) (c : Fin 2048) : EReal :=
  A2 (ix3 (⟨4 * b.val + c.val / 512, by omega⟩ : Fin 64) (⟨128 * h.val + d.val, by omega⟩ : Fin 1024) (⟨c.val % 512, by omega⟩ : Fin 512))

/-- The result at a query, a head and a dimension. -/
theorem ref_at (A0 A1 : Vec Ideal S32768x2048 .bf16) (A2 : Vec Ideal S64x1024x512 .bf16) (b : Fin 16) (r : Fin 2048) (h : Fin 8) (d : Fin 128) :
    (mixed (values A2) (probs (weights (masked A0 A1))) (ix2 (⟨2048 * b.val + r.val, by omega⟩ : Fin 32768) (⟨128 * h.val + d.val, by omega⟩ : Fin 1024)) : EReal)
      = Cert.Proof.Mla.soft (refRow A0 A1 b h r) (refCol A2 b h d) := by
  have e : ∀ c, (masked A0 A1 (ix4 b h r c) : EReal) = refRow A0 A1 b h r c := fun c => by rw [masked_at, scores_at]; rfl
  rw [mixed_at]
  refine Finset.sum_congr rfl fun c _ => ?_
  rw [values_at, probs_at]
  simp only [weights_at, e]
  rfl

end Cert.Reference5Ideal.Mla

end
-- ==== Proof.Mla.Windows.lean ====
module

public import proofs.«01_k».proof.Proof.Mla.Frame
public import proofs.«01_k».proof.Proof.Mla.RefRows
public import Idealize.ShloMosaic.Lib.Pipeline.ValueKit

@[expose] public section

/-! Where a point's blocks lie in the arrays: point `t` is tile `t % 4` of sequence `t / 4`. -/

set_option maxRecDepth 16384

noncomputable section

namespace Cert.Proof.Mla

open Cert.Kernel5Ideal Cert.Kernel5Ideal.Gen
open Idealize.ShloMosaic

theorem tlt (t : Fin cfg0.N) : t.val < 64 := t.isLt

theorem idx0 : ∀ t : Fin cfg0.N, win0_0.index t 0 = t.val ∧ win0_0.index t 1 = 0 := (by decide +kernel : ∀ t : Fin grid0.N, _)
theorem idx1 : ∀ t : Fin cfg0.N, win0_1.index t 0 = t.val / 4 ∧ win0_1.index t 1 = 0 := (by decide +kernel : ∀ t : Fin grid0.N, _)
theorem idx2 : ∀ t : Fin cfg0.N, win0_2.index t 0 = t.val / 4 ∧ win0_2.index t 1 = 0 ∧ win0_2.index t 2 = 0 := (by decide +kernel : ∀ t : Fin grid0.N, _)
theorem idx3 : ∀ t : Fin cfg0.N, win0_3.index t 0 = t.val ∧ win0_3.index t 1 = 0 := (by decide +kernel : ∀ t : Fin grid0.N, _)
theorem tile_of : ∀ t : Fin cfg0.N, (grid0.coords t 1).val = t.val % 4 := (by decide +kernel : ∀ t : Fin grid0.N, (grid0.coords t 1).val = t.val % 4)

variable (m : (ℓ : Loc nD τ sig) → Buf (Elt Ideal) ℓ) (c : Dev nD) (t : Fin cfg0.N)

theorem blk_q (r : Fin 512) (e : Fin 2048) :
    (iblk m c 0 t : S512x2048.Idx → EReal) (ix2 r e) = (m (c.tc.loc main_arg0) : S32768x2048.Idx → EReal) (ix2 ⟨t.val * 512 + r.val, by have := tlt t; omega⟩ e) := by
  obtain ⟨e0, e1⟩ := idx0 t
  blk_ext [iblk, V, e0, e1]

theorem blk_k (r : Fin 2048) (e : Fin 2048) :
    (iblk m c 1 t : S2048x2048.Idx → EReal) (ix2 r e) = (m (c.tc.loc main_arg1) : S32768x2048.Idx → EReal) (ix2 ⟨t.val / 4 * 2048 + r.val, by have := tlt t; omega⟩ e) := by
  obtain ⟨e0, e1⟩ := idx1 t
  blk_ext [iblk, V, e0, e1]

theorem blk_v (n : Fin 4) (d : Fin 1024) (e : Fin 512) :
    (iblk m c 2 t : S4x1024x512.Idx → EReal) (ix3 n d e) = (m (c.tc.loc main_arg2) : S64x1024x512.Idx → EReal) (ix3 ⟨t.val / 4 * 4 + n.val, by have := tlt t; omega⟩ d e) := by
  obtain ⟨e0, e1, e2⟩ := idx2 t
  blk_ext [iblk, V, e0, e1, e2]

end Cert.Proof.Mla

end
-- ==== Proof.Mla.Finite.lean ====
module

public import proofs.«01_k».proof.Pre_finite5
public import Idealize.ShloMosaic.Lib.ReduceAll
public import Idealize.ShloMosaic.Lib.Pointwise

@[expose] public section

/-! The precondition: every query's and every key's element is a number. -/

noncomputable section

namespace Cert.Pre_finite5

open Idealize.ShloMosaic

instance facts : Facts where
  bitsLt_bf16_f32 := by decide
  bcast_S_S32768x2048 := by decide
  reducesTo_S32768x2048_S_d0_1 := by decide
  h_S_ := by decide

theorem finite_of (x : EReal) (h : Ideal.cmp .olt (max x (-x)) ⊤ = 1#1) : x ≠ ⊤ ∧ x ≠ ⊥ := by
  have h1 : max x (-x) < ⊤ := by
    by_contra hn
    rw [Ideal.cmp_olt, decide_eq_false hn] at h
    exact absurd h (by decide)
  refine ⟨fun e => ?_, fun e => ?_⟩ <;> simp [e] at h1

theorem finite (A0 A1 : FVec Ideal S32768x2048 .bf16) (A2 : FVec Ideal S64x1024x512 .bf16) (h : fn (F := Ideal) A0 A1 A2 = fun _ => 1#1) :
    (∀ y, (A0 y : EReal) ≠ ⊤ ∧ (A0 y : EReal) ≠ ⊥) ∧ ∀ y, (A1 y : EReal) ≠ ⊤ ∧ (A1 y : EReal) ≠ ⊥ := by
  have h0 := congrFun h ix0
  unfold fn at h0
  obtain ⟨a, b⟩ := IntOp.andi_eq_one.mp h0
  refine ⟨fun y => finite_of _ ?_, fun y => finite_of _ ?_⟩
  · have := Host.reduce_andi_all _ _ _ _ _ a y
    exact this
  · have := Host.reduce_andi_all _ _ _ _ _ b y
    exact this

end Cert.Pre_finite5

end
-- ==== Proof.Mla.Value.lean ====
module

public import proofs.«01_k».proof.Defs
public import proofs.«01_k».proof.Proof.Mla.Windows
public import proofs.«01_k».proof.Proof.Mla.Finite

@[expose] public section

/-! The attention call's result is the plain softmax attention. -/

set_option maxRecDepth 16384

noncomputable section

namespace Cert.Proof.Mla

open Cert.Kernel5Ideal Cert.Kernel5Ideal.Gen
open Idealize.ShloMosaic Idealize.ShloMosaic.TcCoe
open Idealize.SL Idealize.SL.Sem
open Cert.Reference5Ideal.Mla (refRow refCol ref_at)

variable (A0 A1 : S32768x2048.Idx → EReal) (A2 : S64x1024x512.Idx → EReal)

/-- The result, by row and column. -/
def attn (i : S32768x1024.Idx) : EReal :=
  soft (refRow A0 A1 ⟨(i 0).val / 2048, by have h : (i 0).val < 32768 := (i 0).isLt; omega⟩ ⟨(i 1).val / 128, by have h : (i 1).val < 1024 := (i 1).isLt; omega⟩ ⟨(i 0).val % 2048, by omega⟩)
    (refCol A2 ⟨(i 0).val / 2048, by have h : (i 0).val < 32768 := (i 0).isLt; omega⟩ ⟨(i 1).val / 128, by have h : (i 1).val < 1024 := (i 1).isLt; omega⟩ ⟨(i 1).val % 128, by omega⟩)

theorem attn_at (b : Fin 16) (r : Fin 2048) (h : Fin 8) (d : Fin 128) (i : S32768x1024.Idx) (h0 : (i 0).val = 2048 * b.val + r.val) (h1 : (i 1).val = 128 * h.val + d.val) :
    attn A0 A1 A2 i = soft (refRow A0 A1 b h r) (refCol A2 b h d) := by
  have e0 : ∀ p, (⟨(i 0).val / 2048, p⟩ : Fin 16) = b := fun p => Fin.ext (by show (i 0).val / 2048 = b.val; omega)
  have e1 : ∀ p, (⟨(i 1).val / 128, p⟩ : Fin 8) = h := fun p => Fin.ext (by show (i 1).val / 128 = h.val; omega)
  have e2 : ∀ p, (⟨(i 0).val % 2048, p⟩ : Fin 2048) = r := fun p => Fin.ext (by show (i 0).val % 2048 = r.val; omega)
  have e3 : ∀ p, (⟨(i 1).val % 128, p⟩ : Fin 128) = d := fun p => Fin.ext (by show (i 1).val % 128 = d.val; omega)
  unfold attn
  rw [e0, e1, e2, e3]

section

variable (m : (ℓ : Loc nD τ sig) → Buf (Elt Ideal) ℓ) (c : Dev nD)

/-- Every query's and every key's element is a number. -/
def Real : Prop :=
  (∀ y : S32768x2048.Idx, (m (c.tc.loc main_arg0) y : EReal) ≠ (⊤ : EReal) ∧ (m (c.tc.loc main_arg0) y : EReal) ≠ (⊥ : EReal))
    ∧ ∀ y : S32768x2048.Idx, (m (c.tc.loc main_arg1) y : EReal) ≠ (⊤ : EReal) ∧ (m (c.tc.loc main_arg1) y : EReal) ≠ (⊥ : EReal)

variable {m c} (hr : Real m c)

theorem ix2_eta {a b : ℕ} (y : Shape.Idx ⟨2, ![a, b]⟩) : y = ix2 (y 0) (y 1) := by
  funext k; match k with | ⟨0, _⟩ => rfl | ⟨1, _⟩ => rfl

theorem row_same (t : Fin cfg0.N) (h : Fin 8) (r : Fin 512) (b : Fin 16) (hb : b.val = t.val / 4) (s : Fin 2048) (hs : s.val = 512 * (t.val % 4) + r.val) :
    rowOf (grid0.coords t) (iblk m c 0 t) (iblk m c 1 t) h r = refRow (m (c.tc.loc main_arg0)) (m (c.tc.loc main_arg1)) b h s := by
  funext x
  unfold rowOf refRow scoreOf
  rw [tile_of t, ← hs]
  refine if_congr Iff.rfl (Finset.sum_congr rfl fun e _ => ?_) rfl
  have h1 := blk_k m c t x (⟨256 * h.val + e.val, by omega⟩ : Fin 2048)
  have h2 := blk_q m c t r (⟨256 * h.val + e.val, by omega⟩ : Fin 2048)
  refine (congrArg₂ (fun a b : EReal => a * b) h1 h2).trans ?_
  have e1 : ∀ p, (⟨t.val / 4 * 2048 + x.val, p⟩ : Fin 32768) = ⟨2048 * b.val + x.val, by omega⟩ := fun p => Fin.ext (by show t.val / 4 * 2048 + x.val = 2048 * b.val + x.val; omega)
  have e2 : ∀ p, (⟨t.val * 512 + r.val, p⟩ : Fin 32768) = ⟨2048 * b.val + s.val, by omega⟩ := fun p => Fin.ext (by show t.val * 512 + r.val = 2048 * b.val + s.val; omega)
  rw [e1, e2]

theorem col_same (t : Fin cfg0.N) (h : Fin 8) (d : Fin 128) (b : Fin 16) (hb : b.val = t.val / 4) :
    colOf (iblk m c 2 t) h d = refCol (m (c.tc.loc main_arg2)) b h d := by
  funext x
  unfold colOf refCol
  refine (blk_v m c t _ _ _).trans ?_
  have e1 : ∀ p, (⟨t.val / 4 * 4 + x.val / 512, p⟩ : Fin 64) = ⟨4 * b.val + x.val / 512, by omega⟩ := fun p => Fin.ext (by show t.val / 4 * 4 + x.val / 512 = 4 * b.val + x.val / 512; omega)
  dsimp only
  rw [e1]

include hr in
theorem written (t : Fin cfg0.N) (r : Fin 512) (h : Fin 8) (d : Fin 128) (i : S32768x1024.Idx) (h0 : (i 0).val = t.val * 512 + r.val) (h1 : (i 1).val = 128 * h.val + d.val) :
    (outAt m c t (ix2 r (⟨128 * h.val + d.val, by omega⟩ : Fin 1024)) : EReal) = attn (m (c.tc.loc main_arg0)) (m (c.tc.loc main_arg1)) (m (c.tc.loc main_arg2)) i := by
  have ht := tlt t
  let b : Fin 16 := ⟨t.val / 4, by omega⟩
  let s : Fin 2048 := ⟨512 * (t.val % 4) + r.val, by omega⟩
  rw [attn_at _ _ _ b s h d i (by show _ = 2048 * (t.val / 4) + (512 * (t.val % 4) + r.val); omega) h1]
  rw [← row_same t h r b rfl s rfl, ← col_same t h d b rfl]
  unfold outAt
  refine block_at _ _ _ _ h r (fun y => ?_) (fun y => ?_) d
  · rw [ix2_eta y]
    have e := blk_q m c t (y 0) (y 1)
    exact ⟨fun q => (hr.1 _).1 (e.symm.trans q), fun q => (hr.1 _).2 (e.symm.trans q)⟩
  · rw [ix2_eta y]
    have e := blk_k m c t (y 0) (y 1)
    exact ⟨fun q => (hr.2 _).1 (e.symm.trans q), fun q => (hr.2 _).2 (e.symm.trans q)⟩

include hr in
theorem final : ((dats m 0 c).arrAt 3 cfg0.N : S32768x1024.Idx → EReal)
    = attn (m (c.tc.loc main_arg0)) (m (c.tc.loc main_arg1)) (m (c.tc.loc main_arg2)) := by
  refine (dats m 0 c).arrAt_eq_of_covers 3 _ (by decide +kernel) fun t hf y => ?_
  obtain ⟨e0, e1⟩ := idx3 t
  have ht := tlt t
  have hy0 : ((y : S512x1024.Idx) 0).val < 512 := ((y : S512x1024.Idx) 0).isLt
  have hy1 : ((y : S512x1024.Idx) 1).val < 1024 := ((y : S512x1024.Idx) 1).isLt
  have E : (((cfg0.win 3).blk t).view.emb y : S32768x1024.Idx) = ix2 ⟨t.val * 512 + ((y : S512x1024.Idx) 0).val, by omega⟩ ((y : S512x1024.Idx) 1) := by
    blk_ext [e0, e1]
  refine (show _ = _ from congrFun (after_o m c t) y).trans ?_
  refine Eq.trans ?_ (congrArg (attn (m (c.tc.loc main_arg0)) (m (c.tc.loc main_arg1)) (m (c.tc.loc main_arg2))) E).symm
  let h : Fin 8 := ⟨((y : S512x1024.Idx) 1).val / 128, by omega⟩
  let d : Fin 128 := ⟨((y : S512x1024.Idx) 1).val % 128, by omega⟩
  have hd : 128 * h.val + d.val = ((y : S512x1024.Idx) 1).val := by
    show 128 * (((y : S512x1024.Idx) 1).val / 128) + ((y : S512x1024.Idx) 1).val % 128 = _; omega
  have hy : (y : S512x1024.Idx) = ix2 ((y : S512x1024.Idx) 0) (⟨128 * h.val + d.val, by omega⟩ : Fin 1024) := by
    refine (ix2_eta (y : S512x1024.Idx)).trans ?_
    exact congrArg (ix2 ((y : S512x1024.Idx) 0)) (Fin.ext hd.symm)
  exact (congrArg (outAt m c t) hy).trans (written hr t ((y : S512x1024.Idx) 0) h d _ rfl hd.symm)

end

/-- The attention call and its reference leave the same array, at the ideal values. -/
theorem algebraic : Cert.algebraic_Kernel5Ideal_Reference5Ideal_pre_finite5 := by
  intro m ρ m' ρ' hpre hagree
  have hr : ∀ c, Real m c := fun c => Cert.Pre_finite5.finite _ _ _ (hpre c)
  refine ⟨fun c => attn (m (c.tc.loc main_arg0)) (m (c.tc.loc main_arg1)) (m (c.tc.loc main_arg2)), ?_, ?_⟩
  · refine (θ_run Cert.Kernel5Ideal.defs _ _).mono (fun r hh c => ?_) (θ_run_and (ends m ρ) (kept m ρ))
    exact ⟨((hh.1 c).1 3).trans (final (hr c)), hh.2 c⟩
  · refine (θ_run Cert.Reference5Ideal.defs _ _).mono (fun _ hh c => ?_) (Cert.Reference5Ideal.Value.run m' ρ')
    obtain ⟨r0, rest⟩ := hh c
    refine ⟨r0.trans ?_, rest⟩
    obtain ⟨h0, h1, h2⟩ := hagree c
    rw [Cert.Reference5Ideal.Mla.res_eq, h0, h1, h2]
    funext i
    have hi0 : (i 0).val < 32768 := (i 0).isLt
    have hi1 : (i 1).val < 1024 := (i 1).isLt
    have hi : i = ix2 (⟨2048 * ((i 0).val / 2048) + (i 0).val % 2048, by omega⟩ : Fin 32768) (⟨128 * ((i 1).val / 128) + (i 1).val % 128, by omega⟩ : Fin 1024) := by
      funext a
      match a with
      | ⟨0, _⟩ => exact Fin.ext (by show (i 0).val = 2048 * ((i 0).val / 2048) + (i 0).val % 2048; omega)
      | ⟨1, _⟩ => exact Fin.ext (by show (i 1).val = 128 * ((i 1).val / 128) + (i 1).val % 128; omega)
    exact (congrArg _ hi).trans (ref_at _ _ _ ⟨(i 0).val / 2048, by omega⟩ ⟨(i 0).val % 2048, by omega⟩ ⟨(i 1).val / 128, by omega⟩ ⟨(i 1).val % 128, by omega⟩)

end Cert.Proof.Mla

end
-- ==== Proof.lean ====
/-
  The claims, proved: the frame of the sparse attention call, and the claims of the merge, the input projection, the experts and the compressed attention.
-/
module

public import proofs.«01_k».proof.Defs
public import proofs.«01_k».proof.Proof.Gen.Kernel
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.InProj.Value
public import proofs.«01_k».proof.Proof.Experts.Value
public import proofs.«01_k».proof.Proof.Experts.Bits.Tables
public import proofs.«01_k».proof.Proof.Dsa.Frame
public import proofs.«01_k».proof.Proof.Merge.Value
public import proofs.«01_k».proof.Proof.Mla.Value
public import proofs.«01_k».proof.Proof.Mla.Bits.Frame
public import Idealize.ShloMosaic.Adequacy
public import Idealize.ShloMosaic.Init
public import Idealize.ShloMosaic.Lib.Quiescent

@[expose] public section

open Idealize.ShloMosaic

theorem Cert.Proof.claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite5.facts,
    fun m ρ _ => Cert.Kernel.Dsa.frame m ρ,
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2.2.2, sem_eq_zero_of_no_sems (by decide) r.2⟩)
      (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2, sem_eq_zero_of_no_sems (by decide) r.2⟩)
      (Cert.Reference3Ideal.Value.run m ρ),
    fun m ρ _ => Cert.Kernel4.Experts.args_kept m ρ,
    fun m ρ _ => Cert.Kernel4Ideal.Experts.args_kept m ρ,
    fun m ρ _ => (θ_run Cert.Reference4Ideal.defs _ _).mono
      (fun r h => ⟨fun c => (h c).2, sem_eq_zero_of_no_sems (by decide) r.2⟩)
      (Cert.Reference4Ideal.Value.run m ρ),
    fun m ρ _ => Cert.Proof.Mla.Bits.framed m ρ,
    fun m ρ _ => Cert.Proof.Mla.framed m ρ,
    fun m ρ _ => Cert.Proof.Mla.framed m ρ,
    fun m ρ _ => (θ_run Cert.Reference5Ideal.defs _ _).mono
      (fun r h => ⟨fun c => (h c).2, sem_eq_zero_of_no_sems (by decide) r.2⟩)
      (Cert.Reference5Ideal.Value.run m ρ),
    fun m ρ _ => (θ_run Cert.Reference5Ideal.defs _ _).mono
      (fun r h => ⟨fun c => (h c).2, sem_eq_zero_of_no_sems (by decide) r.2⟩)
      (Cert.Reference5Ideal.Value.run m ρ),
    trivial,
    Cert.Merge.algebraic,
    trivial,
    Cert.InProj.algebraic,
    trivial,
    Cert.Kernel4Ideal.Experts.algebraic,
    IdealRules.named_const.statement _ _ _ _ _ rfl,
    Cert.Proof.Mla.algebraic⟩
